-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x384 : Shape := ⟨2, ![1024, 384]⟩
abbrev S512x384 : Shape := ⟨2, ![512, 384]⟩
abbrev S256x384 : Shape := ⟨2, ![256, 384]⟩
abbrev S128x384 : Shape := ⟨2, ![128, 384]⟩
abbrev S64x384 : Shape := ⟨2, ![64, 384]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S1024x256 : Shape := ⟨2, ![1024, 256]⟩
abbrev S512x256 : Shape := ⟨2, ![512, 256]⟩
abbrev S256x256 : Shape := ⟨2, ![256, 256]⟩
abbrev S128x256 : Shape := ⟨2, ![128, 256]⟩
abbrev S64x256 : Shape := ⟨2, ![64, 256]⟩
abbrev S6x5 : Shape := ⟨2, ![6, 5]⟩
abbrev S_ : Shape := ⟨0, ![]⟩
abbrev S1024x1024 : Shape := ⟨2, ![1024, 1024]⟩
abbrev S1x1 : Shape := ⟨2, ![1, 1]⟩

abbrev nBuf : Space → Nat
  | .hbm => 3
  | .vmem => 33
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S1024x384, .bf16⟩
  | .local _ .vmem, ⟨4, _⟩ => ⟨S512x384, .bf16⟩
  | .local _ .vmem, ⟨5, _⟩ => ⟨S256x384, .bf16⟩
  | .local _ .vmem, ⟨6, _⟩ => ⟨S128x384, .bf16⟩
  | .local _ .vmem, ⟨7, _⟩ => ⟨S64x384, .bf16⟩
  | .local _ .vmem, ⟨8, _⟩ => ⟨S1024x128, .bf16⟩
  | .local _ .vmem, ⟨9, _⟩ => ⟨S512x128, .bf16⟩
  | .local _ .vmem, ⟨10, _⟩ => ⟨S256x128, .bf16⟩
  | .local _ .vmem, ⟨11, _⟩ => ⟨S128x128, .bf16⟩
  | .local _ .vmem, ⟨12, _⟩ => ⟨S64x128, .bf16⟩
  | .local _ .vmem, ⟨13, _⟩ => ⟨S1024x512, .bf16⟩
  | .local _ .vmem, ⟨14, _⟩ => ⟨S512x512, .bf16⟩
  | .local _ .vmem, ⟨15, _⟩ => ⟨S256x512, .bf16⟩
  | .local _ .vmem, ⟨16, _⟩ => ⟨S128x512, .bf16⟩
  | .local _ .vmem, ⟨17, _⟩ => ⟨S64x512, .bf16⟩
  | .local _ .vmem, ⟨18, _⟩ => ⟨S1024x256, .bf16⟩
  | .local _ .vmem, ⟨19, _⟩ => ⟨S512x256, .bf16⟩
  | .local _ .vmem, ⟨20, _⟩ => ⟨S256x256, .bf16⟩
  | .local _ .vmem, ⟨21, _⟩ => ⟨S128x256, .bf16⟩
  | .local _ .vmem, ⟨22, _⟩ => ⟨S64x256, .bf16⟩
  | .local _ .vmem, ⟨23, _⟩ => ⟨S1024x512, .bf16⟩
  | .local _ .vmem, ⟨24, _⟩ => ⟨S512x512, .bf16⟩
  | .local _ .vmem, ⟨25, _⟩ => ⟨S256x512, .bf16⟩
  | .local _ .vmem, ⟨26, _⟩ => ⟨S128x512, .bf16⟩
  | .local _ .vmem, ⟨27, _⟩ => ⟨S64x512, .bf16⟩
  | .local _ .vmem, ⟨28, _⟩ => ⟨S1024x256, .bf16⟩
  | .local _ .vmem, ⟨29, _⟩ => ⟨S512x256, .bf16⟩
  | .local _ .vmem, ⟨30, _⟩ => ⟨S256x256, .bf16⟩
  | .local _ .vmem, ⟨31, _⟩ => ⟨S128x256, .bf16⟩
  | .local _ .vmem, ⟨32, _⟩ => ⟨S64x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_37 : BitVec 32 := 1#32
  let v80 : BitVec 32 := Scalar.xori v2 c1_i32_37
  let c1_i32_83 : BitVec 32 := 1#32
  let v154 : BitVec 32 := Scalar.muli v80 c1_i32_83
  let v155 : BitVec 32 := Scalar.addi c0_i32_84 v154
  v155.toNat
def k0_dev2 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_48 : BitVec 32 := 8#32
  let v97 : BitVec 32 := Scalar.muli v19 c8_i32_48
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_38 : BitVec 32 := 1#32
  let v81 : BitVec 32 := Scalar.xori v46 c1_i32_38
  let v82 : BitVec 32 := Scalar.muli c2_i32_39 v81
  let c2_i32_40 : BitVec 32 := 2#32
  let c0_i32_41 : BitVec 32 := 0#32
  let v83 : BitVec 1 := Scalar.cmpi .eq c2_i32_40 c0_i32_41
  let c1_i32_42 : BitVec 32 := 1#32
  let v84 : BitVec 32 := Scalar.select v83 c1_i32_42 c2_i32_40
  let v85 : BitVec 32 := Scalar.remsi v81 v84
  let c0_i32_44 : BitVec 32 := 0#32
  let v87 : BitVec 1 := Scalar.cmpi .slt v85 c0_i32_44
  let c0_i32_45 : BitVec 32 := 0#32
  let v88 : BitVec 1 := Scalar.cmpi .slt v84 c0_i32_45
  let v89 : BitVec 1 := Scalar.xori v87 v88
  let c0_i32_43 : BitVec 32 := 0#32
  let v86 : BitVec 1 := Scalar.cmpi .ne v85 c0_i32_43
  let v90 : BitVec 1 := Scalar.andi v89 v86
  let v91 : BitVec 32 := Scalar.addi v85 v84
  let v92 : BitVec 32 := Scalar.select v90 v91 v85
  let c0_i32_46 : BitVec 32 := 0#32
  let v93 : BitVec 1 := Scalar.cmpi .eq v92 c0_i32_46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_47 : BitVec 32 := 1#32
  let v94 : BitVec 32 := Scalar.subi c1_i32_47 v79
  let v95 : BitVec 32 := Scalar.select v93 v79 v94
  let v96 : BitVec 32 := Scalar.addi v82 v95
  let v98 : BitVec 32 := Scalar.addi v97 v96
  let c1_i32_86 : BitVec 32 := 1#32
  let v156 : BitVec 32 := Scalar.muli v98 c1_i32_86
  let v157 : BitVec 32 := Scalar.addi c0_i32_87 v156
  v157.toNat
def k0_dev3 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_59 : BitVec 32 := 8#32
  let v115 : BitVec 32 := Scalar.muli v19 c8_i32_59
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_49 : BitVec 32 := 2#32
  let v99 : BitVec 32 := Scalar.xori v46 c2_i32_49
  let v100 : BitVec 32 := Scalar.muli c2_i32_50 v99
  let c2_i32_51 : BitVec 32 := 2#32
  let c0_i32_52 : BitVec 32 := 0#32
  let v101 : BitVec 1 := Scalar.cmpi .eq c2_i32_51 c0_i32_52
  let c1_i32_53 : BitVec 32 := 1#32
  let v102 : BitVec 32 := Scalar.select v101 c1_i32_53 c2_i32_51
  let v103 : BitVec 32 := Scalar.remsi v99 v102
  let c0_i32_55 : BitVec 32 := 0#32
  let v105 : BitVec 1 := Scalar.cmpi .slt v103 c0_i32_55
  let c0_i32_56 : BitVec 32 := 0#32
  let v106 : BitVec 1 := Scalar.cmpi .slt v102 c0_i32_56
  let v107 : BitVec 1 := Scalar.xori v105 v106
  let c0_i32_54 : BitVec 32 := 0#32
  let v104 : BitVec 1 := Scalar.cmpi .ne v103 c0_i32_54
  let v108 : BitVec 1 := Scalar.andi v107 v104
  let v109 : BitVec 32 := Scalar.addi v103 v102
  let v110 : BitVec 32 := Scalar.select v108 v109 v103
  let c0_i32_57 : BitVec 32 := 0#32
  let v111 : BitVec 1 := Scalar.cmpi .eq v110 c0_i32_57
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_58 : BitVec 32 := 1#32
  let v112 : BitVec 32 := Scalar.subi c1_i32_58 v79
  let v113 : BitVec 32 := Scalar.select v111 v79 v112
  let v114 : BitVec 32 := Scalar.addi v100 v113
  let v116 : BitVec 32 := Scalar.addi v115 v114
  let c1_i32_89 : BitVec 32 := 1#32
  let v158 : BitVec 32 := Scalar.muli v116 c1_i32_89
  let v159 : BitVec 32 := Scalar.addi c0_i32_90 v158
  v159.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_60 : BitVec 32 := 1#32
  let v117 : BitVec 32 := Scalar.xori v19 c1_i32_60
  let c8_i32_70 : BitVec 32 := 8#32
  let v133 : BitVec 32 := Scalar.muli v117 c8_i32_70
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.muli c2_i32_61 v46
  let c2_i32_62 : BitVec 32 := 2#32
  let c0_i32_63 : BitVec 32 := 0#32
  let v119 : BitVec 1 := Scalar.cmpi .eq c2_i32_62 c0_i32_63
  let c1_i32_64 : BitVec 32 := 1#32
  let v120 : BitVec 32 := Scalar.select v119 c1_i32_64 c2_i32_62
  let v121 : BitVec 32 := Scalar.remsi v46 v120
  let c0_i32_66 : BitVec 32 := 0#32
  let v123 : BitVec 1 := Scalar.cmpi .slt v121 c0_i32_66
  let c0_i32_67 : BitVec 32 := 0#32
  let v124 : BitVec 1 := Scalar.cmpi .slt v120 c0_i32_67
  let v125 : BitVec 1 := Scalar.xori v123 v124
  let c0_i32_65 : BitVec 32 := 0#32
  let v122 : BitVec 1 := Scalar.cmpi .ne v121 c0_i32_65
  let v126 : BitVec 1 := Scalar.andi v125 v122
  let v127 : BitVec 32 := Scalar.addi v121 v120
  let v128 : BitVec 32 := Scalar.select v126 v127 v121
  let c0_i32_68 : BitVec 32 := 0#32
  let v129 : BitVec 1 := Scalar.cmpi .eq v128 c0_i32_68
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_69 : BitVec 32 := 1#32
  let v130 : BitVec 32 := Scalar.subi c1_i32_69 v79
  let v131 : BitVec 32 := Scalar.select v129 v79 v130
  let v132 : BitVec 32 := Scalar.addi v118 v131
  let v134 : BitVec 32 := Scalar.addi v133 v132
  let c1_i32_92 : BitVec 32 := 1#32
  let v160 : BitVec 32 := Scalar.muli v134 c1_i32_92
  let v161 : BitVec 32 := Scalar.addi c0_i32_93 v160
  v161.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_71 : BitVec 32 := 2#32
  let v135 : BitVec 32 := Scalar.xori v19 c2_i32_71
  let c8_i32_81 : BitVec 32 := 8#32
  let v151 : BitVec 32 := Scalar.muli v135 c8_i32_81
  let c2_i32_72 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v136 : BitVec 32 := Scalar.muli c2_i32_72 v46
  let c2_i32_73 : BitVec 32 := 2#32
  let c0_i32_74 : BitVec 32 := 0#32
  let v137 : BitVec 1 := Scalar.cmpi .eq c2_i32_73 c0_i32_74
  let c1_i32_75 : BitVec 32 := 1#32
  let v138 : BitVec 32 := Scalar.select v137 c1_i32_75 c2_i32_73
  let v139 : BitVec 32 := Scalar.remsi v46 v138
  let c0_i32_77 : BitVec 32 := 0#32
  let v141 : BitVec 1 := Scalar.cmpi .slt v139 c0_i32_77
  let c0_i32_78 : BitVec 32 := 0#32
  let v142 : BitVec 1 := Scalar.cmpi .slt v138 c0_i32_78
  let v143 : BitVec 1 := Scalar.xori v141 v142
  let c0_i32_76 : BitVec 32 := 0#32
  let v140 : BitVec 1 := Scalar.cmpi .ne v139 c0_i32_76
  let v144 : BitVec 1 := Scalar.andi v143 v140
  let v145 : BitVec 32 := Scalar.addi v139 v138
  let v146 : BitVec 32 := Scalar.select v144 v145 v139
  let c0_i32_79 : BitVec 32 := 0#32
  let v147 : BitVec 1 := Scalar.cmpi .eq v146 c0_i32_79
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_80 : BitVec 32 := 1#32
  let v148 : BitVec 32 := Scalar.subi c1_i32_80 v79
  let v149 : BitVec 32 := Scalar.select v147 v79 v148
  let v150 : BitVec 32 := Scalar.addi v136 v149
  let v152 : BitVec 32 := Scalar.addi v151 v150
  let c1_i32_95 : BitVec 32 := 1#32
  let v162 : BitVec 32 := Scalar.muli v152 c1_i32_95
  let v163 : BitVec 32 := Scalar.addi c0_i32_96 v162
  v163.toNat
def k0_off1 (d0 : Dev nD) (c0_i32_97 : BitVec 32) : Fin 2 → Nat :=
  let c1_i32_99 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v164 : BitVec 32 := Scalar.shrsi v46 c0_i32_97
  let c1_i32_98 : BitVec 32 := 1#32
  let v165 : BitVec 32 := Scalar.andi v164 c1_i32_98
  let v166 : BitVec 32 := Scalar.subi c1_i32_99 v165
  let c1024_i32 : BitVec 32 := 1024#32
  let v167 : BitVec 32 := Scalar.muli v166 c1024_i32
  let v168 : Index := Scalar.indexCast v167
  let c0 : Index := 0#32
  ![v168.toNat, 0]
def k0_off2 (d0 : Dev nD) : Fin 2 → Nat :=
  let c1_i32_99 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_97 : BitVec 32 := 0#32
  let v164 : BitVec 32 := Scalar.shrsi v46 c0_i32_97
  let c1_i32_98 : BitVec 32 := 1#32
  let v165 : BitVec 32 := Scalar.andi v164 c1_i32_98
  let v166 : BitVec 32 := Scalar.subi c1_i32_99 v165
  let c1024_i32 : BitVec 32 := 1024#32
  let v167 : BitVec 32 := Scalar.muli v166 c1024_i32
  let v175 : Index := Scalar.indexCast v167
  let c512_101 : Index := 512#32
  ![v175.toNat, 512]
def k0_off3 (d0 : Dev nD) : Fin 2 → Nat :=
  let c0_i32_106 : BitVec 32 := 0#32
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_102 : BitVec 32 := 0#32
  let v177 : BitVec 32 := Scalar.shrsi v46 c0_i32_102
  let c1_i32_103 : BitVec 32 := 1#32
  let v178 : BitVec 32 := Scalar.andi v177 c1_i32_103
  let v179 : BitVec 32 := Scalar.subi c1_i32_104 v178
  let c1024_i32_105 : BitVec 32 := 1024#32
  let v180 : BitVec 32 := Scalar.muli v179 c1024_i32_105
  let v181 : BitVec 32 := Scalar.addi c0_i32_106 v180
  let c512_i32 : BitVec 32 := 512#32
  ![v181.toNat, 512]
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_117 : BitVec 32 := 8#32
  let v198 : BitVec 32 := Scalar.muli v19 c8_i32_117
  let c2_i32_108 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_107 : BitVec 32 := 1#32
  let v182 : BitVec 32 := Scalar.xori v46 c1_i32_107
  let v183 : BitVec 32 := Scalar.muli c2_i32_108 v182
  let c2_i32_109 : BitVec 32 := 2#32
  let c0_i32_110 : BitVec 32 := 0#32
  let v184 : BitVec 1 := Scalar.cmpi .eq c2_i32_109 c0_i32_110
  let c1_i32_111 : BitVec 32 := 1#32
  let v185 : BitVec 32 := Scalar.select v184 c1_i32_111 c2_i32_109
  let v186 : BitVec 32 := Scalar.remsi v182 v185
  let c0_i32_113 : BitVec 32 := 0#32
  let v188 : BitVec 1 := Scalar.cmpi .slt v186 c0_i32_113
  let c0_i32_114 : BitVec 32 := 0#32
  let v189 : BitVec 1 := Scalar.cmpi .slt v185 c0_i32_114
  let v190 : BitVec 1 := Scalar.xori v188 v189
  let c0_i32_112 : BitVec 32 := 0#32
  let v187 : BitVec 1 := Scalar.cmpi .ne v186 c0_i32_112
  let v191 : BitVec 1 := Scalar.andi v190 v187
  let v192 : BitVec 32 := Scalar.addi v186 v185
  let v193 : BitVec 32 := Scalar.select v191 v192 v186
  let c0_i32_115 : BitVec 32 := 0#32
  let v194 : BitVec 1 := Scalar.cmpi .eq v193 c0_i32_115
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_116 : BitVec 32 := 1#32
  let v195 : BitVec 32 := Scalar.subi c1_i32_116 v79
  let v196 : BitVec 32 := Scalar.select v194 v79 v195
  let v197 : BitVec 32 := Scalar.addi v183 v196
  let v199 : BitVec 32 := Scalar.addi v198 v197
  let c1_i32_122 : BitVec 32 := 1#32
  let v200 : BitVec 32 := Scalar.muli v199 c1_i32_122
  let v201 : BitVec 32 := Scalar.addi c0_i32_123 v200
  v201.toNat
def k0_off4 (d0 : Dev nD) : Fin 2 → Nat :=
  let c1_i32_127 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_125 : BitVec 32 := 1#32
  let v208 : BitVec 32 := Scalar.shrsi v46 c1_i32_125
  let c1_i32_126 : BitVec 32 := 1#32
  let v209 : BitVec 32 := Scalar.andi v208 c1_i32_126
  let v210 : BitVec 32 := Scalar.subi c1_i32_127 v209
  let c1024_i32_128 : BitVec 32 := 1024#32
  let v211 : BitVec 32 := Scalar.muli v210 c1024_i32_128
  let v219 : Index := Scalar.indexCast v211
  let c1024_132 : Index := 1024#32
  ![v219.toNat, 1024]
def k0_off5 (d0 : Dev nD) : Fin 2 → Nat :=
  let c0_i32_137 : BitVec 32 := 0#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_133 : BitVec 32 := 1#32
  let v221 : BitVec 32 := Scalar.shrsi v46 c1_i32_133
  let c1_i32_134 : BitVec 32 := 1#32
  let v222 : BitVec 32 := Scalar.andi v221 c1_i32_134
  let v223 : BitVec 32 := Scalar.subi c1_i32_135 v222
  let c1024_i32_136 : BitVec 32 := 1024#32
  let v224 : BitVec 32 := Scalar.muli v223 c1024_i32_136
  let v225 : BitVec 32 := Scalar.addi c0_i32_137 v224
  let c1024_i32_154 : BitVec 32 := 1024#32
  ![v225.toNat, 1024]
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_148 : BitVec 32 := 8#32
  let v242 : BitVec 32 := Scalar.muli v19 c8_i32_148
  let c2_i32_139 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_138 : BitVec 32 := 2#32
  let v226 : BitVec 32 := Scalar.xori v46 c2_i32_138
  let v227 : BitVec 32 := Scalar.muli c2_i32_139 v226
  let c2_i32_140 : BitVec 32 := 2#32
  let c0_i32_141 : BitVec 32 := 0#32
  let v228 : BitVec 1 := Scalar.cmpi .eq c2_i32_140 c0_i32_141
  let c1_i32_142 : BitVec 32 := 1#32
  let v229 : BitVec 32 := Scalar.select v228 c1_i32_142 c2_i32_140
  let v230 : BitVec 32 := Scalar.remsi v226 v229
  let c0_i32_144 : BitVec 32 := 0#32
  let v232 : BitVec 1 := Scalar.cmpi .slt v230 c0_i32_144
  let c0_i32_145 : BitVec 32 := 0#32
  let v233 : BitVec 1 := Scalar.cmpi .slt v229 c0_i32_145
  let v234 : BitVec 1 := Scalar.xori v232 v233
  let c0_i32_143 : BitVec 32 := 0#32
  let v231 : BitVec 1 := Scalar.cmpi .ne v230 c0_i32_143
  let v235 : BitVec 1 := Scalar.andi v234 v231
  let v236 : BitVec 32 := Scalar.addi v230 v229
  let v237 : BitVec 32 := Scalar.select v235 v236 v230
  let c0_i32_146 : BitVec 32 := 0#32
  let v238 : BitVec 1 := Scalar.cmpi .eq v237 c0_i32_146
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_147 : BitVec 32 := 1#32
  let v239 : BitVec 32 := Scalar.subi c1_i32_147 v79
  let v240 : BitVec 32 := Scalar.select v238 v79 v239
  let v241 : BitVec 32 := Scalar.addi v227 v240
  let v243 : BitVec 32 := Scalar.addi v242 v241
  let c1_i32_152 : BitVec 32 := 1#32
  let v244 : BitVec 32 := Scalar.muli v243 c1_i32_152
  let v245 : BitVec 32 := Scalar.addi c0_i32_153 v244
  v245.toNat
def k0_off6 (d0 : Dev nD) (c0_i32_156 : BitVec 32) : Fin 2 → Nat :=
  let c1_i32_158 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v252 : BitVec 32 := Scalar.shrsi v19 c0_i32_156
  let c1_i32_157 : BitVec 32 := 1#32
  let v253 : BitVec 32 := Scalar.andi v252 c1_i32_157
  let v254 : BitVec 32 := Scalar.subi c1_i32_158 v253
  let c1024_i32_159 : BitVec 32 := 1024#32
  let v255 : BitVec 32 := Scalar.muli v254 c1024_i32_159
  let v256 : Index := Scalar.indexCast v255
  let c0_160 : Index := 0#32
  ![v256.toNat, 0]
def k0_off7 (d0 : Dev nD) : Fin 2 → Nat :=
  let c1_i32_158 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_156 : BitVec 32 := 0#32
  let v252 : BitVec 32 := Scalar.shrsi v19 c0_i32_156
  let c1_i32_157 : BitVec 32 := 1#32
  let v253 : BitVec 32 := Scalar.andi v252 c1_i32_157
  let v254 : BitVec 32 := Scalar.subi c1_i32_158 v253
  let c1024_i32_159 : BitVec 32 := 1024#32
  let v255 : BitVec 32 := Scalar.muli v254 c1024_i32_159
  let v263 : Index := Scalar.indexCast v255
  let c1280_163 : Index := 1280#32
  ![v263.toNat, 1280]
def k0_off8 (d0 : Dev nD) : Fin 2 → Nat :=
  let c0_i32_168 : BitVec 32 := 0#32
  let c1_i32_166 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_164 : BitVec 32 := 0#32
  let v265 : BitVec 32 := Scalar.shrsi v19 c0_i32_164
  let c1_i32_165 : BitVec 32 := 1#32
  let v266 : BitVec 32 := Scalar.andi v265 c1_i32_165
  let v267 : BitVec 32 := Scalar.subi c1_i32_166 v266
  let c1024_i32_167 : BitVec 32 := 1024#32
  let v268 : BitVec 32 := Scalar.muli v267 c1024_i32_167
  let v269 : BitVec 32 := Scalar.addi c0_i32_168 v268
  let c1280_i32 : BitVec 32 := 1280#32
  ![v269.toNat, 1280]
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_169 : BitVec 32 := 1#32
  let v270 : BitVec 32 := Scalar.xori v19 c1_i32_169
  let c8_i32_179 : BitVec 32 := 8#32
  let v286 : BitVec 32 := Scalar.muli v270 c8_i32_179
  let c2_i32_170 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v271 : BitVec 32 := Scalar.muli c2_i32_170 v46
  let c2_i32_171 : BitVec 32 := 2#32
  let c0_i32_172 : BitVec 32 := 0#32
  let v272 : BitVec 1 := Scalar.cmpi .eq c2_i32_171 c0_i32_172
  let c1_i32_173 : BitVec 32 := 1#32
  let v273 : BitVec 32 := Scalar.select v272 c1_i32_173 c2_i32_171
  let v274 : BitVec 32 := Scalar.remsi v46 v273
  let c0_i32_175 : BitVec 32 := 0#32
  let v276 : BitVec 1 := Scalar.cmpi .slt v274 c0_i32_175
  let c0_i32_176 : BitVec 32 := 0#32
  let v277 : BitVec 1 := Scalar.cmpi .slt v273 c0_i32_176
  let v278 : BitVec 1 := Scalar.xori v276 v277
  let c0_i32_174 : BitVec 32 := 0#32
  let v275 : BitVec 1 := Scalar.cmpi .ne v274 c0_i32_174
  let v279 : BitVec 1 := Scalar.andi v278 v275
  let v280 : BitVec 32 := Scalar.addi v274 v273
  let v281 : BitVec 32 := Scalar.select v279 v280 v274
  let c0_i32_177 : BitVec 32 := 0#32
  let v282 : BitVec 1 := Scalar.cmpi .eq v281 c0_i32_177
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_178 : BitVec 32 := 1#32
  let v283 : BitVec 32 := Scalar.subi c1_i32_178 v79
  let v284 : BitVec 32 := Scalar.select v282 v79 v283
  let v285 : BitVec 32 := Scalar.addi v271 v284
  let v287 : BitVec 32 := Scalar.addi v286 v285
  let c1_i32_183 : BitVec 32 := 1#32
  let v288 : BitVec 32 := Scalar.muli v287 c1_i32_183
  let v289 : BitVec 32 := Scalar.addi c0_i32_184 v288
  v289.toNat
def k0_off9 (d0 : Dev nD) : Fin 2 → Nat :=
  let c1_i32_188 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_186 : BitVec 32 := 1#32
  let v296 : BitVec 32 := Scalar.shrsi v19 c1_i32_186
  let c1_i32_187 : BitVec 32 := 1#32
  let v297 : BitVec 32 := Scalar.andi v296 c1_i32_187
  let v298 : BitVec 32 := Scalar.subi c1_i32_188 v297
  let c1024_i32_189 : BitVec 32 := 1024#32
  let v299 : BitVec 32 := Scalar.muli v298 c1024_i32_189
  let v307 : Index := Scalar.indexCast v299
  let c1792_193 : Index := 1792#32
  ![v307.toNat, 1792]
def k0_off10 (d0 : Dev nD) : Fin 2 → Nat :=
  let c0_i32_198 : BitVec 32 := 0#32
  let c1_i32_196 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_194 : BitVec 32 := 1#32
  let v309 : BitVec 32 := Scalar.shrsi v19 c1_i32_194
  let c1_i32_195 : BitVec 32 := 1#32
  let v310 : BitVec 32 := Scalar.andi v309 c1_i32_195
  let v311 : BitVec 32 := Scalar.subi c1_i32_196 v310
  let c1024_i32_197 : BitVec 32 := 1024#32
  let v312 : BitVec 32 := Scalar.muli v311 c1024_i32_197
  let v313 : BitVec 32 := Scalar.addi c0_i32_198 v312
  let c1792_i32 : BitVec 32 := 1792#32
  ![v313.toNat, 1792]
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_199 : BitVec 32 := 2#32
  let v314 : BitVec 32 := Scalar.xori v19 c2_i32_199
  let c8_i32_209 : BitVec 32 := 8#32
  let v330 : BitVec 32 := Scalar.muli v314 c8_i32_209
  let c2_i32_200 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v315 : BitVec 32 := Scalar.muli c2_i32_200 v46
  let c2_i32_201 : BitVec 32 := 2#32
  let c0_i32_202 : BitVec 32 := 0#32
  let v316 : BitVec 1 := Scalar.cmpi .eq c2_i32_201 c0_i32_202
  let c1_i32_203 : BitVec 32 := 1#32
  let v317 : BitVec 32 := Scalar.select v316 c1_i32_203 c2_i32_201
  let v318 : BitVec 32 := Scalar.remsi v46 v317
  let c0_i32_205 : BitVec 32 := 0#32
  let v320 : BitVec 1 := Scalar.cmpi .slt v318 c0_i32_205
  let c0_i32_206 : BitVec 32 := 0#32
  let v321 : BitVec 1 := Scalar.cmpi .slt v317 c0_i32_206
  let v322 : BitVec 1 := Scalar.xori v320 v321
  let c0_i32_204 : BitVec 32 := 0#32
  let v319 : BitVec 1 := Scalar.cmpi .ne v318 c0_i32_204
  let v323 : BitVec 1 := Scalar.andi v322 v319
  let v324 : BitVec 32 := Scalar.addi v318 v317
  let v325 : BitVec 32 := Scalar.select v323 v324 v318
  let c0_i32_207 : BitVec 32 := 0#32
  let v326 : BitVec 1 := Scalar.cmpi .eq v325 c0_i32_207
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_208 : BitVec 32 := 1#32
  let v327 : BitVec 32 := Scalar.subi c1_i32_208 v79
  let v328 : BitVec 32 := Scalar.select v326 v79 v327
  let v329 : BitVec 32 := Scalar.addi v315 v328
  let v331 : BitVec 32 := Scalar.addi v330 v329
  let c1_i32_214 : BitVec 32 := 1#32
  let v332 : BitVec 32 := Scalar.muli v331 c1_i32_214
  let v333 : BitVec 32 := Scalar.addi c0_i32_215 v332
  v333.toNat
def k0_off11 (d0 : Dev nD) : Fin 2 → Nat :=
  let c1_i32_217 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v340 : BitVec 32 := Scalar.subi c1_i32_217 v79
  let c1024_i32_218 : BitVec 32 := 1024#32
  let v341 : BitVec 32 := Scalar.muli v340 c1024_i32_218
  let v342 : Index := Scalar.indexCast v341
  let c0_219 : Index := 0#32
  ![v342.toNat, 0]
def k0_off12 (d0 : Dev nD) : Fin 2 → Nat :=
  let c1_i32_217 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v340 : BitVec 32 := Scalar.subi c1_i32_217 v79
  let c1024_i32_218 : BitVec 32 := 1024#32
  let v341 : BitVec 32 := Scalar.muli v340 c1024_i32_218
  let v349 : Index := Scalar.indexCast v341
  let c0_223 : Index := 0#32
  ![v349.toNat, 0]
def k0_off13 (d0 : Dev nD) : Fin 2 → Nat :=
  let c0_i32_226 : BitVec 32 := 0#32
  let c1_i32_224 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v351 : BitVec 32 := Scalar.subi c1_i32_224 v79
  let c1024_i32_225 : BitVec 32 := 1024#32
  let v352 : BitVec 32 := Scalar.muli v351 c1024_i32_225
  let v353 : BitVec 32 := Scalar.addi c0_i32_226 v352
  let c0_i32_234 : BitVec 32 := 0#32
  ![v353.toNat, 0]
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_227 : BitVec 32 := 1#32
  let v354 : BitVec 32 := Scalar.xori v2 c1_i32_227
  let c1_i32_232 : BitVec 32 := 1#32
  let v355 : BitVec 32 := Scalar.muli v354 c1_i32_232
  let v356 : BitVec 32 := Scalar.addi c0_i32_233 v355
  v356.toNat
def k0_off14 (d0 : Dev nD) : Fin 2 → Nat :=
  let c1_i32_236 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v363 : BitVec 32 := Scalar.subi c1_i32_236 v79
  let c1024_i32_237 : BitVec 32 := 1024#32
  let v364 : BitVec 32 := Scalar.muli v363 c1024_i32_237
  let v372 : Index := Scalar.indexCast v364
  let c384_241 : Index := 384#32
  ![v372.toNat, 384]
def k0_off15 (d0 : Dev nD) : Fin 2 → Nat :=
  let c0_i32_244 : BitVec 32 := 0#32
  let c1_i32_242 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v374 : BitVec 32 := Scalar.subi c1_i32_242 v79
  let c1024_i32_243 : BitVec 32 := 1024#32
  let v375 : BitVec 32 := Scalar.muli v374 c1024_i32_243
  let v376 : BitVec 32 := Scalar.addi c0_i32_244 v375
  let c384_i32 : BitVec 32 := 384#32
  ![v376.toNat, 384]
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_245 : BitVec 32 := 1#32
  let v377 : BitVec 32 := Scalar.xori v2 c1_i32_245
  let c1_i32_250 : BitVec 32 := 1#32
  let v378 : BitVec 32 := Scalar.muli v377 c1_i32_250
  let v379 : BitVec 32 := Scalar.addi c0_i32_251 v378
  v379.toNat
def k0_off16 (d0 : Dev nD) (c0_i32_97 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v164 : BitVec 32 := Scalar.shrsi v46 c0_i32_97
  let c1_i32_98 : BitVec 32 := 1#32
  let v165 : BitVec 32 := Scalar.andi v164 c1_i32_98
  let c1024_i32_124 : BitVec 32 := 1024#32
  let v207 : BitVec 32 := Scalar.muli v165 c1024_i32_124
  let v386 : Index := Scalar.indexCast v207
  let c0_253 : Index := 0#32
  ![v386.toNat, 0]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_97 : BitVec 32 := 0#32
  let v164 : BitVec 32 := Scalar.shrsi v46 c0_i32_97
  let c1_i32_98 : BitVec 32 := 1#32
  let v165 : BitVec 32 := Scalar.andi v164 c1_i32_98
  let c1024_i32_124 : BitVec 32 := 1024#32
  let v207 : BitVec 32 := Scalar.muli v165 c1024_i32_124
  let v393 : Index := Scalar.indexCast v207
  let c512_257 : Index := 512#32
  ![v393.toNat, 512]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_125 : BitVec 32 := 1#32
  let v208 : BitVec 32 := Scalar.shrsi v46 c1_i32_125
  let c1_i32_126 : BitVec 32 := 1#32
  let v209 : BitVec 32 := Scalar.andi v208 c1_i32_126
  let c1024_i32_155 : BitVec 32 := 1024#32
  let v251 : BitVec 32 := Scalar.muli v209 c1024_i32_155
  let v402 : Index := Scalar.indexCast v251
  let c1024_262 : Index := 1024#32
  ![v402.toNat, 1024]
def k0_off19 (d0 : Dev nD) (c0_i32_156 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v252 : BitVec 32 := Scalar.shrsi v19 c0_i32_156
  let c1_i32_157 : BitVec 32 := 1#32
  let v253 : BitVec 32 := Scalar.andi v252 c1_i32_157
  let c1024_i32_185 : BitVec 32 := 1024#32
  let v295 : BitVec 32 := Scalar.muli v253 c1024_i32_185
  let v404 : Index := Scalar.indexCast v295
  let c0_263 : Index := 0#32
  ![v404.toNat, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_156 : BitVec 32 := 0#32
  let v252 : BitVec 32 := Scalar.shrsi v19 c0_i32_156
  let c1_i32_157 : BitVec 32 := 1#32
  let v253 : BitVec 32 := Scalar.andi v252 c1_i32_157
  let c1024_i32_185 : BitVec 32 := 1024#32
  let v295 : BitVec 32 := Scalar.muli v253 c1024_i32_185
  let v411 : Index := Scalar.indexCast v295
  let c1280_267 : Index := 1280#32
  ![v411.toNat, 1280]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_186 : BitVec 32 := 1#32
  let v296 : BitVec 32 := Scalar.shrsi v19 c1_i32_186
  let c1_i32_187 : BitVec 32 := 1#32
  let v297 : BitVec 32 := Scalar.andi v296 c1_i32_187
  let c1024_i32_216 : BitVec 32 := 1024#32
  let v339 : BitVec 32 := Scalar.muli v297 c1024_i32_216
  let v420 : Index := Scalar.indexCast v339
  let c1792_272 : Index := 1792#32
  ![v420.toNat, 1792]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_235 : BitVec 32 := 1024#32
  let v362 : BitVec 32 := Scalar.muli v79 c1024_i32_235
  let v422 : Index := Scalar.indexCast v362
  let c0_273 : Index := 0#32
  ![v422.toNat, 0]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_235 : BitVec 32 := 1024#32
  let v362 : BitVec 32 := Scalar.muli v79 c1024_i32_235
  let v429 : Index := Scalar.indexCast v362
  let c0_277 : Index := 0#32
  ![v429.toNat, 0]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_252 : BitVec 32 := 1024#32
  let v385 : BitVec 32 := Scalar.muli v79 c1024_i32_252
  let v438 : Index := Scalar.indexCast v385
  let c384_282 : Index := 384#32
  ![v438.toNat, 384]
def k0_off25 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let v452 : Index := Scalar.indexCast v443
  let c512_300 : Index := 512#32
  ![v452.toNat, 512]
def k0_off26 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_306 : BitVec 32 := 1#32
  let c1_i32_304 : BitVec 32 := 1#32
  let v459 : BitVec 32 := Scalar.shrsi v46 c1_i32_304
  let c1_i32_305 : BitVec 32 := 1#32
  let v460 : BitVec 32 := Scalar.andi v459 c1_i32_305
  let v461 : BitVec 32 := Scalar.subi c1_i32_306 v460
  let c512_i32_307 : BitVec 32 := 512#32
  let v462 : BitVec 32 := Scalar.muli v461 c512_i32_307
  let v463 : BitVec 32 := Scalar.addi v443 v462
  let c512_i32_325 : BitVec 32 := 512#32
  ![v463.toNat, 512]
def k0_dev12 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_318 : BitVec 32 := 8#32
  let v480 : BitVec 32 := Scalar.muli v19 c8_i32_318
  let c2_i32_309 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_308 : BitVec 32 := 2#32
  let v464 : BitVec 32 := Scalar.xori v46 c2_i32_308
  let v465 : BitVec 32 := Scalar.muli c2_i32_309 v464
  let c2_i32_310 : BitVec 32 := 2#32
  let c0_i32_311 : BitVec 32 := 0#32
  let v466 : BitVec 1 := Scalar.cmpi .eq c2_i32_310 c0_i32_311
  let c1_i32_312 : BitVec 32 := 1#32
  let v467 : BitVec 32 := Scalar.select v466 c1_i32_312 c2_i32_310
  let v468 : BitVec 32 := Scalar.remsi v464 v467
  let c0_i32_314 : BitVec 32 := 0#32
  let v470 : BitVec 1 := Scalar.cmpi .slt v468 c0_i32_314
  let c0_i32_315 : BitVec 32 := 0#32
  let v471 : BitVec 1 := Scalar.cmpi .slt v467 c0_i32_315
  let v472 : BitVec 1 := Scalar.xori v470 v471
  let c0_i32_313 : BitVec 32 := 0#32
  let v469 : BitVec 1 := Scalar.cmpi .ne v468 c0_i32_313
  let v473 : BitVec 1 := Scalar.andi v472 v469
  let v474 : BitVec 32 := Scalar.addi v468 v467
  let v475 : BitVec 32 := Scalar.select v473 v474 v468
  let c0_i32_316 : BitVec 32 := 0#32
  let v476 : BitVec 1 := Scalar.cmpi .eq v475 c0_i32_316
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_317 : BitVec 32 := 1#32
  let v477 : BitVec 32 := Scalar.subi c1_i32_317 v79
  let v478 : BitVec 32 := Scalar.select v476 v79 v477
  let v479 : BitVec 32 := Scalar.addi v465 v478
  let v481 : BitVec 32 := Scalar.addi v480 v479
  let c1_i32_323 : BitVec 32 := 1#32
  let v482 : BitVec 32 := Scalar.muli v481 c1_i32_323
  let v483 : BitVec 32 := Scalar.addi c0_i32_324 v482
  v483.toNat
def k0_off27 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let v501 : Index := Scalar.indexCast v492
  let c1024_343 : Index := 1024#32
  ![v501.toNat, 1024]
def k0_off28 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c1_i32_349 : BitVec 32 := 1#32
  let c0_i32_347 : BitVec 32 := 0#32
  let v508 : BitVec 32 := Scalar.shrsi v46 c0_i32_347
  let c1_i32_348 : BitVec 32 := 1#32
  let v509 : BitVec 32 := Scalar.andi v508 c1_i32_348
  let v510 : BitVec 32 := Scalar.subi c1_i32_349 v509
  let c512_i32_350 : BitVec 32 := 512#32
  let v511 : BitVec 32 := Scalar.muli v510 c512_i32_350
  let v512 : BitVec 32 := Scalar.addi v492 v511
  let c1024_i32_368 : BitVec 32 := 1024#32
  ![v512.toNat, 1024]
def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_361 : BitVec 32 := 8#32
  let v529 : BitVec 32 := Scalar.muli v19 c8_i32_361
  let c2_i32_352 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_351 : BitVec 32 := 1#32
  let v513 : BitVec 32 := Scalar.xori v46 c1_i32_351
  let v514 : BitVec 32 := Scalar.muli c2_i32_352 v513
  let c2_i32_353 : BitVec 32 := 2#32
  let c0_i32_354 : BitVec 32 := 0#32
  let v515 : BitVec 1 := Scalar.cmpi .eq c2_i32_353 c0_i32_354
  let c1_i32_355 : BitVec 32 := 1#32
  let v516 : BitVec 32 := Scalar.select v515 c1_i32_355 c2_i32_353
  let v517 : BitVec 32 := Scalar.remsi v513 v516
  let c0_i32_357 : BitVec 32 := 0#32
  let v519 : BitVec 1 := Scalar.cmpi .slt v517 c0_i32_357
  let c0_i32_358 : BitVec 32 := 0#32
  let v520 : BitVec 1 := Scalar.cmpi .slt v516 c0_i32_358
  let v521 : BitVec 1 := Scalar.xori v519 v520
  let c0_i32_356 : BitVec 32 := 0#32
  let v518 : BitVec 1 := Scalar.cmpi .ne v517 c0_i32_356
  let v522 : BitVec 1 := Scalar.andi v521 v518
  let v523 : BitVec 32 := Scalar.addi v517 v516
  let v524 : BitVec 32 := Scalar.select v522 v523 v517
  let c0_i32_359 : BitVec 32 := 0#32
  let v525 : BitVec 1 := Scalar.cmpi .eq v524 c0_i32_359
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_360 : BitVec 32 := 1#32
  let v526 : BitVec 32 := Scalar.subi c1_i32_360 v79
  let v527 : BitVec 32 := Scalar.select v525 v79 v526
  let v528 : BitVec 32 := Scalar.addi v514 v527
  let v530 : BitVec 32 := Scalar.addi v529 v528
  let c1_i32_366 : BitVec 32 := 1#32
  let v531 : BitVec 32 := Scalar.muli v530 c1_i32_366
  let v532 : BitVec 32 := Scalar.addi c0_i32_367 v531
  v532.toNat
def k0_off29 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let v550 : Index := Scalar.indexCast v541
  let c1280_386 : Index := 1280#32
  ![v550.toNat, 1280]
def k0_off30 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_392 : BitVec 32 := 1#32
  let c1_i32_390 : BitVec 32 := 1#32
  let v557 : BitVec 32 := Scalar.shrsi v19 c1_i32_390
  let c1_i32_391 : BitVec 32 := 1#32
  let v558 : BitVec 32 := Scalar.andi v557 c1_i32_391
  let v559 : BitVec 32 := Scalar.subi c1_i32_392 v558
  let c512_i32_393 : BitVec 32 := 512#32
  let v560 : BitVec 32 := Scalar.muli v559 c512_i32_393
  let v561 : BitVec 32 := Scalar.addi v541 v560
  let c1280_i32_411 : BitVec 32 := 1280#32
  ![v561.toNat, 1280]
def k0_dev14 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_394 : BitVec 32 := 2#32
  let v562 : BitVec 32 := Scalar.xori v19 c2_i32_394
  let c8_i32_404 : BitVec 32 := 8#32
  let v578 : BitVec 32 := Scalar.muli v562 c8_i32_404
  let c2_i32_395 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v563 : BitVec 32 := Scalar.muli c2_i32_395 v46
  let c2_i32_396 : BitVec 32 := 2#32
  let c0_i32_397 : BitVec 32 := 0#32
  let v564 : BitVec 1 := Scalar.cmpi .eq c2_i32_396 c0_i32_397
  let c1_i32_398 : BitVec 32 := 1#32
  let v565 : BitVec 32 := Scalar.select v564 c1_i32_398 c2_i32_396
  let v566 : BitVec 32 := Scalar.remsi v46 v565
  let c0_i32_400 : BitVec 32 := 0#32
  let v568 : BitVec 1 := Scalar.cmpi .slt v566 c0_i32_400
  let c0_i32_401 : BitVec 32 := 0#32
  let v569 : BitVec 1 := Scalar.cmpi .slt v565 c0_i32_401
  let v570 : BitVec 1 := Scalar.xori v568 v569
  let c0_i32_399 : BitVec 32 := 0#32
  let v567 : BitVec 1 := Scalar.cmpi .ne v566 c0_i32_399
  let v571 : BitVec 1 := Scalar.andi v570 v567
  let v572 : BitVec 32 := Scalar.addi v566 v565
  let v573 : BitVec 32 := Scalar.select v571 v572 v566
  let c0_i32_402 : BitVec 32 := 0#32
  let v574 : BitVec 1 := Scalar.cmpi .eq v573 c0_i32_402
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_403 : BitVec 32 := 1#32
  let v575 : BitVec 32 := Scalar.subi c1_i32_403 v79
  let v576 : BitVec 32 := Scalar.select v574 v79 v575
  let v577 : BitVec 32 := Scalar.addi v563 v576
  let v579 : BitVec 32 := Scalar.addi v578 v577
  let c1_i32_409 : BitVec 32 := 1#32
  let v580 : BitVec 32 := Scalar.muli v579 c1_i32_409
  let v581 : BitVec 32 := Scalar.addi c0_i32_410 v580
  v581.toNat
def k0_off31 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let v599 : Index := Scalar.indexCast v590
  let c1792_429 : Index := 1792#32
  ![v599.toNat, 1792]
def k0_off32 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c1_i32_435 : BitVec 32 := 1#32
  let c0_i32_433 : BitVec 32 := 0#32
  let v606 : BitVec 32 := Scalar.shrsi v19 c0_i32_433
  let c1_i32_434 : BitVec 32 := 1#32
  let v607 : BitVec 32 := Scalar.andi v606 c1_i32_434
  let v608 : BitVec 32 := Scalar.subi c1_i32_435 v607
  let c512_i32_436 : BitVec 32 := 512#32
  let v609 : BitVec 32 := Scalar.muli v608 c512_i32_436
  let v610 : BitVec 32 := Scalar.addi v590 v609
  let c1792_i32_454 : BitVec 32 := 1792#32
  ![v610.toNat, 1792]
def k0_dev15 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_437 : BitVec 32 := 1#32
  let v611 : BitVec 32 := Scalar.xori v19 c1_i32_437
  let c8_i32_447 : BitVec 32 := 8#32
  let v627 : BitVec 32 := Scalar.muli v611 c8_i32_447
  let c2_i32_438 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v612 : BitVec 32 := Scalar.muli c2_i32_438 v46
  let c2_i32_439 : BitVec 32 := 2#32
  let c0_i32_440 : BitVec 32 := 0#32
  let v613 : BitVec 1 := Scalar.cmpi .eq c2_i32_439 c0_i32_440
  let c1_i32_441 : BitVec 32 := 1#32
  let v614 : BitVec 32 := Scalar.select v613 c1_i32_441 c2_i32_439
  let v615 : BitVec 32 := Scalar.remsi v46 v614
  let c0_i32_443 : BitVec 32 := 0#32
  let v617 : BitVec 1 := Scalar.cmpi .slt v615 c0_i32_443
  let c0_i32_444 : BitVec 32 := 0#32
  let v618 : BitVec 1 := Scalar.cmpi .slt v614 c0_i32_444
  let v619 : BitVec 1 := Scalar.xori v617 v618
  let c0_i32_442 : BitVec 32 := 0#32
  let v616 : BitVec 1 := Scalar.cmpi .ne v615 c0_i32_442
  let v620 : BitVec 1 := Scalar.andi v619 v616
  let v621 : BitVec 32 := Scalar.addi v615 v614
  let v622 : BitVec 32 := Scalar.select v620 v621 v615
  let c0_i32_445 : BitVec 32 := 0#32
  let v623 : BitVec 1 := Scalar.cmpi .eq v622 c0_i32_445
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_446 : BitVec 32 := 1#32
  let v624 : BitVec 32 := Scalar.subi c1_i32_446 v79
  let v625 : BitVec 32 := Scalar.select v623 v79 v624
  let v626 : BitVec 32 := Scalar.addi v612 v625
  let v628 : BitVec 32 := Scalar.addi v627 v626
  let c1_i32_452 : BitVec 32 := 1#32
  let v629 : BitVec 32 := Scalar.muli v628 c1_i32_452
  let v630 : BitVec 32 := Scalar.addi c0_i32_453 v629
  v630.toNat
def k0_off33 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let v646 : Index := Scalar.indexCast v637
  let c0_470 : Index := 0#32
  ![v646.toNat, 0]
def k0_off34 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c1_i32_476 : BitVec 32 := 1#32
  let c0_i32_474 : BitVec 32 := 0#32
  let v653 : BitVec 32 := Scalar.shrsi v46 c0_i32_474
  let c1_i32_475 : BitVec 32 := 1#32
  let v654 : BitVec 32 := Scalar.andi v653 c1_i32_475
  let v655 : BitVec 32 := Scalar.subi c1_i32_476 v654
  let c512_i32_477 : BitVec 32 := 512#32
  let v656 : BitVec 32 := Scalar.muli v655 c512_i32_477
  let v657 : BitVec 32 := Scalar.addi v637 v656
  let c0_i32_495 : BitVec 32 := 0#32
  ![v657.toNat, 0]
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_488 : BitVec 32 := 8#32
  let v674 : BitVec 32 := Scalar.muli v19 c8_i32_488
  let c2_i32_479 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_478 : BitVec 32 := 1#32
  let v658 : BitVec 32 := Scalar.xori v46 c1_i32_478
  let v659 : BitVec 32 := Scalar.muli c2_i32_479 v658
  let c2_i32_480 : BitVec 32 := 2#32
  let c0_i32_481 : BitVec 32 := 0#32
  let v660 : BitVec 1 := Scalar.cmpi .eq c2_i32_480 c0_i32_481
  let c1_i32_482 : BitVec 32 := 1#32
  let v661 : BitVec 32 := Scalar.select v660 c1_i32_482 c2_i32_480
  let v662 : BitVec 32 := Scalar.remsi v658 v661
  let c0_i32_484 : BitVec 32 := 0#32
  let v664 : BitVec 1 := Scalar.cmpi .slt v662 c0_i32_484
  let c0_i32_485 : BitVec 32 := 0#32
  let v665 : BitVec 1 := Scalar.cmpi .slt v661 c0_i32_485
  let v666 : BitVec 1 := Scalar.xori v664 v665
  let c0_i32_483 : BitVec 32 := 0#32
  let v663 : BitVec 1 := Scalar.cmpi .ne v662 c0_i32_483
  let v667 : BitVec 1 := Scalar.andi v666 v663
  let v668 : BitVec 32 := Scalar.addi v662 v661
  let v669 : BitVec 32 := Scalar.select v667 v668 v662
  let c0_i32_486 : BitVec 32 := 0#32
  let v670 : BitVec 1 := Scalar.cmpi .eq v669 c0_i32_486
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_487 : BitVec 32 := 1#32
  let v671 : BitVec 32 := Scalar.subi c1_i32_487 v79
  let v672 : BitVec 32 := Scalar.select v670 v79 v671
  let v673 : BitVec 32 := Scalar.addi v659 v672
  let v675 : BitVec 32 := Scalar.addi v674 v673
  let c1_i32_493 : BitVec 32 := 1#32
  let v676 : BitVec 32 := Scalar.muli v675 c1_i32_493
  let v677 : BitVec 32 := Scalar.addi c0_i32_494 v676
  v677.toNat
def k0_off35 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let v693 : Index := Scalar.indexCast v684
  let c384_511 : Index := 384#32
  ![v693.toNat, 384]
def k0_off36 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_517 : BitVec 32 := 1#32
  let c1_i32_515 : BitVec 32 := 1#32
  let v700 : BitVec 32 := Scalar.shrsi v46 c1_i32_515
  let c1_i32_516 : BitVec 32 := 1#32
  let v701 : BitVec 32 := Scalar.andi v700 c1_i32_516
  let v702 : BitVec 32 := Scalar.subi c1_i32_517 v701
  let c512_i32_518 : BitVec 32 := 512#32
  let v703 : BitVec 32 := Scalar.muli v702 c512_i32_518
  let v704 : BitVec 32 := Scalar.addi v684 v703
  let c384_i32_536 : BitVec 32 := 384#32
  ![v704.toNat, 384]
def k0_dev17 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_529 : BitVec 32 := 8#32
  let v721 : BitVec 32 := Scalar.muli v19 c8_i32_529
  let c2_i32_520 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_519 : BitVec 32 := 2#32
  let v705 : BitVec 32 := Scalar.xori v46 c2_i32_519
  let v706 : BitVec 32 := Scalar.muli c2_i32_520 v705
  let c2_i32_521 : BitVec 32 := 2#32
  let c0_i32_522 : BitVec 32 := 0#32
  let v707 : BitVec 1 := Scalar.cmpi .eq c2_i32_521 c0_i32_522
  let c1_i32_523 : BitVec 32 := 1#32
  let v708 : BitVec 32 := Scalar.select v707 c1_i32_523 c2_i32_521
  let v709 : BitVec 32 := Scalar.remsi v705 v708
  let c0_i32_525 : BitVec 32 := 0#32
  let v711 : BitVec 1 := Scalar.cmpi .slt v709 c0_i32_525
  let c0_i32_526 : BitVec 32 := 0#32
  let v712 : BitVec 1 := Scalar.cmpi .slt v708 c0_i32_526
  let v713 : BitVec 1 := Scalar.xori v711 v712
  let c0_i32_524 : BitVec 32 := 0#32
  let v710 : BitVec 1 := Scalar.cmpi .ne v709 c0_i32_524
  let v714 : BitVec 1 := Scalar.andi v713 v710
  let v715 : BitVec 32 := Scalar.addi v709 v708
  let v716 : BitVec 32 := Scalar.select v714 v715 v709
  let c0_i32_527 : BitVec 32 := 0#32
  let v717 : BitVec 1 := Scalar.cmpi .eq v716 c0_i32_527
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_528 : BitVec 32 := 1#32
  let v718 : BitVec 32 := Scalar.subi c1_i32_528 v79
  let v719 : BitVec 32 := Scalar.select v717 v79 v718
  let v720 : BitVec 32 := Scalar.addi v706 v719
  let v722 : BitVec 32 := Scalar.addi v721 v720
  let c1_i32_534 : BitVec 32 := 1#32
  let v723 : BitVec 32 := Scalar.muli v722 c1_i32_534
  let v724 : BitVec 32 := Scalar.addi c0_i32_535 v723
  v724.toNat
def k0_off37 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let v742 : Index := Scalar.indexCast v733
  let c512_553 : Index := 512#32
  ![v742.toNat, 512]
def k0_off38 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c1_i32_559 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_557 : BitVec 32 := 0#32
  let v749 : BitVec 32 := Scalar.shrsi v19 c0_i32_557
  let c1_i32_558 : BitVec 32 := 1#32
  let v750 : BitVec 32 := Scalar.andi v749 c1_i32_558
  let v751 : BitVec 32 := Scalar.subi c1_i32_559 v750
  let c256_i32 : BitVec 32 := 256#32
  let v752 : BitVec 32 := Scalar.muli v751 c256_i32
  let v753 : BitVec 32 := Scalar.addi v733 v752
  let c512_i32_577 : BitVec 32 := 512#32
  ![v753.toNat, 512]
def k0_dev18 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_560 : BitVec 32 := 1#32
  let v754 : BitVec 32 := Scalar.xori v19 c1_i32_560
  let c8_i32_570 : BitVec 32 := 8#32
  let v770 : BitVec 32 := Scalar.muli v754 c8_i32_570
  let c2_i32_561 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v755 : BitVec 32 := Scalar.muli c2_i32_561 v46
  let c2_i32_562 : BitVec 32 := 2#32
  let c0_i32_563 : BitVec 32 := 0#32
  let v756 : BitVec 1 := Scalar.cmpi .eq c2_i32_562 c0_i32_563
  let c1_i32_564 : BitVec 32 := 1#32
  let v757 : BitVec 32 := Scalar.select v756 c1_i32_564 c2_i32_562
  let v758 : BitVec 32 := Scalar.remsi v46 v757
  let c0_i32_566 : BitVec 32 := 0#32
  let v760 : BitVec 1 := Scalar.cmpi .slt v758 c0_i32_566
  let c0_i32_567 : BitVec 32 := 0#32
  let v761 : BitVec 1 := Scalar.cmpi .slt v757 c0_i32_567
  let v762 : BitVec 1 := Scalar.xori v760 v761
  let c0_i32_565 : BitVec 32 := 0#32
  let v759 : BitVec 1 := Scalar.cmpi .ne v758 c0_i32_565
  let v763 : BitVec 1 := Scalar.andi v762 v759
  let v764 : BitVec 32 := Scalar.addi v758 v757
  let v765 : BitVec 32 := Scalar.select v763 v764 v758
  let c0_i32_568 : BitVec 32 := 0#32
  let v766 : BitVec 1 := Scalar.cmpi .eq v765 c0_i32_568
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_569 : BitVec 32 := 1#32
  let v767 : BitVec 32 := Scalar.subi c1_i32_569 v79
  let v768 : BitVec 32 := Scalar.select v766 v79 v767
  let v769 : BitVec 32 := Scalar.addi v755 v768
  let v771 : BitVec 32 := Scalar.addi v770 v769
  let c1_i32_575 : BitVec 32 := 1#32
  let v772 : BitVec 32 := Scalar.muli v771 c1_i32_575
  let v773 : BitVec 32 := Scalar.addi c0_i32_576 v772
  v773.toNat
def k0_off39 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let v791 : Index := Scalar.indexCast v782
  let c1024_594 : Index := 1024#32
  ![v791.toNat, 1024]
def k0_off40 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c1_i32_600 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_598 : BitVec 32 := 1#32
  let v798 : BitVec 32 := Scalar.shrsi v19 c1_i32_598
  let c1_i32_599 : BitVec 32 := 1#32
  let v799 : BitVec 32 := Scalar.andi v798 c1_i32_599
  let v800 : BitVec 32 := Scalar.subi c1_i32_600 v799
  let c256_i32_601 : BitVec 32 := 256#32
  let v801 : BitVec 32 := Scalar.muli v800 c256_i32_601
  let v802 : BitVec 32 := Scalar.addi v782 v801
  let c1024_i32_619 : BitVec 32 := 1024#32
  ![v802.toNat, 1024]
def k0_dev19 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_602 : BitVec 32 := 2#32
  let v803 : BitVec 32 := Scalar.xori v19 c2_i32_602
  let c8_i32_612 : BitVec 32 := 8#32
  let v819 : BitVec 32 := Scalar.muli v803 c8_i32_612
  let c2_i32_603 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v804 : BitVec 32 := Scalar.muli c2_i32_603 v46
  let c2_i32_604 : BitVec 32 := 2#32
  let c0_i32_605 : BitVec 32 := 0#32
  let v805 : BitVec 1 := Scalar.cmpi .eq c2_i32_604 c0_i32_605
  let c1_i32_606 : BitVec 32 := 1#32
  let v806 : BitVec 32 := Scalar.select v805 c1_i32_606 c2_i32_604
  let v807 : BitVec 32 := Scalar.remsi v46 v806
  let c0_i32_608 : BitVec 32 := 0#32
  let v809 : BitVec 1 := Scalar.cmpi .slt v807 c0_i32_608
  let c0_i32_609 : BitVec 32 := 0#32
  let v810 : BitVec 1 := Scalar.cmpi .slt v806 c0_i32_609
  let v811 : BitVec 1 := Scalar.xori v809 v810
  let c0_i32_607 : BitVec 32 := 0#32
  let v808 : BitVec 1 := Scalar.cmpi .ne v807 c0_i32_607
  let v812 : BitVec 1 := Scalar.andi v811 v808
  let v813 : BitVec 32 := Scalar.addi v807 v806
  let v814 : BitVec 32 := Scalar.select v812 v813 v807
  let c0_i32_610 : BitVec 32 := 0#32
  let v815 : BitVec 1 := Scalar.cmpi .eq v814 c0_i32_610
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_611 : BitVec 32 := 1#32
  let v816 : BitVec 32 := Scalar.subi c1_i32_611 v79
  let v817 : BitVec 32 := Scalar.select v815 v79 v816
  let v818 : BitVec 32 := Scalar.addi v804 v817
  let v820 : BitVec 32 := Scalar.addi v819 v818
  let c1_i32_617 : BitVec 32 := 1#32
  let v821 : BitVec 32 := Scalar.muli v820 c1_i32_617
  let v822 : BitVec 32 := Scalar.addi c0_i32_618 v821
  v822.toNat
def k0_off41 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let v840 : Index := Scalar.indexCast v831
  let c1280_636 : Index := 1280#32
  ![v840.toNat, 1280]
def k0_off42 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c1_i32_640 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v847 : BitVec 32 := Scalar.subi c1_i32_640 v79
  let c256_i32_641 : BitVec 32 := 256#32
  let v848 : BitVec 32 := Scalar.muli v847 c256_i32_641
  let v849 : BitVec 32 := Scalar.addi v831 v848
  let c1280_i32_649 : BitVec 32 := 1280#32
  ![v849.toNat, 1280]
def k0_dev20 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_642 : BitVec 32 := 1#32
  let v850 : BitVec 32 := Scalar.xori v2 c1_i32_642
  let c1_i32_647 : BitVec 32 := 1#32
  let v851 : BitVec 32 := Scalar.muli v850 c1_i32_647
  let v852 : BitVec 32 := Scalar.addi c0_i32_648 v851
  v852.toNat
def k0_off43 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let v870 : Index := Scalar.indexCast v861
  let c1792_666 : Index := 1792#32
  ![v870.toNat, 1792]
def k0_off44 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c1_i32_670 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v877 : BitVec 32 := Scalar.subi c1_i32_670 v79
  let c256_i32_671 : BitVec 32 := 256#32
  let v878 : BitVec 32 := Scalar.muli v877 c256_i32_671
  let v879 : BitVec 32 := Scalar.addi v861 v878
  let c1792_i32_679 : BitVec 32 := 1792#32
  ![v879.toNat, 1792]
def k0_dev21 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_672 : BitVec 32 := 1#32
  let v880 : BitVec 32 := Scalar.xori v2 c1_i32_672
  let c1_i32_677 : BitVec 32 := 1#32
  let v881 : BitVec 32 := Scalar.muli v880 c1_i32_677
  let v882 : BitVec 32 := Scalar.addi c0_i32_678 v881
  v882.toNat
def k0_off45 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let v900 : Index := Scalar.indexCast v891
  let c0_696 : Index := 0#32
  ![v900.toNat, 0]
def k0_off46 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_702 : BitVec 32 := 1#32
  let c1_i32_700 : BitVec 32 := 1#32
  let v907 : BitVec 32 := Scalar.shrsi v46 c1_i32_700
  let c1_i32_701 : BitVec 32 := 1#32
  let v908 : BitVec 32 := Scalar.andi v907 c1_i32_701
  let v909 : BitVec 32 := Scalar.subi c1_i32_702 v908
  let c256_i32_703 : BitVec 32 := 256#32
  let v910 : BitVec 32 := Scalar.muli v909 c256_i32_703
  let v911 : BitVec 32 := Scalar.addi v891 v910
  let c0_i32_721 : BitVec 32 := 0#32
  ![v911.toNat, 0]
def k0_dev22 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_714 : BitVec 32 := 8#32
  let v928 : BitVec 32 := Scalar.muli v19 c8_i32_714
  let c2_i32_705 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_704 : BitVec 32 := 2#32
  let v912 : BitVec 32 := Scalar.xori v46 c2_i32_704
  let v913 : BitVec 32 := Scalar.muli c2_i32_705 v912
  let c2_i32_706 : BitVec 32 := 2#32
  let c0_i32_707 : BitVec 32 := 0#32
  let v914 : BitVec 1 := Scalar.cmpi .eq c2_i32_706 c0_i32_707
  let c1_i32_708 : BitVec 32 := 1#32
  let v915 : BitVec 32 := Scalar.select v914 c1_i32_708 c2_i32_706
  let v916 : BitVec 32 := Scalar.remsi v912 v915
  let c0_i32_710 : BitVec 32 := 0#32
  let v918 : BitVec 1 := Scalar.cmpi .slt v916 c0_i32_710
  let c0_i32_711 : BitVec 32 := 0#32
  let v919 : BitVec 1 := Scalar.cmpi .slt v915 c0_i32_711
  let v920 : BitVec 1 := Scalar.xori v918 v919
  let c0_i32_709 : BitVec 32 := 0#32
  let v917 : BitVec 1 := Scalar.cmpi .ne v916 c0_i32_709
  let v921 : BitVec 1 := Scalar.andi v920 v917
  let v922 : BitVec 32 := Scalar.addi v916 v915
  let v923 : BitVec 32 := Scalar.select v921 v922 v916
  let c0_i32_712 : BitVec 32 := 0#32
  let v924 : BitVec 1 := Scalar.cmpi .eq v923 c0_i32_712
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_713 : BitVec 32 := 1#32
  let v925 : BitVec 32 := Scalar.subi c1_i32_713 v79
  let v926 : BitVec 32 := Scalar.select v924 v79 v925
  let v927 : BitVec 32 := Scalar.addi v913 v926
  let v929 : BitVec 32 := Scalar.addi v928 v927
  let c1_i32_719 : BitVec 32 := 1#32
  let v930 : BitVec 32 := Scalar.muli v929 c1_i32_719
  let v931 : BitVec 32 := Scalar.addi c0_i32_720 v930
  v931.toNat
def k0_off47 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let v949 : Index := Scalar.indexCast v940
  let c384_738 : Index := 384#32
  ![v949.toNat, 384]
def k0_off48 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c1_i32_744 : BitVec 32 := 1#32
  let c0_i32_742 : BitVec 32 := 0#32
  let v956 : BitVec 32 := Scalar.shrsi v46 c0_i32_742
  let c1_i32_743 : BitVec 32 := 1#32
  let v957 : BitVec 32 := Scalar.andi v956 c1_i32_743
  let v958 : BitVec 32 := Scalar.subi c1_i32_744 v957
  let c256_i32_745 : BitVec 32 := 256#32
  let v959 : BitVec 32 := Scalar.muli v958 c256_i32_745
  let v960 : BitVec 32 := Scalar.addi v940 v959
  let c384_i32_763 : BitVec 32 := 384#32
  ![v960.toNat, 384]
def k0_dev23 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_756 : BitVec 32 := 8#32
  let v977 : BitVec 32 := Scalar.muli v19 c8_i32_756
  let c2_i32_747 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_746 : BitVec 32 := 1#32
  let v961 : BitVec 32 := Scalar.xori v46 c1_i32_746
  let v962 : BitVec 32 := Scalar.muli c2_i32_747 v961
  let c2_i32_748 : BitVec 32 := 2#32
  let c0_i32_749 : BitVec 32 := 0#32
  let v963 : BitVec 1 := Scalar.cmpi .eq c2_i32_748 c0_i32_749
  let c1_i32_750 : BitVec 32 := 1#32
  let v964 : BitVec 32 := Scalar.select v963 c1_i32_750 c2_i32_748
  let v965 : BitVec 32 := Scalar.remsi v961 v964
  let c0_i32_752 : BitVec 32 := 0#32
  let v967 : BitVec 1 := Scalar.cmpi .slt v965 c0_i32_752
  let c0_i32_753 : BitVec 32 := 0#32
  let v968 : BitVec 1 := Scalar.cmpi .slt v964 c0_i32_753
  let v969 : BitVec 1 := Scalar.xori v967 v968
  let c0_i32_751 : BitVec 32 := 0#32
  let v966 : BitVec 1 := Scalar.cmpi .ne v965 c0_i32_751
  let v970 : BitVec 1 := Scalar.andi v969 v966
  let v971 : BitVec 32 := Scalar.addi v965 v964
  let v972 : BitVec 32 := Scalar.select v970 v971 v965
  let c0_i32_754 : BitVec 32 := 0#32
  let v973 : BitVec 1 := Scalar.cmpi .eq v972 c0_i32_754
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_755 : BitVec 32 := 1#32
  let v974 : BitVec 32 := Scalar.subi c1_i32_755 v79
  let v975 : BitVec 32 := Scalar.select v973 v79 v974
  let v976 : BitVec 32 := Scalar.addi v962 v975
  let v978 : BitVec 32 := Scalar.addi v977 v976
  let c1_i32_761 : BitVec 32 := 1#32
  let v979 : BitVec 32 := Scalar.muli v978 c1_i32_761
  let v980 : BitVec 32 := Scalar.addi c0_i32_762 v979
  v980.toNat
def k0_off49 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let v998 : Index := Scalar.indexCast v989
  let c512_780 : Index := 512#32
  ![v998.toNat, 512]
def k0_off50 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_786 : BitVec 32 := 1#32
  let c1_i32_784 : BitVec 32 := 1#32
  let v1005 : BitVec 32 := Scalar.shrsi v19 c1_i32_784
  let c1_i32_785 : BitVec 32 := 1#32
  let v1006 : BitVec 32 := Scalar.andi v1005 c1_i32_785
  let v1007 : BitVec 32 := Scalar.subi c1_i32_786 v1006
  let c128_i32 : BitVec 32 := 128#32
  let v1008 : BitVec 32 := Scalar.muli v1007 c128_i32
  let v1009 : BitVec 32 := Scalar.addi v989 v1008
  let c512_i32_804 : BitVec 32 := 512#32
  ![v1009.toNat, 512]
def k0_dev24 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_787 : BitVec 32 := 2#32
  let v1010 : BitVec 32 := Scalar.xori v19 c2_i32_787
  let c8_i32_797 : BitVec 32 := 8#32
  let v1026 : BitVec 32 := Scalar.muli v1010 c8_i32_797
  let c2_i32_788 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1011 : BitVec 32 := Scalar.muli c2_i32_788 v46
  let c2_i32_789 : BitVec 32 := 2#32
  let c0_i32_790 : BitVec 32 := 0#32
  let v1012 : BitVec 1 := Scalar.cmpi .eq c2_i32_789 c0_i32_790
  let c1_i32_791 : BitVec 32 := 1#32
  let v1013 : BitVec 32 := Scalar.select v1012 c1_i32_791 c2_i32_789
  let v1014 : BitVec 32 := Scalar.remsi v46 v1013
  let c0_i32_793 : BitVec 32 := 0#32
  let v1016 : BitVec 1 := Scalar.cmpi .slt v1014 c0_i32_793
  let c0_i32_794 : BitVec 32 := 0#32
  let v1017 : BitVec 1 := Scalar.cmpi .slt v1013 c0_i32_794
  let v1018 : BitVec 1 := Scalar.xori v1016 v1017
  let c0_i32_792 : BitVec 32 := 0#32
  let v1015 : BitVec 1 := Scalar.cmpi .ne v1014 c0_i32_792
  let v1019 : BitVec 1 := Scalar.andi v1018 v1015
  let v1020 : BitVec 32 := Scalar.addi v1014 v1013
  let v1021 : BitVec 32 := Scalar.select v1019 v1020 v1014
  let c0_i32_795 : BitVec 32 := 0#32
  let v1022 : BitVec 1 := Scalar.cmpi .eq v1021 c0_i32_795
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_796 : BitVec 32 := 1#32
  let v1023 : BitVec 32 := Scalar.subi c1_i32_796 v79
  let v1024 : BitVec 32 := Scalar.select v1022 v79 v1023
  let v1025 : BitVec 32 := Scalar.addi v1011 v1024
  let v1027 : BitVec 32 := Scalar.addi v1026 v1025
  let c1_i32_802 : BitVec 32 := 1#32
  let v1028 : BitVec 32 := Scalar.muli v1027 c1_i32_802
  let v1029 : BitVec 32 := Scalar.addi c0_i32_803 v1028
  v1029.toNat
def k0_off51 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let v1047 : Index := Scalar.indexCast v1038
  let c1024_821 : Index := 1024#32
  ![v1047.toNat, 1024]
def k0_off52 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c1_i32_827 : BitVec 32 := 1#32
  let c0_i32_825 : BitVec 32 := 0#32
  let v1054 : BitVec 32 := Scalar.shrsi v19 c0_i32_825
  let c1_i32_826 : BitVec 32 := 1#32
  let v1055 : BitVec 32 := Scalar.andi v1054 c1_i32_826
  let v1056 : BitVec 32 := Scalar.subi c1_i32_827 v1055
  let c128_i32_828 : BitVec 32 := 128#32
  let v1057 : BitVec 32 := Scalar.muli v1056 c128_i32_828
  let v1058 : BitVec 32 := Scalar.addi v1038 v1057
  let c1024_i32_846 : BitVec 32 := 1024#32
  ![v1058.toNat, 1024]
def k0_dev25 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_829 : BitVec 32 := 1#32
  let v1059 : BitVec 32 := Scalar.xori v19 c1_i32_829
  let c8_i32_839 : BitVec 32 := 8#32
  let v1075 : BitVec 32 := Scalar.muli v1059 c8_i32_839
  let c2_i32_830 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1060 : BitVec 32 := Scalar.muli c2_i32_830 v46
  let c2_i32_831 : BitVec 32 := 2#32
  let c0_i32_832 : BitVec 32 := 0#32
  let v1061 : BitVec 1 := Scalar.cmpi .eq c2_i32_831 c0_i32_832
  let c1_i32_833 : BitVec 32 := 1#32
  let v1062 : BitVec 32 := Scalar.select v1061 c1_i32_833 c2_i32_831
  let v1063 : BitVec 32 := Scalar.remsi v46 v1062
  let c0_i32_835 : BitVec 32 := 0#32
  let v1065 : BitVec 1 := Scalar.cmpi .slt v1063 c0_i32_835
  let c0_i32_836 : BitVec 32 := 0#32
  let v1066 : BitVec 1 := Scalar.cmpi .slt v1062 c0_i32_836
  let v1067 : BitVec 1 := Scalar.xori v1065 v1066
  let c0_i32_834 : BitVec 32 := 0#32
  let v1064 : BitVec 1 := Scalar.cmpi .ne v1063 c0_i32_834
  let v1068 : BitVec 1 := Scalar.andi v1067 v1064
  let v1069 : BitVec 32 := Scalar.addi v1063 v1062
  let v1070 : BitVec 32 := Scalar.select v1068 v1069 v1063
  let c0_i32_837 : BitVec 32 := 0#32
  let v1071 : BitVec 1 := Scalar.cmpi .eq v1070 c0_i32_837
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_838 : BitVec 32 := 1#32
  let v1072 : BitVec 32 := Scalar.subi c1_i32_838 v79
  let v1073 : BitVec 32 := Scalar.select v1071 v79 v1072
  let v1074 : BitVec 32 := Scalar.addi v1060 v1073
  let v1076 : BitVec 32 := Scalar.addi v1075 v1074
  let c1_i32_844 : BitVec 32 := 1#32
  let v1077 : BitVec 32 := Scalar.muli v1076 c1_i32_844
  let v1078 : BitVec 32 := Scalar.addi c0_i32_845 v1077
  v1078.toNat
def k0_off53 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let v1096 : Index := Scalar.indexCast v1087
  let c0_863 : Index := 0#32
  ![v1096.toNat, 0]
def k0_off54 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c1_i32_869 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_867 : BitVec 32 := 0#32
  let v1103 : BitVec 32 := Scalar.shrsi v19 c0_i32_867
  let c1_i32_868 : BitVec 32 := 1#32
  let v1104 : BitVec 32 := Scalar.andi v1103 c1_i32_868
  let v1105 : BitVec 32 := Scalar.subi c1_i32_869 v1104
  let c128_i32_870 : BitVec 32 := 128#32
  let v1106 : BitVec 32 := Scalar.muli v1105 c128_i32_870
  let v1107 : BitVec 32 := Scalar.addi v1087 v1106
  let c0_i32_888 : BitVec 32 := 0#32
  ![v1107.toNat, 0]
def k0_dev26 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_871 : BitVec 32 := 1#32
  let v1108 : BitVec 32 := Scalar.xori v19 c1_i32_871
  let c8_i32_881 : BitVec 32 := 8#32
  let v1124 : BitVec 32 := Scalar.muli v1108 c8_i32_881
  let c2_i32_872 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1109 : BitVec 32 := Scalar.muli c2_i32_872 v46
  let c2_i32_873 : BitVec 32 := 2#32
  let c0_i32_874 : BitVec 32 := 0#32
  let v1110 : BitVec 1 := Scalar.cmpi .eq c2_i32_873 c0_i32_874
  let c1_i32_875 : BitVec 32 := 1#32
  let v1111 : BitVec 32 := Scalar.select v1110 c1_i32_875 c2_i32_873
  let v1112 : BitVec 32 := Scalar.remsi v46 v1111
  let c0_i32_877 : BitVec 32 := 0#32
  let v1114 : BitVec 1 := Scalar.cmpi .slt v1112 c0_i32_877
  let c0_i32_878 : BitVec 32 := 0#32
  let v1115 : BitVec 1 := Scalar.cmpi .slt v1111 c0_i32_878
  let v1116 : BitVec 1 := Scalar.xori v1114 v1115
  let c0_i32_876 : BitVec 32 := 0#32
  let v1113 : BitVec 1 := Scalar.cmpi .ne v1112 c0_i32_876
  let v1117 : BitVec 1 := Scalar.andi v1116 v1113
  let v1118 : BitVec 32 := Scalar.addi v1112 v1111
  let v1119 : BitVec 32 := Scalar.select v1117 v1118 v1112
  let c0_i32_879 : BitVec 32 := 0#32
  let v1120 : BitVec 1 := Scalar.cmpi .eq v1119 c0_i32_879
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_880 : BitVec 32 := 1#32
  let v1121 : BitVec 32 := Scalar.subi c1_i32_880 v79
  let v1122 : BitVec 32 := Scalar.select v1120 v79 v1121
  let v1123 : BitVec 32 := Scalar.addi v1109 v1122
  let v1125 : BitVec 32 := Scalar.addi v1124 v1123
  let c1_i32_886 : BitVec 32 := 1#32
  let v1126 : BitVec 32 := Scalar.muli v1125 c1_i32_886
  let v1127 : BitVec 32 := Scalar.addi c0_i32_887 v1126
  v1127.toNat
def k0_off55 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let v1145 : Index := Scalar.indexCast v1136
  let c384_905 : Index := 384#32
  ![v1145.toNat, 384]
def k0_off56 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c1_i32_911 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_909 : BitVec 32 := 1#32
  let v1152 : BitVec 32 := Scalar.shrsi v19 c1_i32_909
  let c1_i32_910 : BitVec 32 := 1#32
  let v1153 : BitVec 32 := Scalar.andi v1152 c1_i32_910
  let v1154 : BitVec 32 := Scalar.subi c1_i32_911 v1153
  let c128_i32_912 : BitVec 32 := 128#32
  let v1155 : BitVec 32 := Scalar.muli v1154 c128_i32_912
  let v1156 : BitVec 32 := Scalar.addi v1136 v1155
  let c384_i32_930 : BitVec 32 := 384#32
  ![v1156.toNat, 384]
def k0_dev27 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_913 : BitVec 32 := 2#32
  let v1157 : BitVec 32 := Scalar.xori v19 c2_i32_913
  let c8_i32_923 : BitVec 32 := 8#32
  let v1173 : BitVec 32 := Scalar.muli v1157 c8_i32_923
  let c2_i32_914 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1158 : BitVec 32 := Scalar.muli c2_i32_914 v46
  let c2_i32_915 : BitVec 32 := 2#32
  let c0_i32_916 : BitVec 32 := 0#32
  let v1159 : BitVec 1 := Scalar.cmpi .eq c2_i32_915 c0_i32_916
  let c1_i32_917 : BitVec 32 := 1#32
  let v1160 : BitVec 32 := Scalar.select v1159 c1_i32_917 c2_i32_915
  let v1161 : BitVec 32 := Scalar.remsi v46 v1160
  let c0_i32_919 : BitVec 32 := 0#32
  let v1163 : BitVec 1 := Scalar.cmpi .slt v1161 c0_i32_919
  let c0_i32_920 : BitVec 32 := 0#32
  let v1164 : BitVec 1 := Scalar.cmpi .slt v1160 c0_i32_920
  let v1165 : BitVec 1 := Scalar.xori v1163 v1164
  let c0_i32_918 : BitVec 32 := 0#32
  let v1162 : BitVec 1 := Scalar.cmpi .ne v1161 c0_i32_918
  let v1166 : BitVec 1 := Scalar.andi v1165 v1162
  let v1167 : BitVec 32 := Scalar.addi v1161 v1160
  let v1168 : BitVec 32 := Scalar.select v1166 v1167 v1161
  let c0_i32_921 : BitVec 32 := 0#32
  let v1169 : BitVec 1 := Scalar.cmpi .eq v1168 c0_i32_921
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_922 : BitVec 32 := 1#32
  let v1170 : BitVec 32 := Scalar.subi c1_i32_922 v79
  let v1171 : BitVec 32 := Scalar.select v1169 v79 v1170
  let v1172 : BitVec 32 := Scalar.addi v1158 v1171
  let v1174 : BitVec 32 := Scalar.addi v1173 v1172
  let c1_i32_928 : BitVec 32 := 1#32
  let v1175 : BitVec 32 := Scalar.muli v1174 c1_i32_928
  let v1176 : BitVec 32 := Scalar.addi c0_i32_929 v1175
  v1176.toNat
def k0_off57 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let v1194 : Index := Scalar.indexCast v1185
  let c512_947 : Index := 512#32
  ![v1194.toNat, 512]
def k0_off58 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c1_i32_951 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1201 : BitVec 32 := Scalar.subi c1_i32_951 v79
  let c64_i32 : BitVec 32 := 64#32
  let v1202 : BitVec 32 := Scalar.muli v1201 c64_i32
  let v1203 : BitVec 32 := Scalar.addi v1185 v1202
  let c512_i32_959 : BitVec 32 := 512#32
  ![v1203.toNat, 512]
def k0_dev28 (d0 : Dev nD) : Nat :=
  let c0_i32_958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_952 : BitVec 32 := 1#32
  let v1204 : BitVec 32 := Scalar.xori v2 c1_i32_952
  let c1_i32_957 : BitVec 32 := 1#32
  let v1205 : BitVec 32 := Scalar.muli v1204 c1_i32_957
  let v1206 : BitVec 32 := Scalar.addi c0_i32_958 v1205
  v1206.toNat
def k0_off59 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let v1224 : Index := Scalar.indexCast v1215
  let c1024_976 : Index := 1024#32
  ![v1224.toNat, 1024]
def k0_off60 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c1_i32_980 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1231 : BitVec 32 := Scalar.subi c1_i32_980 v79
  let c64_i32_981 : BitVec 32 := 64#32
  let v1232 : BitVec 32 := Scalar.muli v1231 c64_i32_981
  let v1233 : BitVec 32 := Scalar.addi v1215 v1232
  let c1024_i32_989 : BitVec 32 := 1024#32
  ![v1233.toNat, 1024]
def k0_dev29 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_982 : BitVec 32 := 1#32
  let v1234 : BitVec 32 := Scalar.xori v2 c1_i32_982
  let c1_i32_987 : BitVec 32 := 1#32
  let v1235 : BitVec 32 := Scalar.muli v1234 c1_i32_987
  let v1236 : BitVec 32 := Scalar.addi c0_i32_988 v1235
  v1236.toNat
def k0_off61 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let v1252 : Index := Scalar.indexCast v1243
  let c1280_1004 : Index := 1280#32
  ![v1252.toNat, 1280]
def k0_off62 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c1_i32_1010 : BitVec 32 := 1#32
  let c0_i32_1008 : BitVec 32 := 0#32
  let v1259 : BitVec 32 := Scalar.shrsi v46 c0_i32_1008
  let c1_i32_1009 : BitVec 32 := 1#32
  let v1260 : BitVec 32 := Scalar.andi v1259 c1_i32_1009
  let v1261 : BitVec 32 := Scalar.subi c1_i32_1010 v1260
  let c128_i32_1011 : BitVec 32 := 128#32
  let v1262 : BitVec 32 := Scalar.muli v1261 c128_i32_1011
  let v1263 : BitVec 32 := Scalar.addi v1243 v1262
  let c1280_i32_1029 : BitVec 32 := 1280#32
  ![v1263.toNat, 1280]
def k0_dev30 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1022 : BitVec 32 := 8#32
  let v1280 : BitVec 32 := Scalar.muli v19 c8_i32_1022
  let c2_i32_1013 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1012 : BitVec 32 := 1#32
  let v1264 : BitVec 32 := Scalar.xori v46 c1_i32_1012
  let v1265 : BitVec 32 := Scalar.muli c2_i32_1013 v1264
  let c2_i32_1014 : BitVec 32 := 2#32
  let c0_i32_1015 : BitVec 32 := 0#32
  let v1266 : BitVec 1 := Scalar.cmpi .eq c2_i32_1014 c0_i32_1015
  let c1_i32_1016 : BitVec 32 := 1#32
  let v1267 : BitVec 32 := Scalar.select v1266 c1_i32_1016 c2_i32_1014
  let v1268 : BitVec 32 := Scalar.remsi v1264 v1267
  let c0_i32_1018 : BitVec 32 := 0#32
  let v1270 : BitVec 1 := Scalar.cmpi .slt v1268 c0_i32_1018
  let c0_i32_1019 : BitVec 32 := 0#32
  let v1271 : BitVec 1 := Scalar.cmpi .slt v1267 c0_i32_1019
  let v1272 : BitVec 1 := Scalar.xori v1270 v1271
  let c0_i32_1017 : BitVec 32 := 0#32
  let v1269 : BitVec 1 := Scalar.cmpi .ne v1268 c0_i32_1017
  let v1273 : BitVec 1 := Scalar.andi v1272 v1269
  let v1274 : BitVec 32 := Scalar.addi v1268 v1267
  let v1275 : BitVec 32 := Scalar.select v1273 v1274 v1268
  let c0_i32_1020 : BitVec 32 := 0#32
  let v1276 : BitVec 1 := Scalar.cmpi .eq v1275 c0_i32_1020
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1021 : BitVec 32 := 1#32
  let v1277 : BitVec 32 := Scalar.subi c1_i32_1021 v79
  let v1278 : BitVec 32 := Scalar.select v1276 v79 v1277
  let v1279 : BitVec 32 := Scalar.addi v1265 v1278
  let v1281 : BitVec 32 := Scalar.addi v1280 v1279
  let c1_i32_1027 : BitVec 32 := 1#32
  let v1282 : BitVec 32 := Scalar.muli v1281 c1_i32_1027
  let v1283 : BitVec 32 := Scalar.addi c0_i32_1028 v1282
  v1283.toNat
def k0_off63 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let v1299 : Index := Scalar.indexCast v1290
  let c1792_1044 : Index := 1792#32
  ![v1299.toNat, 1792]
def k0_off64 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1050 : BitVec 32 := 1#32
  let c1_i32_1048 : BitVec 32 := 1#32
  let v1306 : BitVec 32 := Scalar.shrsi v46 c1_i32_1048
  let c1_i32_1049 : BitVec 32 := 1#32
  let v1307 : BitVec 32 := Scalar.andi v1306 c1_i32_1049
  let v1308 : BitVec 32 := Scalar.subi c1_i32_1050 v1307
  let c128_i32_1051 : BitVec 32 := 128#32
  let v1309 : BitVec 32 := Scalar.muli v1308 c128_i32_1051
  let v1310 : BitVec 32 := Scalar.addi v1290 v1309
  let c1792_i32_1069 : BitVec 32 := 1792#32
  ![v1310.toNat, 1792]
def k0_dev31 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1062 : BitVec 32 := 8#32
  let v1327 : BitVec 32 := Scalar.muli v19 c8_i32_1062
  let c2_i32_1053 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1052 : BitVec 32 := 2#32
  let v1311 : BitVec 32 := Scalar.xori v46 c2_i32_1052
  let v1312 : BitVec 32 := Scalar.muli c2_i32_1053 v1311
  let c2_i32_1054 : BitVec 32 := 2#32
  let c0_i32_1055 : BitVec 32 := 0#32
  let v1313 : BitVec 1 := Scalar.cmpi .eq c2_i32_1054 c0_i32_1055
  let c1_i32_1056 : BitVec 32 := 1#32
  let v1314 : BitVec 32 := Scalar.select v1313 c1_i32_1056 c2_i32_1054
  let v1315 : BitVec 32 := Scalar.remsi v1311 v1314
  let c0_i32_1058 : BitVec 32 := 0#32
  let v1317 : BitVec 1 := Scalar.cmpi .slt v1315 c0_i32_1058
  let c0_i32_1059 : BitVec 32 := 0#32
  let v1318 : BitVec 1 := Scalar.cmpi .slt v1314 c0_i32_1059
  let v1319 : BitVec 1 := Scalar.xori v1317 v1318
  let c0_i32_1057 : BitVec 32 := 0#32
  let v1316 : BitVec 1 := Scalar.cmpi .ne v1315 c0_i32_1057
  let v1320 : BitVec 1 := Scalar.andi v1319 v1316
  let v1321 : BitVec 32 := Scalar.addi v1315 v1314
  let v1322 : BitVec 32 := Scalar.select v1320 v1321 v1315
  let c0_i32_1060 : BitVec 32 := 0#32
  let v1323 : BitVec 1 := Scalar.cmpi .eq v1322 c0_i32_1060
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1061 : BitVec 32 := 1#32
  let v1324 : BitVec 32 := Scalar.subi c1_i32_1061 v79
  let v1325 : BitVec 32 := Scalar.select v1323 v79 v1324
  let v1326 : BitVec 32 := Scalar.addi v1312 v1325
  let v1328 : BitVec 32 := Scalar.addi v1327 v1326
  let c1_i32_1067 : BitVec 32 := 1#32
  let v1329 : BitVec 32 := Scalar.muli v1328 c1_i32_1067
  let v1330 : BitVec 32 := Scalar.addi c0_i32_1068 v1329
  v1330.toNat
def k0_off65 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let v1348 : Index := Scalar.indexCast v1339
  let c0_1086 : Index := 0#32
  ![v1348.toNat, 0]
def k0_off66 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1092 : BitVec 32 := 1#32
  let c1_i32_1090 : BitVec 32 := 1#32
  let v1355 : BitVec 32 := Scalar.shrsi v19 c1_i32_1090
  let c1_i32_1091 : BitVec 32 := 1#32
  let v1356 : BitVec 32 := Scalar.andi v1355 c1_i32_1091
  let v1357 : BitVec 32 := Scalar.subi c1_i32_1092 v1356
  let c64_i32_1093 : BitVec 32 := 64#32
  let v1358 : BitVec 32 := Scalar.muli v1357 c64_i32_1093
  let v1359 : BitVec 32 := Scalar.addi v1339 v1358
  let c0_i32_1111 : BitVec 32 := 0#32
  ![v1359.toNat, 0]
def k0_dev32 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1094 : BitVec 32 := 2#32
  let v1360 : BitVec 32 := Scalar.xori v19 c2_i32_1094
  let c8_i32_1104 : BitVec 32 := 8#32
  let v1376 : BitVec 32 := Scalar.muli v1360 c8_i32_1104
  let c2_i32_1095 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1361 : BitVec 32 := Scalar.muli c2_i32_1095 v46
  let c2_i32_1096 : BitVec 32 := 2#32
  let c0_i32_1097 : BitVec 32 := 0#32
  let v1362 : BitVec 1 := Scalar.cmpi .eq c2_i32_1096 c0_i32_1097
  let c1_i32_1098 : BitVec 32 := 1#32
  let v1363 : BitVec 32 := Scalar.select v1362 c1_i32_1098 c2_i32_1096
  let v1364 : BitVec 32 := Scalar.remsi v46 v1363
  let c0_i32_1100 : BitVec 32 := 0#32
  let v1366 : BitVec 1 := Scalar.cmpi .slt v1364 c0_i32_1100
  let c0_i32_1101 : BitVec 32 := 0#32
  let v1367 : BitVec 1 := Scalar.cmpi .slt v1363 c0_i32_1101
  let v1368 : BitVec 1 := Scalar.xori v1366 v1367
  let c0_i32_1099 : BitVec 32 := 0#32
  let v1365 : BitVec 1 := Scalar.cmpi .ne v1364 c0_i32_1099
  let v1369 : BitVec 1 := Scalar.andi v1368 v1365
  let v1370 : BitVec 32 := Scalar.addi v1364 v1363
  let v1371 : BitVec 32 := Scalar.select v1369 v1370 v1364
  let c0_i32_1102 : BitVec 32 := 0#32
  let v1372 : BitVec 1 := Scalar.cmpi .eq v1371 c0_i32_1102
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1103 : BitVec 32 := 1#32
  let v1373 : BitVec 32 := Scalar.subi c1_i32_1103 v79
  let v1374 : BitVec 32 := Scalar.select v1372 v79 v1373
  let v1375 : BitVec 32 := Scalar.addi v1361 v1374
  let v1377 : BitVec 32 := Scalar.addi v1376 v1375
  let c1_i32_1109 : BitVec 32 := 1#32
  let v1378 : BitVec 32 := Scalar.muli v1377 c1_i32_1109
  let v1379 : BitVec 32 := Scalar.addi c0_i32_1110 v1378
  v1379.toNat
def k0_off67 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let v1397 : Index := Scalar.indexCast v1388
  let c384_1128 : Index := 384#32
  ![v1397.toNat, 384]
def k0_off68 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c1_i32_1134 : BitVec 32 := 1#32
  let c0_i32_1132 : BitVec 32 := 0#32
  let v1404 : BitVec 32 := Scalar.shrsi v19 c0_i32_1132
  let c1_i32_1133 : BitVec 32 := 1#32
  let v1405 : BitVec 32 := Scalar.andi v1404 c1_i32_1133
  let v1406 : BitVec 32 := Scalar.subi c1_i32_1134 v1405
  let c64_i32_1135 : BitVec 32 := 64#32
  let v1407 : BitVec 32 := Scalar.muli v1406 c64_i32_1135
  let v1408 : BitVec 32 := Scalar.addi v1388 v1407
  let c384_i32_1153 : BitVec 32 := 384#32
  ![v1408.toNat, 384]
def k0_dev33 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1136 : BitVec 32 := 1#32
  let v1409 : BitVec 32 := Scalar.xori v19 c1_i32_1136
  let c8_i32_1146 : BitVec 32 := 8#32
  let v1425 : BitVec 32 := Scalar.muli v1409 c8_i32_1146
  let c2_i32_1137 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1410 : BitVec 32 := Scalar.muli c2_i32_1137 v46
  let c2_i32_1138 : BitVec 32 := 2#32
  let c0_i32_1139 : BitVec 32 := 0#32
  let v1411 : BitVec 1 := Scalar.cmpi .eq c2_i32_1138 c0_i32_1139
  let c1_i32_1140 : BitVec 32 := 1#32
  let v1412 : BitVec 32 := Scalar.select v1411 c1_i32_1140 c2_i32_1138
  let v1413 : BitVec 32 := Scalar.remsi v46 v1412
  let c0_i32_1142 : BitVec 32 := 0#32
  let v1415 : BitVec 1 := Scalar.cmpi .slt v1413 c0_i32_1142
  let c0_i32_1143 : BitVec 32 := 0#32
  let v1416 : BitVec 1 := Scalar.cmpi .slt v1412 c0_i32_1143
  let v1417 : BitVec 1 := Scalar.xori v1415 v1416
  let c0_i32_1141 : BitVec 32 := 0#32
  let v1414 : BitVec 1 := Scalar.cmpi .ne v1413 c0_i32_1141
  let v1418 : BitVec 1 := Scalar.andi v1417 v1414
  let v1419 : BitVec 32 := Scalar.addi v1413 v1412
  let v1420 : BitVec 32 := Scalar.select v1418 v1419 v1413
  let c0_i32_1144 : BitVec 32 := 0#32
  let v1421 : BitVec 1 := Scalar.cmpi .eq v1420 c0_i32_1144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1145 : BitVec 32 := 1#32
  let v1422 : BitVec 32 := Scalar.subi c1_i32_1145 v79
  let v1423 : BitVec 32 := Scalar.select v1421 v79 v1422
  let v1424 : BitVec 32 := Scalar.addi v1410 v1423
  let v1426 : BitVec 32 := Scalar.addi v1425 v1424
  let c1_i32_1151 : BitVec 32 := 1#32
  let v1427 : BitVec 32 := Scalar.muli v1426 c1_i32_1151
  let v1428 : BitVec 32 := Scalar.addi c0_i32_1152 v1427
  v1428.toNat
def k0_off69 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let v1446 : Index := Scalar.indexCast v1437
  let c1280_1170 : Index := 1280#32
  ![v1446.toNat, 1280]
def k0_off70 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1176 : BitVec 32 := 1#32
  let c1_i32_1174 : BitVec 32 := 1#32
  let v1453 : BitVec 32 := Scalar.shrsi v46 c1_i32_1174
  let c1_i32_1175 : BitVec 32 := 1#32
  let v1454 : BitVec 32 := Scalar.andi v1453 c1_i32_1175
  let v1455 : BitVec 32 := Scalar.subi c1_i32_1176 v1454
  let c64_i32_1177 : BitVec 32 := 64#32
  let v1456 : BitVec 32 := Scalar.muli v1455 c64_i32_1177
  let v1457 : BitVec 32 := Scalar.addi v1437 v1456
  let c1280_i32_1195 : BitVec 32 := 1280#32
  ![v1457.toNat, 1280]
def k0_dev34 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1188 : BitVec 32 := 8#32
  let v1474 : BitVec 32 := Scalar.muli v19 c8_i32_1188
  let c2_i32_1179 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1178 : BitVec 32 := 2#32
  let v1458 : BitVec 32 := Scalar.xori v46 c2_i32_1178
  let v1459 : BitVec 32 := Scalar.muli c2_i32_1179 v1458
  let c2_i32_1180 : BitVec 32 := 2#32
  let c0_i32_1181 : BitVec 32 := 0#32
  let v1460 : BitVec 1 := Scalar.cmpi .eq c2_i32_1180 c0_i32_1181
  let c1_i32_1182 : BitVec 32 := 1#32
  let v1461 : BitVec 32 := Scalar.select v1460 c1_i32_1182 c2_i32_1180
  let v1462 : BitVec 32 := Scalar.remsi v1458 v1461
  let c0_i32_1184 : BitVec 32 := 0#32
  let v1464 : BitVec 1 := Scalar.cmpi .slt v1462 c0_i32_1184
  let c0_i32_1185 : BitVec 32 := 0#32
  let v1465 : BitVec 1 := Scalar.cmpi .slt v1461 c0_i32_1185
  let v1466 : BitVec 1 := Scalar.xori v1464 v1465
  let c0_i32_1183 : BitVec 32 := 0#32
  let v1463 : BitVec 1 := Scalar.cmpi .ne v1462 c0_i32_1183
  let v1467 : BitVec 1 := Scalar.andi v1466 v1463
  let v1468 : BitVec 32 := Scalar.addi v1462 v1461
  let v1469 : BitVec 32 := Scalar.select v1467 v1468 v1462
  let c0_i32_1186 : BitVec 32 := 0#32
  let v1470 : BitVec 1 := Scalar.cmpi .eq v1469 c0_i32_1186
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1187 : BitVec 32 := 1#32
  let v1471 : BitVec 32 := Scalar.subi c1_i32_1187 v79
  let v1472 : BitVec 32 := Scalar.select v1470 v79 v1471
  let v1473 : BitVec 32 := Scalar.addi v1459 v1472
  let v1475 : BitVec 32 := Scalar.addi v1474 v1473
  let c1_i32_1193 : BitVec 32 := 1#32
  let v1476 : BitVec 32 := Scalar.muli v1475 c1_i32_1193
  let v1477 : BitVec 32 := Scalar.addi c0_i32_1194 v1476
  v1477.toNat
def k0_off71 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let v1495 : Index := Scalar.indexCast v1486
  let c1792_1212 : Index := 1792#32
  ![v1495.toNat, 1792]
def k0_off72 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c1_i32_1218 : BitVec 32 := 1#32
  let c0_i32_1216 : BitVec 32 := 0#32
  let v1502 : BitVec 32 := Scalar.shrsi v46 c0_i32_1216
  let c1_i32_1217 : BitVec 32 := 1#32
  let v1503 : BitVec 32 := Scalar.andi v1502 c1_i32_1217
  let v1504 : BitVec 32 := Scalar.subi c1_i32_1218 v1503
  let c64_i32_1219 : BitVec 32 := 64#32
  let v1505 : BitVec 32 := Scalar.muli v1504 c64_i32_1219
  let v1506 : BitVec 32 := Scalar.addi v1486 v1505
  let c1792_i32_1237 : BitVec 32 := 1792#32
  ![v1506.toNat, 1792]
def k0_dev35 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1230 : BitVec 32 := 8#32
  let v1523 : BitVec 32 := Scalar.muli v19 c8_i32_1230
  let c2_i32_1221 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1220 : BitVec 32 := 1#32
  let v1507 : BitVec 32 := Scalar.xori v46 c1_i32_1220
  let v1508 : BitVec 32 := Scalar.muli c2_i32_1221 v1507
  let c2_i32_1222 : BitVec 32 := 2#32
  let c0_i32_1223 : BitVec 32 := 0#32
  let v1509 : BitVec 1 := Scalar.cmpi .eq c2_i32_1222 c0_i32_1223
  let c1_i32_1224 : BitVec 32 := 1#32
  let v1510 : BitVec 32 := Scalar.select v1509 c1_i32_1224 c2_i32_1222
  let v1511 : BitVec 32 := Scalar.remsi v1507 v1510
  let c0_i32_1226 : BitVec 32 := 0#32
  let v1513 : BitVec 1 := Scalar.cmpi .slt v1511 c0_i32_1226
  let c0_i32_1227 : BitVec 32 := 0#32
  let v1514 : BitVec 1 := Scalar.cmpi .slt v1510 c0_i32_1227
  let v1515 : BitVec 1 := Scalar.xori v1513 v1514
  let c0_i32_1225 : BitVec 32 := 0#32
  let v1512 : BitVec 1 := Scalar.cmpi .ne v1511 c0_i32_1225
  let v1516 : BitVec 1 := Scalar.andi v1515 v1512
  let v1517 : BitVec 32 := Scalar.addi v1511 v1510
  let v1518 : BitVec 32 := Scalar.select v1516 v1517 v1511
  let c0_i32_1228 : BitVec 32 := 0#32
  let v1519 : BitVec 1 := Scalar.cmpi .eq v1518 c0_i32_1228
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1229 : BitVec 32 := 1#32
  let v1520 : BitVec 32 := Scalar.subi c1_i32_1229 v79
  let v1521 : BitVec 32 := Scalar.select v1519 v79 v1520
  let v1522 : BitVec 32 := Scalar.addi v1508 v1521
  let v1524 : BitVec 32 := Scalar.addi v1523 v1522
  let c1_i32_1235 : BitVec 32 := 1#32
  let v1525 : BitVec 32 := Scalar.muli v1524 c1_i32_1235
  let v1526 : BitVec 32 := Scalar.addi c0_i32_1236 v1525
  v1526.toNat
def k0_off73 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let v1544 : Index := Scalar.indexCast v1535
  let c0_1254 : Index := 0#32
  ![v1544.toNat, 0]
def k0_off74 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let v1563 : Index := Scalar.indexCast v1554
  let c384_1274 : Index := 384#32
  ![v1563.toNat, 384]
def k0_off75 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let v1580 : Index := Scalar.indexCast v1571
  let c512_1292 : Index := 512#32
  ![v1580.toNat, 512]
def k0_off76 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let v1597 : Index := Scalar.indexCast v1588
  let c1024_1310 : Index := 1024#32
  ![v1597.toNat, 1024]
def k0_off77 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let v1616 : Index := Scalar.indexCast v1607
  let c1280_1330 : Index := 1280#32
  ![v1616.toNat, 1280]
def k0_off78 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let v1635 : Index := Scalar.indexCast v1626
  let c1792_1350 : Index := 1792#32
  ![v1635.toNat, 1792]
def k0_off79 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let c0_i32_1371 : BitVec 32 := 0#32
  ![v1535.toNat, 0]
def k0_dev36 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1354 : BitVec 32 := 2#32
  let v1642 : BitVec 32 := Scalar.xori v19 c2_i32_1354
  let c8_i32_1364 : BitVec 32 := 8#32
  let v1658 : BitVec 32 := Scalar.muli v1642 c8_i32_1364
  let c2_i32_1355 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1643 : BitVec 32 := Scalar.muli c2_i32_1355 v46
  let c2_i32_1356 : BitVec 32 := 2#32
  let c0_i32_1357 : BitVec 32 := 0#32
  let v1644 : BitVec 1 := Scalar.cmpi .eq c2_i32_1356 c0_i32_1357
  let c1_i32_1358 : BitVec 32 := 1#32
  let v1645 : BitVec 32 := Scalar.select v1644 c1_i32_1358 c2_i32_1356
  let v1646 : BitVec 32 := Scalar.remsi v46 v1645
  let c0_i32_1360 : BitVec 32 := 0#32
  let v1648 : BitVec 1 := Scalar.cmpi .slt v1646 c0_i32_1360
  let c0_i32_1361 : BitVec 32 := 0#32
  let v1649 : BitVec 1 := Scalar.cmpi .slt v1645 c0_i32_1361
  let v1650 : BitVec 1 := Scalar.xori v1648 v1649
  let c0_i32_1359 : BitVec 32 := 0#32
  let v1647 : BitVec 1 := Scalar.cmpi .ne v1646 c0_i32_1359
  let v1651 : BitVec 1 := Scalar.andi v1650 v1647
  let v1652 : BitVec 32 := Scalar.addi v1646 v1645
  let v1653 : BitVec 32 := Scalar.select v1651 v1652 v1646
  let c0_i32_1362 : BitVec 32 := 0#32
  let v1654 : BitVec 1 := Scalar.cmpi .eq v1653 c0_i32_1362
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1363 : BitVec 32 := 1#32
  let v1655 : BitVec 32 := Scalar.subi c1_i32_1363 v79
  let v1656 : BitVec 32 := Scalar.select v1654 v79 v1655
  let v1657 : BitVec 32 := Scalar.addi v1643 v1656
  let v1659 : BitVec 32 := Scalar.addi v1658 v1657
  let c1_i32_1369 : BitVec 32 := 1#32
  let v1660 : BitVec 32 := Scalar.muli v1659 c1_i32_1369
  let v1661 : BitVec 32 := Scalar.addi c0_i32_1370 v1660
  v1661.toNat
def k0_off80 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let c384_i32_1390 : BitVec 32 := 384#32
  ![v1554.toNat, 384]
def k0_dev37 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1373 : BitVec 32 := 1#32
  let v1668 : BitVec 32 := Scalar.xori v19 c1_i32_1373
  let c8_i32_1383 : BitVec 32 := 8#32
  let v1684 : BitVec 32 := Scalar.muli v1668 c8_i32_1383
  let c2_i32_1374 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1669 : BitVec 32 := Scalar.muli c2_i32_1374 v46
  let c2_i32_1375 : BitVec 32 := 2#32
  let c0_i32_1376 : BitVec 32 := 0#32
  let v1670 : BitVec 1 := Scalar.cmpi .eq c2_i32_1375 c0_i32_1376
  let c1_i32_1377 : BitVec 32 := 1#32
  let v1671 : BitVec 32 := Scalar.select v1670 c1_i32_1377 c2_i32_1375
  let v1672 : BitVec 32 := Scalar.remsi v46 v1671
  let c0_i32_1379 : BitVec 32 := 0#32
  let v1674 : BitVec 1 := Scalar.cmpi .slt v1672 c0_i32_1379
  let c0_i32_1380 : BitVec 32 := 0#32
  let v1675 : BitVec 1 := Scalar.cmpi .slt v1671 c0_i32_1380
  let v1676 : BitVec 1 := Scalar.xori v1674 v1675
  let c0_i32_1378 : BitVec 32 := 0#32
  let v1673 : BitVec 1 := Scalar.cmpi .ne v1672 c0_i32_1378
  let v1677 : BitVec 1 := Scalar.andi v1676 v1673
  let v1678 : BitVec 32 := Scalar.addi v1672 v1671
  let v1679 : BitVec 32 := Scalar.select v1677 v1678 v1672
  let c0_i32_1381 : BitVec 32 := 0#32
  let v1680 : BitVec 1 := Scalar.cmpi .eq v1679 c0_i32_1381
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1382 : BitVec 32 := 1#32
  let v1681 : BitVec 32 := Scalar.subi c1_i32_1382 v79
  let v1682 : BitVec 32 := Scalar.select v1680 v79 v1681
  let v1683 : BitVec 32 := Scalar.addi v1669 v1682
  let v1685 : BitVec 32 := Scalar.addi v1684 v1683
  let c1_i32_1388 : BitVec 32 := 1#32
  let v1686 : BitVec 32 := Scalar.muli v1685 c1_i32_1388
  let v1687 : BitVec 32 := Scalar.addi c0_i32_1389 v1686
  v1687.toNat
def k0_off81 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let c1280_i32_1409 : BitVec 32 := 1280#32
  ![v1607.toNat, 1280]
def k0_dev38 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1402 : BitVec 32 := 8#32
  let v1710 : BitVec 32 := Scalar.muli v19 c8_i32_1402
  let c2_i32_1393 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1392 : BitVec 32 := 2#32
  let v1694 : BitVec 32 := Scalar.xori v46 c2_i32_1392
  let v1695 : BitVec 32 := Scalar.muli c2_i32_1393 v1694
  let c2_i32_1394 : BitVec 32 := 2#32
  let c0_i32_1395 : BitVec 32 := 0#32
  let v1696 : BitVec 1 := Scalar.cmpi .eq c2_i32_1394 c0_i32_1395
  let c1_i32_1396 : BitVec 32 := 1#32
  let v1697 : BitVec 32 := Scalar.select v1696 c1_i32_1396 c2_i32_1394
  let v1698 : BitVec 32 := Scalar.remsi v1694 v1697
  let c0_i32_1398 : BitVec 32 := 0#32
  let v1700 : BitVec 1 := Scalar.cmpi .slt v1698 c0_i32_1398
  let c0_i32_1399 : BitVec 32 := 0#32
  let v1701 : BitVec 1 := Scalar.cmpi .slt v1697 c0_i32_1399
  let v1702 : BitVec 1 := Scalar.xori v1700 v1701
  let c0_i32_1397 : BitVec 32 := 0#32
  let v1699 : BitVec 1 := Scalar.cmpi .ne v1698 c0_i32_1397
  let v1703 : BitVec 1 := Scalar.andi v1702 v1699
  let v1704 : BitVec 32 := Scalar.addi v1698 v1697
  let v1705 : BitVec 32 := Scalar.select v1703 v1704 v1698
  let c0_i32_1400 : BitVec 32 := 0#32
  let v1706 : BitVec 1 := Scalar.cmpi .eq v1705 c0_i32_1400
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1401 : BitVec 32 := 1#32
  let v1707 : BitVec 32 := Scalar.subi c1_i32_1401 v79
  let v1708 : BitVec 32 := Scalar.select v1706 v79 v1707
  let v1709 : BitVec 32 := Scalar.addi v1695 v1708
  let v1711 : BitVec 32 := Scalar.addi v1710 v1709
  let c1_i32_1407 : BitVec 32 := 1#32
  let v1712 : BitVec 32 := Scalar.muli v1711 c1_i32_1407
  let v1713 : BitVec 32 := Scalar.addi c0_i32_1408 v1712
  v1713.toNat
def k0_off82 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let c1792_i32_1428 : BitVec 32 := 1792#32
  ![v1626.toNat, 1792]
def k0_dev39 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1421 : BitVec 32 := 8#32
  let v1736 : BitVec 32 := Scalar.muli v19 c8_i32_1421
  let c2_i32_1412 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1411 : BitVec 32 := 1#32
  let v1720 : BitVec 32 := Scalar.xori v46 c1_i32_1411
  let v1721 : BitVec 32 := Scalar.muli c2_i32_1412 v1720
  let c2_i32_1413 : BitVec 32 := 2#32
  let c0_i32_1414 : BitVec 32 := 0#32
  let v1722 : BitVec 1 := Scalar.cmpi .eq c2_i32_1413 c0_i32_1414
  let c1_i32_1415 : BitVec 32 := 1#32
  let v1723 : BitVec 32 := Scalar.select v1722 c1_i32_1415 c2_i32_1413
  let v1724 : BitVec 32 := Scalar.remsi v1720 v1723
  let c0_i32_1417 : BitVec 32 := 0#32
  let v1726 : BitVec 1 := Scalar.cmpi .slt v1724 c0_i32_1417
  let c0_i32_1418 : BitVec 32 := 0#32
  let v1727 : BitVec 1 := Scalar.cmpi .slt v1723 c0_i32_1418
  let v1728 : BitVec 1 := Scalar.xori v1726 v1727
  let c0_i32_1416 : BitVec 32 := 0#32
  let v1725 : BitVec 1 := Scalar.cmpi .ne v1724 c0_i32_1416
  let v1729 : BitVec 1 := Scalar.andi v1728 v1725
  let v1730 : BitVec 32 := Scalar.addi v1724 v1723
  let v1731 : BitVec 32 := Scalar.select v1729 v1730 v1724
  let c0_i32_1419 : BitVec 32 := 0#32
  let v1732 : BitVec 1 := Scalar.cmpi .eq v1731 c0_i32_1419
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1420 : BitVec 32 := 1#32
  let v1733 : BitVec 32 := Scalar.subi c1_i32_1420 v79
  let v1734 : BitVec 32 := Scalar.select v1732 v79 v1733
  let v1735 : BitVec 32 := Scalar.addi v1721 v1734
  let v1737 : BitVec 32 := Scalar.addi v1736 v1735
  let c1_i32_1426 : BitVec 32 := 1#32
  let v1738 : BitVec 32 := Scalar.muli v1737 c1_i32_1426
  let v1739 : BitVec 32 := Scalar.addi c0_i32_1427 v1738
  v1739.toNat
def k0_off83 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let c1_i32_1430 : BitVec 32 := 1#32
  let v1746 : BitVec 32 := Scalar.shrsi v19 c1_i32_1430
  let c1_i32_1431 : BitVec 32 := 1#32
  let v1747 : BitVec 32 := Scalar.andi v1746 c1_i32_1431
  let c64_i32_1447 : BitVec 32 := 64#32
  let v1758 : BitVec 32 := Scalar.muli v1747 c64_i32_1447
  let v1759 : BitVec 32 := Scalar.subi v1535 v1758
  let c0_i32_1465 : BitVec 32 := 0#32
  ![v1759.toNat, 0]
def k0_dev40 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1448 : BitVec 32 := 1#32
  let v1760 : BitVec 32 := Scalar.xori v19 c1_i32_1448
  let c8_i32_1458 : BitVec 32 := 8#32
  let v1776 : BitVec 32 := Scalar.muli v1760 c8_i32_1458
  let c2_i32_1449 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1761 : BitVec 32 := Scalar.muli c2_i32_1449 v46
  let c2_i32_1450 : BitVec 32 := 2#32
  let c0_i32_1451 : BitVec 32 := 0#32
  let v1762 : BitVec 1 := Scalar.cmpi .eq c2_i32_1450 c0_i32_1451
  let c1_i32_1452 : BitVec 32 := 1#32
  let v1763 : BitVec 32 := Scalar.select v1762 c1_i32_1452 c2_i32_1450
  let v1764 : BitVec 32 := Scalar.remsi v46 v1763
  let c0_i32_1454 : BitVec 32 := 0#32
  let v1766 : BitVec 1 := Scalar.cmpi .slt v1764 c0_i32_1454
  let c0_i32_1455 : BitVec 32 := 0#32
  let v1767 : BitVec 1 := Scalar.cmpi .slt v1763 c0_i32_1455
  let v1768 : BitVec 1 := Scalar.xori v1766 v1767
  let c0_i32_1453 : BitVec 32 := 0#32
  let v1765 : BitVec 1 := Scalar.cmpi .ne v1764 c0_i32_1453
  let v1769 : BitVec 1 := Scalar.andi v1768 v1765
  let v1770 : BitVec 32 := Scalar.addi v1764 v1763
  let v1771 : BitVec 32 := Scalar.select v1769 v1770 v1764
  let c0_i32_1456 : BitVec 32 := 0#32
  let v1772 : BitVec 1 := Scalar.cmpi .eq v1771 c0_i32_1456
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1457 : BitVec 32 := 1#32
  let v1773 : BitVec 32 := Scalar.subi c1_i32_1457 v79
  let v1774 : BitVec 32 := Scalar.select v1772 v79 v1773
  let v1775 : BitVec 32 := Scalar.addi v1761 v1774
  let v1777 : BitVec 32 := Scalar.addi v1776 v1775
  let c1_i32_1463 : BitVec 32 := 1#32
  let v1778 : BitVec 32 := Scalar.muli v1777 c1_i32_1463
  let v1779 : BitVec 32 := Scalar.addi c0_i32_1464 v1778
  v1779.toNat
def k0_off84 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let c0_i32_1467 : BitVec 32 := 0#32
  let v1786 : BitVec 32 := Scalar.shrsi v19 c0_i32_1467
  let c1_i32_1468 : BitVec 32 := 1#32
  let v1787 : BitVec 32 := Scalar.andi v1786 c1_i32_1468
  let c64_i32_1484 : BitVec 32 := 64#32
  let v1798 : BitVec 32 := Scalar.muli v1787 c64_i32_1484
  let v1799 : BitVec 32 := Scalar.subi v1554 v1798
  let c384_i32_1502 : BitVec 32 := 384#32
  ![v1799.toNat, 384]
def k0_dev41 (d0 : Dev nD) : Nat :=
  let c0_i32_1501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1485 : BitVec 32 := 2#32
  let v1800 : BitVec 32 := Scalar.xori v19 c2_i32_1485
  let c8_i32_1495 : BitVec 32 := 8#32
  let v1816 : BitVec 32 := Scalar.muli v1800 c8_i32_1495
  let c2_i32_1486 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1801 : BitVec 32 := Scalar.muli c2_i32_1486 v46
  let c2_i32_1487 : BitVec 32 := 2#32
  let c0_i32_1488 : BitVec 32 := 0#32
  let v1802 : BitVec 1 := Scalar.cmpi .eq c2_i32_1487 c0_i32_1488
  let c1_i32_1489 : BitVec 32 := 1#32
  let v1803 : BitVec 32 := Scalar.select v1802 c1_i32_1489 c2_i32_1487
  let v1804 : BitVec 32 := Scalar.remsi v46 v1803
  let c0_i32_1491 : BitVec 32 := 0#32
  let v1806 : BitVec 1 := Scalar.cmpi .slt v1804 c0_i32_1491
  let c0_i32_1492 : BitVec 32 := 0#32
  let v1807 : BitVec 1 := Scalar.cmpi .slt v1803 c0_i32_1492
  let v1808 : BitVec 1 := Scalar.xori v1806 v1807
  let c0_i32_1490 : BitVec 32 := 0#32
  let v1805 : BitVec 1 := Scalar.cmpi .ne v1804 c0_i32_1490
  let v1809 : BitVec 1 := Scalar.andi v1808 v1805
  let v1810 : BitVec 32 := Scalar.addi v1804 v1803
  let v1811 : BitVec 32 := Scalar.select v1809 v1810 v1804
  let c0_i32_1493 : BitVec 32 := 0#32
  let v1812 : BitVec 1 := Scalar.cmpi .eq v1811 c0_i32_1493
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1494 : BitVec 32 := 1#32
  let v1813 : BitVec 32 := Scalar.subi c1_i32_1494 v79
  let v1814 : BitVec 32 := Scalar.select v1812 v79 v1813
  let v1815 : BitVec 32 := Scalar.addi v1801 v1814
  let v1817 : BitVec 32 := Scalar.addi v1816 v1815
  let c1_i32_1500 : BitVec 32 := 1#32
  let v1818 : BitVec 32 := Scalar.muli v1817 c1_i32_1500
  let v1819 : BitVec 32 := Scalar.addi c0_i32_1501 v1818
  v1819.toNat
def k0_off85 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let c512_i32_1511 : BitVec 32 := 512#32
  ![v1571.toNat, 512]
def k0_dev42 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1504 : BitVec 32 := 1#32
  let v1826 : BitVec 32 := Scalar.xori v2 c1_i32_1504
  let c1_i32_1509 : BitVec 32 := 1#32
  let v1827 : BitVec 32 := Scalar.muli v1826 c1_i32_1509
  let v1828 : BitVec 32 := Scalar.addi c0_i32_1510 v1827
  v1828.toNat
def k0_off86 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let c1024_i32_1520 : BitVec 32 := 1024#32
  ![v1588.toNat, 1024]
def k0_dev43 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1513 : BitVec 32 := 1#32
  let v1835 : BitVec 32 := Scalar.xori v2 c1_i32_1513
  let c1_i32_1518 : BitVec 32 := 1#32
  let v1836 : BitVec 32 := Scalar.muli v1835 c1_i32_1518
  let v1837 : BitVec 32 := Scalar.addi c0_i32_1519 v1836
  v1837.toNat
def k0_off87 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let c1_i32_1522 : BitVec 32 := 1#32
  let v1844 : BitVec 32 := Scalar.shrsi v46 c1_i32_1522
  let c1_i32_1523 : BitVec 32 := 1#32
  let v1845 : BitVec 32 := Scalar.andi v1844 c1_i32_1523
  let c64_i32_1539 : BitVec 32 := 64#32
  let v1856 : BitVec 32 := Scalar.muli v1845 c64_i32_1539
  let v1857 : BitVec 32 := Scalar.subi v1607 v1856
  let c1280_i32_1557 : BitVec 32 := 1280#32
  ![v1857.toNat, 1280]
def k0_dev44 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1550 : BitVec 32 := 8#32
  let v1874 : BitVec 32 := Scalar.muli v19 c8_i32_1550
  let c2_i32_1541 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1540 : BitVec 32 := 1#32
  let v1858 : BitVec 32 := Scalar.xori v46 c1_i32_1540
  let v1859 : BitVec 32 := Scalar.muli c2_i32_1541 v1858
  let c2_i32_1542 : BitVec 32 := 2#32
  let c0_i32_1543 : BitVec 32 := 0#32
  let v1860 : BitVec 1 := Scalar.cmpi .eq c2_i32_1542 c0_i32_1543
  let c1_i32_1544 : BitVec 32 := 1#32
  let v1861 : BitVec 32 := Scalar.select v1860 c1_i32_1544 c2_i32_1542
  let v1862 : BitVec 32 := Scalar.remsi v1858 v1861
  let c0_i32_1546 : BitVec 32 := 0#32
  let v1864 : BitVec 1 := Scalar.cmpi .slt v1862 c0_i32_1546
  let c0_i32_1547 : BitVec 32 := 0#32
  let v1865 : BitVec 1 := Scalar.cmpi .slt v1861 c0_i32_1547
  let v1866 : BitVec 1 := Scalar.xori v1864 v1865
  let c0_i32_1545 : BitVec 32 := 0#32
  let v1863 : BitVec 1 := Scalar.cmpi .ne v1862 c0_i32_1545
  let v1867 : BitVec 1 := Scalar.andi v1866 v1863
  let v1868 : BitVec 32 := Scalar.addi v1862 v1861
  let v1869 : BitVec 32 := Scalar.select v1867 v1868 v1862
  let c0_i32_1548 : BitVec 32 := 0#32
  let v1870 : BitVec 1 := Scalar.cmpi .eq v1869 c0_i32_1548
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1549 : BitVec 32 := 1#32
  let v1871 : BitVec 32 := Scalar.subi c1_i32_1549 v79
  let v1872 : BitVec 32 := Scalar.select v1870 v79 v1871
  let v1873 : BitVec 32 := Scalar.addi v1859 v1872
  let v1875 : BitVec 32 := Scalar.addi v1874 v1873
  let c1_i32_1555 : BitVec 32 := 1#32
  let v1876 : BitVec 32 := Scalar.muli v1875 c1_i32_1555
  let v1877 : BitVec 32 := Scalar.addi c0_i32_1556 v1876
  v1877.toNat
def k0_off88 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let c0_i32_1559 : BitVec 32 := 0#32
  let v1884 : BitVec 32 := Scalar.shrsi v46 c0_i32_1559
  let c1_i32_1560 : BitVec 32 := 1#32
  let v1885 : BitVec 32 := Scalar.andi v1884 c1_i32_1560
  let c64_i32_1576 : BitVec 32 := 64#32
  let v1896 : BitVec 32 := Scalar.muli v1885 c64_i32_1576
  let v1897 : BitVec 32 := Scalar.subi v1626 v1896
  let c1792_i32_1594 : BitVec 32 := 1792#32
  ![v1897.toNat, 1792]
def k0_dev45 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1587 : BitVec 32 := 8#32
  let v1914 : BitVec 32 := Scalar.muli v19 c8_i32_1587
  let c2_i32_1578 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1577 : BitVec 32 := 2#32
  let v1898 : BitVec 32 := Scalar.xori v46 c2_i32_1577
  let v1899 : BitVec 32 := Scalar.muli c2_i32_1578 v1898
  let c2_i32_1579 : BitVec 32 := 2#32
  let c0_i32_1580 : BitVec 32 := 0#32
  let v1900 : BitVec 1 := Scalar.cmpi .eq c2_i32_1579 c0_i32_1580
  let c1_i32_1581 : BitVec 32 := 1#32
  let v1901 : BitVec 32 := Scalar.select v1900 c1_i32_1581 c2_i32_1579
  let v1902 : BitVec 32 := Scalar.remsi v1898 v1901
  let c0_i32_1583 : BitVec 32 := 0#32
  let v1904 : BitVec 1 := Scalar.cmpi .slt v1902 c0_i32_1583
  let c0_i32_1584 : BitVec 32 := 0#32
  let v1905 : BitVec 1 := Scalar.cmpi .slt v1901 c0_i32_1584
  let v1906 : BitVec 1 := Scalar.xori v1904 v1905
  let c0_i32_1582 : BitVec 32 := 0#32
  let v1903 : BitVec 1 := Scalar.cmpi .ne v1902 c0_i32_1582
  let v1907 : BitVec 1 := Scalar.andi v1906 v1903
  let v1908 : BitVec 32 := Scalar.addi v1902 v1901
  let v1909 : BitVec 32 := Scalar.select v1907 v1908 v1902
  let c0_i32_1585 : BitVec 32 := 0#32
  let v1910 : BitVec 1 := Scalar.cmpi .eq v1909 c0_i32_1585
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1586 : BitVec 32 := 1#32
  let v1911 : BitVec 32 := Scalar.subi c1_i32_1586 v79
  let v1912 : BitVec 32 := Scalar.select v1910 v79 v1911
  let v1913 : BitVec 32 := Scalar.addi v1899 v1912
  let v1915 : BitVec 32 := Scalar.addi v1914 v1913
  let c1_i32_1592 : BitVec 32 := 1#32
  let v1916 : BitVec 32 := Scalar.muli v1915 c1_i32_1592
  let v1917 : BitVec 32 := Scalar.addi c0_i32_1593 v1916
  v1917.toNat
def k0_off89 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let c1_i32_1430 : BitVec 32 := 1#32
  let v1746 : BitVec 32 := Scalar.shrsi v19 c1_i32_1430
  let c1_i32_1431 : BitVec 32 := 1#32
  let v1747 : BitVec 32 := Scalar.andi v1746 c1_i32_1431
  let c64_i32_1447 : BitVec 32 := 64#32
  let v1758 : BitVec 32 := Scalar.muli v1747 c64_i32_1447
  let v1759 : BitVec 32 := Scalar.subi v1535 v1758
  let c0_i32_1596 : BitVec 32 := 0#32
  let v1924 : BitVec 32 := Scalar.shrsi v19 c0_i32_1596
  let c1_i32_1597 : BitVec 32 := 1#32
  let v1925 : BitVec 32 := Scalar.andi v1924 c1_i32_1597
  let c128_i32_1613 : BitVec 32 := 128#32
  let v1936 : BitVec 32 := Scalar.muli v1925 c128_i32_1613
  let v1937 : BitVec 32 := Scalar.subi v1759 v1936
  let c0_i32_1631 : BitVec 32 := 0#32
  ![v1937.toNat, 0]
def k0_dev46 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1624 : BitVec 32 := 8#32
  let v1954 : BitVec 32 := Scalar.muli v19 c8_i32_1624
  let c2_i32_1615 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1614 : BitVec 32 := 2#32
  let v1938 : BitVec 32 := Scalar.xori v46 c2_i32_1614
  let v1939 : BitVec 32 := Scalar.muli c2_i32_1615 v1938
  let c2_i32_1616 : BitVec 32 := 2#32
  let c0_i32_1617 : BitVec 32 := 0#32
  let v1940 : BitVec 1 := Scalar.cmpi .eq c2_i32_1616 c0_i32_1617
  let c1_i32_1618 : BitVec 32 := 1#32
  let v1941 : BitVec 32 := Scalar.select v1940 c1_i32_1618 c2_i32_1616
  let v1942 : BitVec 32 := Scalar.remsi v1938 v1941
  let c0_i32_1620 : BitVec 32 := 0#32
  let v1944 : BitVec 1 := Scalar.cmpi .slt v1942 c0_i32_1620
  let c0_i32_1621 : BitVec 32 := 0#32
  let v1945 : BitVec 1 := Scalar.cmpi .slt v1941 c0_i32_1621
  let v1946 : BitVec 1 := Scalar.xori v1944 v1945
  let c0_i32_1619 : BitVec 32 := 0#32
  let v1943 : BitVec 1 := Scalar.cmpi .ne v1942 c0_i32_1619
  let v1947 : BitVec 1 := Scalar.andi v1946 v1943
  let v1948 : BitVec 32 := Scalar.addi v1942 v1941
  let v1949 : BitVec 32 := Scalar.select v1947 v1948 v1942
  let c0_i32_1622 : BitVec 32 := 0#32
  let v1950 : BitVec 1 := Scalar.cmpi .eq v1949 c0_i32_1622
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1623 : BitVec 32 := 1#32
  let v1951 : BitVec 32 := Scalar.subi c1_i32_1623 v79
  let v1952 : BitVec 32 := Scalar.select v1950 v79 v1951
  let v1953 : BitVec 32 := Scalar.addi v1939 v1952
  let v1955 : BitVec 32 := Scalar.addi v1954 v1953
  let c1_i32_1629 : BitVec 32 := 1#32
  let v1956 : BitVec 32 := Scalar.muli v1955 c1_i32_1629
  let v1957 : BitVec 32 := Scalar.addi c0_i32_1630 v1956
  v1957.toNat
def k0_off90 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let c0_i32_1467 : BitVec 32 := 0#32
  let v1786 : BitVec 32 := Scalar.shrsi v19 c0_i32_1467
  let c1_i32_1468 : BitVec 32 := 1#32
  let v1787 : BitVec 32 := Scalar.andi v1786 c1_i32_1468
  let c64_i32_1484 : BitVec 32 := 64#32
  let v1798 : BitVec 32 := Scalar.muli v1787 c64_i32_1484
  let v1799 : BitVec 32 := Scalar.subi v1554 v1798
  let c1_i32_1633 : BitVec 32 := 1#32
  let v1964 : BitVec 32 := Scalar.shrsi v19 c1_i32_1633
  let c1_i32_1634 : BitVec 32 := 1#32
  let v1965 : BitVec 32 := Scalar.andi v1964 c1_i32_1634
  let c128_i32_1650 : BitVec 32 := 128#32
  let v1976 : BitVec 32 := Scalar.muli v1965 c128_i32_1650
  let v1977 : BitVec 32 := Scalar.subi v1799 v1976
  let c384_i32_1668 : BitVec 32 := 384#32
  ![v1977.toNat, 384]
def k0_dev47 (d0 : Dev nD) : Nat :=
  let c0_i32_1667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1661 : BitVec 32 := 8#32
  let v1994 : BitVec 32 := Scalar.muli v19 c8_i32_1661
  let c2_i32_1652 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1651 : BitVec 32 := 1#32
  let v1978 : BitVec 32 := Scalar.xori v46 c1_i32_1651
  let v1979 : BitVec 32 := Scalar.muli c2_i32_1652 v1978
  let c2_i32_1653 : BitVec 32 := 2#32
  let c0_i32_1654 : BitVec 32 := 0#32
  let v1980 : BitVec 1 := Scalar.cmpi .eq c2_i32_1653 c0_i32_1654
  let c1_i32_1655 : BitVec 32 := 1#32
  let v1981 : BitVec 32 := Scalar.select v1980 c1_i32_1655 c2_i32_1653
  let v1982 : BitVec 32 := Scalar.remsi v1978 v1981
  let c0_i32_1657 : BitVec 32 := 0#32
  let v1984 : BitVec 1 := Scalar.cmpi .slt v1982 c0_i32_1657
  let c0_i32_1658 : BitVec 32 := 0#32
  let v1985 : BitVec 1 := Scalar.cmpi .slt v1981 c0_i32_1658
  let v1986 : BitVec 1 := Scalar.xori v1984 v1985
  let c0_i32_1656 : BitVec 32 := 0#32
  let v1983 : BitVec 1 := Scalar.cmpi .ne v1982 c0_i32_1656
  let v1987 : BitVec 1 := Scalar.andi v1986 v1983
  let v1988 : BitVec 32 := Scalar.addi v1982 v1981
  let v1989 : BitVec 32 := Scalar.select v1987 v1988 v1982
  let c0_i32_1659 : BitVec 32 := 0#32
  let v1990 : BitVec 1 := Scalar.cmpi .eq v1989 c0_i32_1659
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1660 : BitVec 32 := 1#32
  let v1991 : BitVec 32 := Scalar.subi c1_i32_1660 v79
  let v1992 : BitVec 32 := Scalar.select v1990 v79 v1991
  let v1993 : BitVec 32 := Scalar.addi v1979 v1992
  let v1995 : BitVec 32 := Scalar.addi v1994 v1993
  let c1_i32_1666 : BitVec 32 := 1#32
  let v1996 : BitVec 32 := Scalar.muli v1995 c1_i32_1666
  let v1997 : BitVec 32 := Scalar.addi c0_i32_1667 v1996
  v1997.toNat
def k0_off91 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let c64_i32_1685 : BitVec 32 := 64#32
  let v2014 : BitVec 32 := Scalar.muli v79 c64_i32_1685
  let v2015 : BitVec 32 := Scalar.subi v1571 v2014
  let c512_i32_1703 : BitVec 32 := 512#32
  ![v2015.toNat, 512]
def k0_dev48 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1686 : BitVec 32 := 2#32
  let v2016 : BitVec 32 := Scalar.xori v19 c2_i32_1686
  let c8_i32_1696 : BitVec 32 := 8#32
  let v2032 : BitVec 32 := Scalar.muli v2016 c8_i32_1696
  let c2_i32_1687 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2017 : BitVec 32 := Scalar.muli c2_i32_1687 v46
  let c2_i32_1688 : BitVec 32 := 2#32
  let c0_i32_1689 : BitVec 32 := 0#32
  let v2018 : BitVec 1 := Scalar.cmpi .eq c2_i32_1688 c0_i32_1689
  let c1_i32_1690 : BitVec 32 := 1#32
  let v2019 : BitVec 32 := Scalar.select v2018 c1_i32_1690 c2_i32_1688
  let v2020 : BitVec 32 := Scalar.remsi v46 v2019
  let c0_i32_1692 : BitVec 32 := 0#32
  let v2022 : BitVec 1 := Scalar.cmpi .slt v2020 c0_i32_1692
  let c0_i32_1693 : BitVec 32 := 0#32
  let v2023 : BitVec 1 := Scalar.cmpi .slt v2019 c0_i32_1693
  let v2024 : BitVec 1 := Scalar.xori v2022 v2023
  let c0_i32_1691 : BitVec 32 := 0#32
  let v2021 : BitVec 1 := Scalar.cmpi .ne v2020 c0_i32_1691
  let v2025 : BitVec 1 := Scalar.andi v2024 v2021
  let v2026 : BitVec 32 := Scalar.addi v2020 v2019
  let v2027 : BitVec 32 := Scalar.select v2025 v2026 v2020
  let c0_i32_1694 : BitVec 32 := 0#32
  let v2028 : BitVec 1 := Scalar.cmpi .eq v2027 c0_i32_1694
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1695 : BitVec 32 := 1#32
  let v2029 : BitVec 32 := Scalar.subi c1_i32_1695 v79
  let v2030 : BitVec 32 := Scalar.select v2028 v79 v2029
  let v2031 : BitVec 32 := Scalar.addi v2017 v2030
  let v2033 : BitVec 32 := Scalar.addi v2032 v2031
  let c1_i32_1701 : BitVec 32 := 1#32
  let v2034 : BitVec 32 := Scalar.muli v2033 c1_i32_1701
  let v2035 : BitVec 32 := Scalar.addi c0_i32_1702 v2034
  v2035.toNat
def k0_off92 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let c64_i32_1720 : BitVec 32 := 64#32
  let v2052 : BitVec 32 := Scalar.muli v79 c64_i32_1720
  let v2053 : BitVec 32 := Scalar.subi v1588 v2052
  let c1024_i32_1738 : BitVec 32 := 1024#32
  ![v2053.toNat, 1024]
def k0_dev49 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1721 : BitVec 32 := 1#32
  let v2054 : BitVec 32 := Scalar.xori v19 c1_i32_1721
  let c8_i32_1731 : BitVec 32 := 8#32
  let v2070 : BitVec 32 := Scalar.muli v2054 c8_i32_1731
  let c2_i32_1722 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2055 : BitVec 32 := Scalar.muli c2_i32_1722 v46
  let c2_i32_1723 : BitVec 32 := 2#32
  let c0_i32_1724 : BitVec 32 := 0#32
  let v2056 : BitVec 1 := Scalar.cmpi .eq c2_i32_1723 c0_i32_1724
  let c1_i32_1725 : BitVec 32 := 1#32
  let v2057 : BitVec 32 := Scalar.select v2056 c1_i32_1725 c2_i32_1723
  let v2058 : BitVec 32 := Scalar.remsi v46 v2057
  let c0_i32_1727 : BitVec 32 := 0#32
  let v2060 : BitVec 1 := Scalar.cmpi .slt v2058 c0_i32_1727
  let c0_i32_1728 : BitVec 32 := 0#32
  let v2061 : BitVec 1 := Scalar.cmpi .slt v2057 c0_i32_1728
  let v2062 : BitVec 1 := Scalar.xori v2060 v2061
  let c0_i32_1726 : BitVec 32 := 0#32
  let v2059 : BitVec 1 := Scalar.cmpi .ne v2058 c0_i32_1726
  let v2063 : BitVec 1 := Scalar.andi v2062 v2059
  let v2064 : BitVec 32 := Scalar.addi v2058 v2057
  let v2065 : BitVec 32 := Scalar.select v2063 v2064 v2058
  let c0_i32_1729 : BitVec 32 := 0#32
  let v2066 : BitVec 1 := Scalar.cmpi .eq v2065 c0_i32_1729
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1730 : BitVec 32 := 1#32
  let v2067 : BitVec 32 := Scalar.subi c1_i32_1730 v79
  let v2068 : BitVec 32 := Scalar.select v2066 v79 v2067
  let v2069 : BitVec 32 := Scalar.addi v2055 v2068
  let v2071 : BitVec 32 := Scalar.addi v2070 v2069
  let c1_i32_1736 : BitVec 32 := 1#32
  let v2072 : BitVec 32 := Scalar.muli v2071 c1_i32_1736
  let v2073 : BitVec 32 := Scalar.addi c0_i32_1737 v2072
  v2073.toNat
def k0_off93 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let c1_i32_1430 : BitVec 32 := 1#32
  let v1746 : BitVec 32 := Scalar.shrsi v19 c1_i32_1430
  let c1_i32_1431 : BitVec 32 := 1#32
  let v1747 : BitVec 32 := Scalar.andi v1746 c1_i32_1431
  let c64_i32_1447 : BitVec 32 := 64#32
  let v1758 : BitVec 32 := Scalar.muli v1747 c64_i32_1447
  let v1759 : BitVec 32 := Scalar.subi v1535 v1758
  let c0_i32_1596 : BitVec 32 := 0#32
  let v1924 : BitVec 32 := Scalar.shrsi v19 c0_i32_1596
  let c1_i32_1597 : BitVec 32 := 1#32
  let v1925 : BitVec 32 := Scalar.andi v1924 c1_i32_1597
  let c128_i32_1613 : BitVec 32 := 128#32
  let v1936 : BitVec 32 := Scalar.muli v1925 c128_i32_1613
  let v1937 : BitVec 32 := Scalar.subi v1759 v1936
  let c1_i32_1740 : BitVec 32 := 1#32
  let v2080 : BitVec 32 := Scalar.shrsi v46 c1_i32_1740
  let c1_i32_1741 : BitVec 32 := 1#32
  let v2081 : BitVec 32 := Scalar.andi v2080 c1_i32_1741
  let c256_i32_1757 : BitVec 32 := 256#32
  let v2092 : BitVec 32 := Scalar.muli v2081 c256_i32_1757
  let v2093 : BitVec 32 := Scalar.subi v1937 v2092
  let c0_i32_1775 : BitVec 32 := 0#32
  ![v2093.toNat, 0]
def k0_dev50 (d0 : Dev nD) : Nat :=
  let c0_i32_1774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1768 : BitVec 32 := 8#32
  let v2110 : BitVec 32 := Scalar.muli v19 c8_i32_1768
  let c2_i32_1759 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1758 : BitVec 32 := 1#32
  let v2094 : BitVec 32 := Scalar.xori v46 c1_i32_1758
  let v2095 : BitVec 32 := Scalar.muli c2_i32_1759 v2094
  let c2_i32_1760 : BitVec 32 := 2#32
  let c0_i32_1761 : BitVec 32 := 0#32
  let v2096 : BitVec 1 := Scalar.cmpi .eq c2_i32_1760 c0_i32_1761
  let c1_i32_1762 : BitVec 32 := 1#32
  let v2097 : BitVec 32 := Scalar.select v2096 c1_i32_1762 c2_i32_1760
  let v2098 : BitVec 32 := Scalar.remsi v2094 v2097
  let c0_i32_1764 : BitVec 32 := 0#32
  let v2100 : BitVec 1 := Scalar.cmpi .slt v2098 c0_i32_1764
  let c0_i32_1765 : BitVec 32 := 0#32
  let v2101 : BitVec 1 := Scalar.cmpi .slt v2097 c0_i32_1765
  let v2102 : BitVec 1 := Scalar.xori v2100 v2101
  let c0_i32_1763 : BitVec 32 := 0#32
  let v2099 : BitVec 1 := Scalar.cmpi .ne v2098 c0_i32_1763
  let v2103 : BitVec 1 := Scalar.andi v2102 v2099
  let v2104 : BitVec 32 := Scalar.addi v2098 v2097
  let v2105 : BitVec 32 := Scalar.select v2103 v2104 v2098
  let c0_i32_1766 : BitVec 32 := 0#32
  let v2106 : BitVec 1 := Scalar.cmpi .eq v2105 c0_i32_1766
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1767 : BitVec 32 := 1#32
  let v2107 : BitVec 32 := Scalar.subi c1_i32_1767 v79
  let v2108 : BitVec 32 := Scalar.select v2106 v79 v2107
  let v2109 : BitVec 32 := Scalar.addi v2095 v2108
  let v2111 : BitVec 32 := Scalar.addi v2110 v2109
  let c1_i32_1773 : BitVec 32 := 1#32
  let v2112 : BitVec 32 := Scalar.muli v2111 c1_i32_1773
  let v2113 : BitVec 32 := Scalar.addi c0_i32_1774 v2112
  v2113.toNat
def k0_off94 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let c0_i32_1467 : BitVec 32 := 0#32
  let v1786 : BitVec 32 := Scalar.shrsi v19 c0_i32_1467
  let c1_i32_1468 : BitVec 32 := 1#32
  let v1787 : BitVec 32 := Scalar.andi v1786 c1_i32_1468
  let c64_i32_1484 : BitVec 32 := 64#32
  let v1798 : BitVec 32 := Scalar.muli v1787 c64_i32_1484
  let v1799 : BitVec 32 := Scalar.subi v1554 v1798
  let c1_i32_1633 : BitVec 32 := 1#32
  let v1964 : BitVec 32 := Scalar.shrsi v19 c1_i32_1633
  let c1_i32_1634 : BitVec 32 := 1#32
  let v1965 : BitVec 32 := Scalar.andi v1964 c1_i32_1634
  let c128_i32_1650 : BitVec 32 := 128#32
  let v1976 : BitVec 32 := Scalar.muli v1965 c128_i32_1650
  let v1977 : BitVec 32 := Scalar.subi v1799 v1976
  let c0_i32_1777 : BitVec 32 := 0#32
  let v2120 : BitVec 32 := Scalar.shrsi v46 c0_i32_1777
  let c1_i32_1778 : BitVec 32 := 1#32
  let v2121 : BitVec 32 := Scalar.andi v2120 c1_i32_1778
  let c256_i32_1794 : BitVec 32 := 256#32
  let v2132 : BitVec 32 := Scalar.muli v2121 c256_i32_1794
  let v2133 : BitVec 32 := Scalar.subi v1977 v2132
  let c384_i32_1812 : BitVec 32 := 384#32
  ![v2133.toNat, 384]
def k0_dev51 (d0 : Dev nD) : Nat :=
  let c0_i32_1811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1805 : BitVec 32 := 8#32
  let v2150 : BitVec 32 := Scalar.muli v19 c8_i32_1805
  let c2_i32_1796 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1795 : BitVec 32 := 2#32
  let v2134 : BitVec 32 := Scalar.xori v46 c2_i32_1795
  let v2135 : BitVec 32 := Scalar.muli c2_i32_1796 v2134
  let c2_i32_1797 : BitVec 32 := 2#32
  let c0_i32_1798 : BitVec 32 := 0#32
  let v2136 : BitVec 1 := Scalar.cmpi .eq c2_i32_1797 c0_i32_1798
  let c1_i32_1799 : BitVec 32 := 1#32
  let v2137 : BitVec 32 := Scalar.select v2136 c1_i32_1799 c2_i32_1797
  let v2138 : BitVec 32 := Scalar.remsi v2134 v2137
  let c0_i32_1801 : BitVec 32 := 0#32
  let v2140 : BitVec 1 := Scalar.cmpi .slt v2138 c0_i32_1801
  let c0_i32_1802 : BitVec 32 := 0#32
  let v2141 : BitVec 1 := Scalar.cmpi .slt v2137 c0_i32_1802
  let v2142 : BitVec 1 := Scalar.xori v2140 v2141
  let c0_i32_1800 : BitVec 32 := 0#32
  let v2139 : BitVec 1 := Scalar.cmpi .ne v2138 c0_i32_1800
  let v2143 : BitVec 1 := Scalar.andi v2142 v2139
  let v2144 : BitVec 32 := Scalar.addi v2138 v2137
  let v2145 : BitVec 32 := Scalar.select v2143 v2144 v2138
  let c0_i32_1803 : BitVec 32 := 0#32
  let v2146 : BitVec 1 := Scalar.cmpi .eq v2145 c0_i32_1803
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1804 : BitVec 32 := 1#32
  let v2147 : BitVec 32 := Scalar.subi c1_i32_1804 v79
  let v2148 : BitVec 32 := Scalar.select v2146 v79 v2147
  let v2149 : BitVec 32 := Scalar.addi v2135 v2148
  let v2151 : BitVec 32 := Scalar.addi v2150 v2149
  let c1_i32_1810 : BitVec 32 := 1#32
  let v2152 : BitVec 32 := Scalar.muli v2151 c1_i32_1810
  let v2153 : BitVec 32 := Scalar.addi c0_i32_1811 v2152
  v2153.toNat
def k0_off95 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let c64_i32_1685 : BitVec 32 := 64#32
  let v2014 : BitVec 32 := Scalar.muli v79 c64_i32_1685
  let v2015 : BitVec 32 := Scalar.subi v1571 v2014
  let c1_i32_1814 : BitVec 32 := 1#32
  let v2160 : BitVec 32 := Scalar.shrsi v19 c1_i32_1814
  let c1_i32_1815 : BitVec 32 := 1#32
  let v2161 : BitVec 32 := Scalar.andi v2160 c1_i32_1815
  let c128_i32_1831 : BitVec 32 := 128#32
  let v2172 : BitVec 32 := Scalar.muli v2161 c128_i32_1831
  let v2173 : BitVec 32 := Scalar.subi v2015 v2172
  let c512_i32_1849 : BitVec 32 := 512#32
  ![v2173.toNat, 512]
def k0_dev52 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1832 : BitVec 32 := 1#32
  let v2174 : BitVec 32 := Scalar.xori v19 c1_i32_1832
  let c8_i32_1842 : BitVec 32 := 8#32
  let v2190 : BitVec 32 := Scalar.muli v2174 c8_i32_1842
  let c2_i32_1833 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2175 : BitVec 32 := Scalar.muli c2_i32_1833 v46
  let c2_i32_1834 : BitVec 32 := 2#32
  let c0_i32_1835 : BitVec 32 := 0#32
  let v2176 : BitVec 1 := Scalar.cmpi .eq c2_i32_1834 c0_i32_1835
  let c1_i32_1836 : BitVec 32 := 1#32
  let v2177 : BitVec 32 := Scalar.select v2176 c1_i32_1836 c2_i32_1834
  let v2178 : BitVec 32 := Scalar.remsi v46 v2177
  let c0_i32_1838 : BitVec 32 := 0#32
  let v2180 : BitVec 1 := Scalar.cmpi .slt v2178 c0_i32_1838
  let c0_i32_1839 : BitVec 32 := 0#32
  let v2181 : BitVec 1 := Scalar.cmpi .slt v2177 c0_i32_1839
  let v2182 : BitVec 1 := Scalar.xori v2180 v2181
  let c0_i32_1837 : BitVec 32 := 0#32
  let v2179 : BitVec 1 := Scalar.cmpi .ne v2178 c0_i32_1837
  let v2183 : BitVec 1 := Scalar.andi v2182 v2179
  let v2184 : BitVec 32 := Scalar.addi v2178 v2177
  let v2185 : BitVec 32 := Scalar.select v2183 v2184 v2178
  let c0_i32_1840 : BitVec 32 := 0#32
  let v2186 : BitVec 1 := Scalar.cmpi .eq v2185 c0_i32_1840
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1841 : BitVec 32 := 1#32
  let v2187 : BitVec 32 := Scalar.subi c1_i32_1841 v79
  let v2188 : BitVec 32 := Scalar.select v2186 v79 v2187
  let v2189 : BitVec 32 := Scalar.addi v2175 v2188
  let v2191 : BitVec 32 := Scalar.addi v2190 v2189
  let c1_i32_1847 : BitVec 32 := 1#32
  let v2192 : BitVec 32 := Scalar.muli v2191 c1_i32_1847
  let v2193 : BitVec 32 := Scalar.addi c0_i32_1848 v2192
  v2193.toNat
def k0_off96 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let c64_i32_1720 : BitVec 32 := 64#32
  let v2052 : BitVec 32 := Scalar.muli v79 c64_i32_1720
  let v2053 : BitVec 32 := Scalar.subi v1588 v2052
  let c0_i32_1851 : BitVec 32 := 0#32
  let v2200 : BitVec 32 := Scalar.shrsi v19 c0_i32_1851
  let c1_i32_1852 : BitVec 32 := 1#32
  let v2201 : BitVec 32 := Scalar.andi v2200 c1_i32_1852
  let c128_i32_1868 : BitVec 32 := 128#32
  let v2212 : BitVec 32 := Scalar.muli v2201 c128_i32_1868
  let v2213 : BitVec 32 := Scalar.subi v2053 v2212
  let c1024_i32_1886 : BitVec 32 := 1024#32
  ![v2213.toNat, 1024]
def k0_dev53 (d0 : Dev nD) : Nat :=
  let c0_i32_1885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1869 : BitVec 32 := 2#32
  let v2214 : BitVec 32 := Scalar.xori v19 c2_i32_1869
  let c8_i32_1879 : BitVec 32 := 8#32
  let v2230 : BitVec 32 := Scalar.muli v2214 c8_i32_1879
  let c2_i32_1870 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2215 : BitVec 32 := Scalar.muli c2_i32_1870 v46
  let c2_i32_1871 : BitVec 32 := 2#32
  let c0_i32_1872 : BitVec 32 := 0#32
  let v2216 : BitVec 1 := Scalar.cmpi .eq c2_i32_1871 c0_i32_1872
  let c1_i32_1873 : BitVec 32 := 1#32
  let v2217 : BitVec 32 := Scalar.select v2216 c1_i32_1873 c2_i32_1871
  let v2218 : BitVec 32 := Scalar.remsi v46 v2217
  let c0_i32_1875 : BitVec 32 := 0#32
  let v2220 : BitVec 1 := Scalar.cmpi .slt v2218 c0_i32_1875
  let c0_i32_1876 : BitVec 32 := 0#32
  let v2221 : BitVec 1 := Scalar.cmpi .slt v2217 c0_i32_1876
  let v2222 : BitVec 1 := Scalar.xori v2220 v2221
  let c0_i32_1874 : BitVec 32 := 0#32
  let v2219 : BitVec 1 := Scalar.cmpi .ne v2218 c0_i32_1874
  let v2223 : BitVec 1 := Scalar.andi v2222 v2219
  let v2224 : BitVec 32 := Scalar.addi v2218 v2217
  let v2225 : BitVec 32 := Scalar.select v2223 v2224 v2218
  let c0_i32_1877 : BitVec 32 := 0#32
  let v2226 : BitVec 1 := Scalar.cmpi .eq v2225 c0_i32_1877
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1878 : BitVec 32 := 1#32
  let v2227 : BitVec 32 := Scalar.subi c1_i32_1878 v79
  let v2228 : BitVec 32 := Scalar.select v2226 v79 v2227
  let v2229 : BitVec 32 := Scalar.addi v2215 v2228
  let v2231 : BitVec 32 := Scalar.addi v2230 v2229
  let c1_i32_1884 : BitVec 32 := 1#32
  let v2232 : BitVec 32 := Scalar.muli v2231 c1_i32_1884
  let v2233 : BitVec 32 := Scalar.addi c0_i32_1885 v2232
  v2233.toNat
def k0_off97 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let c1_i32_1522 : BitVec 32 := 1#32
  let v1844 : BitVec 32 := Scalar.shrsi v46 c1_i32_1522
  let c1_i32_1523 : BitVec 32 := 1#32
  let v1845 : BitVec 32 := Scalar.andi v1844 c1_i32_1523
  let c64_i32_1539 : BitVec 32 := 64#32
  let v1856 : BitVec 32 := Scalar.muli v1845 c64_i32_1539
  let v1857 : BitVec 32 := Scalar.subi v1607 v1856
  let c0_i32_1888 : BitVec 32 := 0#32
  let v2240 : BitVec 32 := Scalar.shrsi v46 c0_i32_1888
  let c1_i32_1889 : BitVec 32 := 1#32
  let v2241 : BitVec 32 := Scalar.andi v2240 c1_i32_1889
  let c128_i32_1905 : BitVec 32 := 128#32
  let v2252 : BitVec 32 := Scalar.muli v2241 c128_i32_1905
  let v2253 : BitVec 32 := Scalar.subi v1857 v2252
  let c1280_i32_1913 : BitVec 32 := 1280#32
  ![v2253.toNat, 1280]
def k0_dev54 (d0 : Dev nD) : Nat :=
  let c0_i32_1912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1906 : BitVec 32 := 1#32
  let v2254 : BitVec 32 := Scalar.xori v2 c1_i32_1906
  let c1_i32_1911 : BitVec 32 := 1#32
  let v2255 : BitVec 32 := Scalar.muli v2254 c1_i32_1911
  let v2256 : BitVec 32 := Scalar.addi c0_i32_1912 v2255
  v2256.toNat
def k0_off98 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let c0_i32_1559 : BitVec 32 := 0#32
  let v1884 : BitVec 32 := Scalar.shrsi v46 c0_i32_1559
  let c1_i32_1560 : BitVec 32 := 1#32
  let v1885 : BitVec 32 := Scalar.andi v1884 c1_i32_1560
  let c64_i32_1576 : BitVec 32 := 64#32
  let v1896 : BitVec 32 := Scalar.muli v1885 c64_i32_1576
  let v1897 : BitVec 32 := Scalar.subi v1626 v1896
  let c1_i32_1915 : BitVec 32 := 1#32
  let v2263 : BitVec 32 := Scalar.shrsi v46 c1_i32_1915
  let c1_i32_1916 : BitVec 32 := 1#32
  let v2264 : BitVec 32 := Scalar.andi v2263 c1_i32_1916
  let c128_i32_1932 : BitVec 32 := 128#32
  let v2275 : BitVec 32 := Scalar.muli v2264 c128_i32_1932
  let v2276 : BitVec 32 := Scalar.subi v1897 v2275
  let c1792_i32_1940 : BitVec 32 := 1792#32
  ![v2276.toNat, 1792]
def k0_dev55 (d0 : Dev nD) : Nat :=
  let c0_i32_1939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1933 : BitVec 32 := 1#32
  let v2277 : BitVec 32 := Scalar.xori v2 c1_i32_1933
  let c1_i32_1938 : BitVec 32 := 1#32
  let v2278 : BitVec 32 := Scalar.muli v2277 c1_i32_1938
  let v2279 : BitVec 32 := Scalar.addi c0_i32_1939 v2278
  v2279.toNat
def k0_off99 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let c64_i32_1685 : BitVec 32 := 64#32
  let v2014 : BitVec 32 := Scalar.muli v79 c64_i32_1685
  let v2015 : BitVec 32 := Scalar.subi v1571 v2014
  let c1_i32_1814 : BitVec 32 := 1#32
  let v2160 : BitVec 32 := Scalar.shrsi v19 c1_i32_1814
  let c1_i32_1815 : BitVec 32 := 1#32
  let v2161 : BitVec 32 := Scalar.andi v2160 c1_i32_1815
  let c128_i32_1831 : BitVec 32 := 128#32
  let v2172 : BitVec 32 := Scalar.muli v2161 c128_i32_1831
  let v2173 : BitVec 32 := Scalar.subi v2015 v2172
  let c0_i32_1942 : BitVec 32 := 0#32
  let v2286 : BitVec 32 := Scalar.shrsi v19 c0_i32_1942
  let c1_i32_1943 : BitVec 32 := 1#32
  let v2287 : BitVec 32 := Scalar.andi v2286 c1_i32_1943
  let c256_i32_1959 : BitVec 32 := 256#32
  let v2298 : BitVec 32 := Scalar.muli v2287 c256_i32_1959
  let v2299 : BitVec 32 := Scalar.subi v2173 v2298
  let c512_i32_1977 : BitVec 32 := 512#32
  ![v2299.toNat, 512]
def k0_dev56 (d0 : Dev nD) : Nat :=
  let c0_i32_1976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1970 : BitVec 32 := 8#32
  let v2316 : BitVec 32 := Scalar.muli v19 c8_i32_1970
  let c2_i32_1961 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1960 : BitVec 32 := 2#32
  let v2300 : BitVec 32 := Scalar.xori v46 c2_i32_1960
  let v2301 : BitVec 32 := Scalar.muli c2_i32_1961 v2300
  let c2_i32_1962 : BitVec 32 := 2#32
  let c0_i32_1963 : BitVec 32 := 0#32
  let v2302 : BitVec 1 := Scalar.cmpi .eq c2_i32_1962 c0_i32_1963
  let c1_i32_1964 : BitVec 32 := 1#32
  let v2303 : BitVec 32 := Scalar.select v2302 c1_i32_1964 c2_i32_1962
  let v2304 : BitVec 32 := Scalar.remsi v2300 v2303
  let c0_i32_1966 : BitVec 32 := 0#32
  let v2306 : BitVec 1 := Scalar.cmpi .slt v2304 c0_i32_1966
  let c0_i32_1967 : BitVec 32 := 0#32
  let v2307 : BitVec 1 := Scalar.cmpi .slt v2303 c0_i32_1967
  let v2308 : BitVec 1 := Scalar.xori v2306 v2307
  let c0_i32_1965 : BitVec 32 := 0#32
  let v2305 : BitVec 1 := Scalar.cmpi .ne v2304 c0_i32_1965
  let v2309 : BitVec 1 := Scalar.andi v2308 v2305
  let v2310 : BitVec 32 := Scalar.addi v2304 v2303
  let v2311 : BitVec 32 := Scalar.select v2309 v2310 v2304
  let c0_i32_1968 : BitVec 32 := 0#32
  let v2312 : BitVec 1 := Scalar.cmpi .eq v2311 c0_i32_1968
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_1969 : BitVec 32 := 1#32
  let v2313 : BitVec 32 := Scalar.subi c1_i32_1969 v79
  let v2314 : BitVec 32 := Scalar.select v2312 v79 v2313
  let v2315 : BitVec 32 := Scalar.addi v2301 v2314
  let v2317 : BitVec 32 := Scalar.addi v2316 v2315
  let c1_i32_1975 : BitVec 32 := 1#32
  let v2318 : BitVec 32 := Scalar.muli v2317 c1_i32_1975
  let v2319 : BitVec 32 := Scalar.addi c0_i32_1976 v2318
  v2319.toNat
def k0_off100 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let c64_i32_1720 : BitVec 32 := 64#32
  let v2052 : BitVec 32 := Scalar.muli v79 c64_i32_1720
  let v2053 : BitVec 32 := Scalar.subi v1588 v2052
  let c0_i32_1851 : BitVec 32 := 0#32
  let v2200 : BitVec 32 := Scalar.shrsi v19 c0_i32_1851
  let c1_i32_1852 : BitVec 32 := 1#32
  let v2201 : BitVec 32 := Scalar.andi v2200 c1_i32_1852
  let c128_i32_1868 : BitVec 32 := 128#32
  let v2212 : BitVec 32 := Scalar.muli v2201 c128_i32_1868
  let v2213 : BitVec 32 := Scalar.subi v2053 v2212
  let c1_i32_1979 : BitVec 32 := 1#32
  let v2326 : BitVec 32 := Scalar.shrsi v19 c1_i32_1979
  let c1_i32_1980 : BitVec 32 := 1#32
  let v2327 : BitVec 32 := Scalar.andi v2326 c1_i32_1980
  let c256_i32_1996 : BitVec 32 := 256#32
  let v2338 : BitVec 32 := Scalar.muli v2327 c256_i32_1996
  let v2339 : BitVec 32 := Scalar.subi v2213 v2338
  let c1024_i32_2014 : BitVec 32 := 1024#32
  ![v2339.toNat, 1024]
def k0_dev57 (d0 : Dev nD) : Nat :=
  let c0_i32_2013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2007 : BitVec 32 := 8#32
  let v2356 : BitVec 32 := Scalar.muli v19 c8_i32_2007
  let c2_i32_1998 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1997 : BitVec 32 := 1#32
  let v2340 : BitVec 32 := Scalar.xori v46 c1_i32_1997
  let v2341 : BitVec 32 := Scalar.muli c2_i32_1998 v2340
  let c2_i32_1999 : BitVec 32 := 2#32
  let c0_i32_2000 : BitVec 32 := 0#32
  let v2342 : BitVec 1 := Scalar.cmpi .eq c2_i32_1999 c0_i32_2000
  let c1_i32_2001 : BitVec 32 := 1#32
  let v2343 : BitVec 32 := Scalar.select v2342 c1_i32_2001 c2_i32_1999
  let v2344 : BitVec 32 := Scalar.remsi v2340 v2343
  let c0_i32_2003 : BitVec 32 := 0#32
  let v2346 : BitVec 1 := Scalar.cmpi .slt v2344 c0_i32_2003
  let c0_i32_2004 : BitVec 32 := 0#32
  let v2347 : BitVec 1 := Scalar.cmpi .slt v2343 c0_i32_2004
  let v2348 : BitVec 1 := Scalar.xori v2346 v2347
  let c0_i32_2002 : BitVec 32 := 0#32
  let v2345 : BitVec 1 := Scalar.cmpi .ne v2344 c0_i32_2002
  let v2349 : BitVec 1 := Scalar.andi v2348 v2345
  let v2350 : BitVec 32 := Scalar.addi v2344 v2343
  let v2351 : BitVec 32 := Scalar.select v2349 v2350 v2344
  let c0_i32_2005 : BitVec 32 := 0#32
  let v2352 : BitVec 1 := Scalar.cmpi .eq v2351 c0_i32_2005
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2006 : BitVec 32 := 1#32
  let v2353 : BitVec 32 := Scalar.subi c1_i32_2006 v79
  let v2354 : BitVec 32 := Scalar.select v2352 v79 v2353
  let v2355 : BitVec 32 := Scalar.addi v2341 v2354
  let v2357 : BitVec 32 := Scalar.addi v2356 v2355
  let c1_i32_2012 : BitVec 32 := 1#32
  let v2358 : BitVec 32 := Scalar.muli v2357 c1_i32_2012
  let v2359 : BitVec 32 := Scalar.addi c0_i32_2013 v2358
  v2359.toNat
def k0_off101 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let c1_i32_1522 : BitVec 32 := 1#32
  let v1844 : BitVec 32 := Scalar.shrsi v46 c1_i32_1522
  let c1_i32_1523 : BitVec 32 := 1#32
  let v1845 : BitVec 32 := Scalar.andi v1844 c1_i32_1523
  let c64_i32_1539 : BitVec 32 := 64#32
  let v1856 : BitVec 32 := Scalar.muli v1845 c64_i32_1539
  let v1857 : BitVec 32 := Scalar.subi v1607 v1856
  let c0_i32_1888 : BitVec 32 := 0#32
  let v2240 : BitVec 32 := Scalar.shrsi v46 c0_i32_1888
  let c1_i32_1889 : BitVec 32 := 1#32
  let v2241 : BitVec 32 := Scalar.andi v2240 c1_i32_1889
  let c128_i32_1905 : BitVec 32 := 128#32
  let v2252 : BitVec 32 := Scalar.muli v2241 c128_i32_1905
  let v2253 : BitVec 32 := Scalar.subi v1857 v2252
  let c256_i32_2031 : BitVec 32 := 256#32
  let v2376 : BitVec 32 := Scalar.muli v79 c256_i32_2031
  let v2377 : BitVec 32 := Scalar.subi v2253 v2376
  let c1280_i32_2049 : BitVec 32 := 1280#32
  ![v2377.toNat, 1280]
def k0_dev58 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2032 : BitVec 32 := 2#32
  let v2378 : BitVec 32 := Scalar.xori v19 c2_i32_2032
  let c8_i32_2042 : BitVec 32 := 8#32
  let v2394 : BitVec 32 := Scalar.muli v2378 c8_i32_2042
  let c2_i32_2033 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2379 : BitVec 32 := Scalar.muli c2_i32_2033 v46
  let c2_i32_2034 : BitVec 32 := 2#32
  let c0_i32_2035 : BitVec 32 := 0#32
  let v2380 : BitVec 1 := Scalar.cmpi .eq c2_i32_2034 c0_i32_2035
  let c1_i32_2036 : BitVec 32 := 1#32
  let v2381 : BitVec 32 := Scalar.select v2380 c1_i32_2036 c2_i32_2034
  let v2382 : BitVec 32 := Scalar.remsi v46 v2381
  let c0_i32_2038 : BitVec 32 := 0#32
  let v2384 : BitVec 1 := Scalar.cmpi .slt v2382 c0_i32_2038
  let c0_i32_2039 : BitVec 32 := 0#32
  let v2385 : BitVec 1 := Scalar.cmpi .slt v2381 c0_i32_2039
  let v2386 : BitVec 1 := Scalar.xori v2384 v2385
  let c0_i32_2037 : BitVec 32 := 0#32
  let v2383 : BitVec 1 := Scalar.cmpi .ne v2382 c0_i32_2037
  let v2387 : BitVec 1 := Scalar.andi v2386 v2383
  let v2388 : BitVec 32 := Scalar.addi v2382 v2381
  let v2389 : BitVec 32 := Scalar.select v2387 v2388 v2382
  let c0_i32_2040 : BitVec 32 := 0#32
  let v2390 : BitVec 1 := Scalar.cmpi .eq v2389 c0_i32_2040
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2041 : BitVec 32 := 1#32
  let v2391 : BitVec 32 := Scalar.subi c1_i32_2041 v79
  let v2392 : BitVec 32 := Scalar.select v2390 v79 v2391
  let v2393 : BitVec 32 := Scalar.addi v2379 v2392
  let v2395 : BitVec 32 := Scalar.addi v2394 v2393
  let c1_i32_2047 : BitVec 32 := 1#32
  let v2396 : BitVec 32 := Scalar.muli v2395 c1_i32_2047
  let v2397 : BitVec 32 := Scalar.addi c0_i32_2048 v2396
  v2397.toNat
def k0_off102 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let c0_i32_1559 : BitVec 32 := 0#32
  let v1884 : BitVec 32 := Scalar.shrsi v46 c0_i32_1559
  let c1_i32_1560 : BitVec 32 := 1#32
  let v1885 : BitVec 32 := Scalar.andi v1884 c1_i32_1560
  let c64_i32_1576 : BitVec 32 := 64#32
  let v1896 : BitVec 32 := Scalar.muli v1885 c64_i32_1576
  let v1897 : BitVec 32 := Scalar.subi v1626 v1896
  let c1_i32_1915 : BitVec 32 := 1#32
  let v2263 : BitVec 32 := Scalar.shrsi v46 c1_i32_1915
  let c1_i32_1916 : BitVec 32 := 1#32
  let v2264 : BitVec 32 := Scalar.andi v2263 c1_i32_1916
  let c128_i32_1932 : BitVec 32 := 128#32
  let v2275 : BitVec 32 := Scalar.muli v2264 c128_i32_1932
  let v2276 : BitVec 32 := Scalar.subi v1897 v2275
  let c256_i32_2066 : BitVec 32 := 256#32
  let v2414 : BitVec 32 := Scalar.muli v79 c256_i32_2066
  let v2415 : BitVec 32 := Scalar.subi v2276 v2414
  let c1792_i32_2084 : BitVec 32 := 1792#32
  ![v2415.toNat, 1792]
def k0_dev59 (d0 : Dev nD) : Nat :=
  let c0_i32_2083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2067 : BitVec 32 := 1#32
  let v2416 : BitVec 32 := Scalar.xori v19 c1_i32_2067
  let c8_i32_2077 : BitVec 32 := 8#32
  let v2432 : BitVec 32 := Scalar.muli v2416 c8_i32_2077
  let c2_i32_2068 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2417 : BitVec 32 := Scalar.muli c2_i32_2068 v46
  let c2_i32_2069 : BitVec 32 := 2#32
  let c0_i32_2070 : BitVec 32 := 0#32
  let v2418 : BitVec 1 := Scalar.cmpi .eq c2_i32_2069 c0_i32_2070
  let c1_i32_2071 : BitVec 32 := 1#32
  let v2419 : BitVec 32 := Scalar.select v2418 c1_i32_2071 c2_i32_2069
  let v2420 : BitVec 32 := Scalar.remsi v46 v2419
  let c0_i32_2073 : BitVec 32 := 0#32
  let v2422 : BitVec 1 := Scalar.cmpi .slt v2420 c0_i32_2073
  let c0_i32_2074 : BitVec 32 := 0#32
  let v2423 : BitVec 1 := Scalar.cmpi .slt v2419 c0_i32_2074
  let v2424 : BitVec 1 := Scalar.xori v2422 v2423
  let c0_i32_2072 : BitVec 32 := 0#32
  let v2421 : BitVec 1 := Scalar.cmpi .ne v2420 c0_i32_2072
  let v2425 : BitVec 1 := Scalar.andi v2424 v2421
  let v2426 : BitVec 32 := Scalar.addi v2420 v2419
  let v2427 : BitVec 32 := Scalar.select v2425 v2426 v2420
  let c0_i32_2075 : BitVec 32 := 0#32
  let v2428 : BitVec 1 := Scalar.cmpi .eq v2427 c0_i32_2075
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2076 : BitVec 32 := 1#32
  let v2429 : BitVec 32 := Scalar.subi c1_i32_2076 v79
  let v2430 : BitVec 32 := Scalar.select v2428 v79 v2429
  let v2431 : BitVec 32 := Scalar.addi v2417 v2430
  let v2433 : BitVec 32 := Scalar.addi v2432 v2431
  let c1_i32_2082 : BitVec 32 := 1#32
  let v2434 : BitVec 32 := Scalar.muli v2433 c1_i32_2082
  let v2435 : BitVec 32 := Scalar.addi c0_i32_2083 v2434
  v2435.toNat
def k0_off103 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_455 : BitVec 32 := 1024#32
  let v636 : BitVec 32 := Scalar.muli v79 c1024_i32_455
  let v637 : BitVec 32 := Scalar.addi c0_i32_456 v636
  let c0_i32_680 : BitVec 32 := 0#32
  let v888 : BitVec 32 := Scalar.shrsi v46 c0_i32_680
  let c1_i32_681 : BitVec 32 := 1#32
  let v889 : BitVec 32 := Scalar.andi v888 c1_i32_681
  let c512_i32_682 : BitVec 32 := 512#32
  let v890 : BitVec 32 := Scalar.muli v889 c512_i32_682
  let v891 : BitVec 32 := Scalar.addi v637 v890
  let c1_i32_847 : BitVec 32 := 1#32
  let v1084 : BitVec 32 := Scalar.shrsi v46 c1_i32_847
  let c1_i32_848 : BitVec 32 := 1#32
  let v1085 : BitVec 32 := Scalar.andi v1084 c1_i32_848
  let c256_i32_849 : BitVec 32 := 256#32
  let v1086 : BitVec 32 := Scalar.muli v1085 c256_i32_849
  let v1087 : BitVec 32 := Scalar.addi v891 v1086
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_1070 : BitVec 32 := 0#32
  let v1336 : BitVec 32 := Scalar.shrsi v19 c0_i32_1070
  let c1_i32_1071 : BitVec 32 := 1#32
  let v1337 : BitVec 32 := Scalar.andi v1336 c1_i32_1071
  let c128_i32_1072 : BitVec 32 := 128#32
  let v1338 : BitVec 32 := Scalar.muli v1337 c128_i32_1072
  let v1339 : BitVec 32 := Scalar.addi v1087 v1338
  let c1_i32_1238 : BitVec 32 := 1#32
  let v1532 : BitVec 32 := Scalar.shrsi v19 c1_i32_1238
  let c1_i32_1239 : BitVec 32 := 1#32
  let v1533 : BitVec 32 := Scalar.andi v1532 c1_i32_1239
  let c64_i32_1240 : BitVec 32 := 64#32
  let v1534 : BitVec 32 := Scalar.muli v1533 c64_i32_1240
  let v1535 : BitVec 32 := Scalar.addi v1339 v1534
  let c1_i32_1430 : BitVec 32 := 1#32
  let v1746 : BitVec 32 := Scalar.shrsi v19 c1_i32_1430
  let c1_i32_1431 : BitVec 32 := 1#32
  let v1747 : BitVec 32 := Scalar.andi v1746 c1_i32_1431
  let c64_i32_1447 : BitVec 32 := 64#32
  let v1758 : BitVec 32 := Scalar.muli v1747 c64_i32_1447
  let v1759 : BitVec 32 := Scalar.subi v1535 v1758
  let c0_i32_1596 : BitVec 32 := 0#32
  let v1924 : BitVec 32 := Scalar.shrsi v19 c0_i32_1596
  let c1_i32_1597 : BitVec 32 := 1#32
  let v1925 : BitVec 32 := Scalar.andi v1924 c1_i32_1597
  let c128_i32_1613 : BitVec 32 := 128#32
  let v1936 : BitVec 32 := Scalar.muli v1925 c128_i32_1613
  let v1937 : BitVec 32 := Scalar.subi v1759 v1936
  let c1_i32_1740 : BitVec 32 := 1#32
  let v2080 : BitVec 32 := Scalar.shrsi v46 c1_i32_1740
  let c1_i32_1741 : BitVec 32 := 1#32
  let v2081 : BitVec 32 := Scalar.andi v2080 c1_i32_1741
  let c256_i32_1757 : BitVec 32 := 256#32
  let v2092 : BitVec 32 := Scalar.muli v2081 c256_i32_1757
  let v2093 : BitVec 32 := Scalar.subi v1937 v2092
  let c0_i32_2086 : BitVec 32 := 0#32
  let v2442 : BitVec 32 := Scalar.shrsi v46 c0_i32_2086
  let c1_i32_2087 : BitVec 32 := 1#32
  let v2443 : BitVec 32 := Scalar.andi v2442 c1_i32_2087
  let c512_i32_2103 : BitVec 32 := 512#32
  let v2454 : BitVec 32 := Scalar.muli v2443 c512_i32_2103
  let v2455 : BitVec 32 := Scalar.subi v2093 v2454
  let c0_i32_2111 : BitVec 32 := 0#32
  ![v2455.toNat, 0]
def k0_dev60 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2104 : BitVec 32 := 1#32
  let v2456 : BitVec 32 := Scalar.xori v2 c1_i32_2104
  let c1_i32_2109 : BitVec 32 := 1#32
  let v2457 : BitVec 32 := Scalar.muli v2456 c1_i32_2109
  let v2458 : BitVec 32 := Scalar.addi c0_i32_2110 v2457
  v2458.toNat
def k0_off104 (d0 : Dev nD) : Fin 2 → Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1024_i32_496 : BitVec 32 := 1024#32
  let v683 : BitVec 32 := Scalar.muli v79 c1024_i32_496
  let v684 : BitVec 32 := Scalar.addi c0_i32_497 v683
  let c1_i32_722 : BitVec 32 := 1#32
  let v937 : BitVec 32 := Scalar.shrsi v46 c1_i32_722
  let c1_i32_723 : BitVec 32 := 1#32
  let v938 : BitVec 32 := Scalar.andi v937 c1_i32_723
  let c512_i32_724 : BitVec 32 := 512#32
  let v939 : BitVec 32 := Scalar.muli v938 c512_i32_724
  let v940 : BitVec 32 := Scalar.addi v684 v939
  let c0_i32_889 : BitVec 32 := 0#32
  let v1133 : BitVec 32 := Scalar.shrsi v46 c0_i32_889
  let c1_i32_890 : BitVec 32 := 1#32
  let v1134 : BitVec 32 := Scalar.andi v1133 c1_i32_890
  let c256_i32_891 : BitVec 32 := 256#32
  let v1135 : BitVec 32 := Scalar.muli v1134 c256_i32_891
  let v1136 : BitVec 32 := Scalar.addi v940 v1135
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1112 : BitVec 32 := 1#32
  let v1385 : BitVec 32 := Scalar.shrsi v19 c1_i32_1112
  let c1_i32_1113 : BitVec 32 := 1#32
  let v1386 : BitVec 32 := Scalar.andi v1385 c1_i32_1113
  let c128_i32_1114 : BitVec 32 := 128#32
  let v1387 : BitVec 32 := Scalar.muli v1386 c128_i32_1114
  let v1388 : BitVec 32 := Scalar.addi v1136 v1387
  let c0_i32_1258 : BitVec 32 := 0#32
  let v1551 : BitVec 32 := Scalar.shrsi v19 c0_i32_1258
  let c1_i32_1259 : BitVec 32 := 1#32
  let v1552 : BitVec 32 := Scalar.andi v1551 c1_i32_1259
  let c64_i32_1260 : BitVec 32 := 64#32
  let v1553 : BitVec 32 := Scalar.muli v1552 c64_i32_1260
  let v1554 : BitVec 32 := Scalar.addi v1388 v1553
  let c0_i32_1467 : BitVec 32 := 0#32
  let v1786 : BitVec 32 := Scalar.shrsi v19 c0_i32_1467
  let c1_i32_1468 : BitVec 32 := 1#32
  let v1787 : BitVec 32 := Scalar.andi v1786 c1_i32_1468
  let c64_i32_1484 : BitVec 32 := 64#32
  let v1798 : BitVec 32 := Scalar.muli v1787 c64_i32_1484
  let v1799 : BitVec 32 := Scalar.subi v1554 v1798
  let c1_i32_1633 : BitVec 32 := 1#32
  let v1964 : BitVec 32 := Scalar.shrsi v19 c1_i32_1633
  let c1_i32_1634 : BitVec 32 := 1#32
  let v1965 : BitVec 32 := Scalar.andi v1964 c1_i32_1634
  let c128_i32_1650 : BitVec 32 := 128#32
  let v1976 : BitVec 32 := Scalar.muli v1965 c128_i32_1650
  let v1977 : BitVec 32 := Scalar.subi v1799 v1976
  let c0_i32_1777 : BitVec 32 := 0#32
  let v2120 : BitVec 32 := Scalar.shrsi v46 c0_i32_1777
  let c1_i32_1778 : BitVec 32 := 1#32
  let v2121 : BitVec 32 := Scalar.andi v2120 c1_i32_1778
  let c256_i32_1794 : BitVec 32 := 256#32
  let v2132 : BitVec 32 := Scalar.muli v2121 c256_i32_1794
  let v2133 : BitVec 32 := Scalar.subi v1977 v2132
  let c1_i32_2113 : BitVec 32 := 1#32
  let v2465 : BitVec 32 := Scalar.shrsi v46 c1_i32_2113
  let c1_i32_2114 : BitVec 32 := 1#32
  let v2466 : BitVec 32 := Scalar.andi v2465 c1_i32_2114
  let c512_i32_2130 : BitVec 32 := 512#32
  let v2477 : BitVec 32 := Scalar.muli v2466 c512_i32_2130
  let v2478 : BitVec 32 := Scalar.subi v2133 v2477
  let c384_i32_2138 : BitVec 32 := 384#32
  ![v2478.toNat, 384]
def k0_dev61 (d0 : Dev nD) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2131 : BitVec 32 := 1#32
  let v2479 : BitVec 32 := Scalar.xori v2 c1_i32_2131
  let c1_i32_2136 : BitVec 32 := 1#32
  let v2480 : BitVec 32 := Scalar.muli v2479 c1_i32_2136
  let v2481 : BitVec 32 := Scalar.addi c0_i32_2137 v2480
  v2481.toNat
def k0_off105 (d0 : Dev nD) : Fin 2 → Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_283 : BitVec 32 := 0#32
  let v440 : BitVec 32 := Scalar.shrsi v46 c0_i32_283
  let c1_i32_284 : BitVec 32 := 1#32
  let v441 : BitVec 32 := Scalar.andi v440 c1_i32_284
  let c1024_i32_285 : BitVec 32 := 1024#32
  let v442 : BitVec 32 := Scalar.muli v441 c1024_i32_285
  let v443 : BitVec 32 := Scalar.addi c0_i32_286 v442
  let c1_i32_537 : BitVec 32 := 1#32
  let v730 : BitVec 32 := Scalar.shrsi v46 c1_i32_537
  let c1_i32_538 : BitVec 32 := 1#32
  let v731 : BitVec 32 := Scalar.andi v730 c1_i32_538
  let c512_i32_539 : BitVec 32 := 512#32
  let v732 : BitVec 32 := Scalar.muli v731 c512_i32_539
  let v733 : BitVec 32 := Scalar.addi v443 v732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_764 : BitVec 32 := 0#32
  let v986 : BitVec 32 := Scalar.shrsi v19 c0_i32_764
  let c1_i32_765 : BitVec 32 := 1#32
  let v987 : BitVec 32 := Scalar.andi v986 c1_i32_765
  let c256_i32_766 : BitVec 32 := 256#32
  let v988 : BitVec 32 := Scalar.muli v987 c256_i32_766
  let v989 : BitVec 32 := Scalar.addi v733 v988
  let c1_i32_931 : BitVec 32 := 1#32
  let v1182 : BitVec 32 := Scalar.shrsi v19 c1_i32_931
  let c1_i32_932 : BitVec 32 := 1#32
  let v1183 : BitVec 32 := Scalar.andi v1182 c1_i32_932
  let c128_i32_933 : BitVec 32 := 128#32
  let v1184 : BitVec 32 := Scalar.muli v1183 c128_i32_933
  let v1185 : BitVec 32 := Scalar.addi v989 v1184
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1278 : BitVec 32 := 64#32
  let v1570 : BitVec 32 := Scalar.muli v79 c64_i32_1278
  let v1571 : BitVec 32 := Scalar.addi v1185 v1570
  let c64_i32_1685 : BitVec 32 := 64#32
  let v2014 : BitVec 32 := Scalar.muli v79 c64_i32_1685
  let v2015 : BitVec 32 := Scalar.subi v1571 v2014
  let c1_i32_1814 : BitVec 32 := 1#32
  let v2160 : BitVec 32 := Scalar.shrsi v19 c1_i32_1814
  let c1_i32_1815 : BitVec 32 := 1#32
  let v2161 : BitVec 32 := Scalar.andi v2160 c1_i32_1815
  let c128_i32_1831 : BitVec 32 := 128#32
  let v2172 : BitVec 32 := Scalar.muli v2161 c128_i32_1831
  let v2173 : BitVec 32 := Scalar.subi v2015 v2172
  let c0_i32_1942 : BitVec 32 := 0#32
  let v2286 : BitVec 32 := Scalar.shrsi v19 c0_i32_1942
  let c1_i32_1943 : BitVec 32 := 1#32
  let v2287 : BitVec 32 := Scalar.andi v2286 c1_i32_1943
  let c256_i32_1959 : BitVec 32 := 256#32
  let v2298 : BitVec 32 := Scalar.muli v2287 c256_i32_1959
  let v2299 : BitVec 32 := Scalar.subi v2173 v2298
  let c1_i32_2140 : BitVec 32 := 1#32
  let v2488 : BitVec 32 := Scalar.shrsi v46 c1_i32_2140
  let c1_i32_2141 : BitVec 32 := 1#32
  let v2489 : BitVec 32 := Scalar.andi v2488 c1_i32_2141
  let c512_i32_2157 : BitVec 32 := 512#32
  let v2500 : BitVec 32 := Scalar.muli v2489 c512_i32_2157
  let v2501 : BitVec 32 := Scalar.subi v2299 v2500
  let c512_i32_2175 : BitVec 32 := 512#32
  ![v2501.toNat, 512]
def k0_dev62 (d0 : Dev nD) : Nat :=
  let c0_i32_2174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2168 : BitVec 32 := 8#32
  let v2518 : BitVec 32 := Scalar.muli v19 c8_i32_2168
  let c2_i32_2159 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_2158 : BitVec 32 := 1#32
  let v2502 : BitVec 32 := Scalar.xori v46 c1_i32_2158
  let v2503 : BitVec 32 := Scalar.muli c2_i32_2159 v2502
  let c2_i32_2160 : BitVec 32 := 2#32
  let c0_i32_2161 : BitVec 32 := 0#32
  let v2504 : BitVec 1 := Scalar.cmpi .eq c2_i32_2160 c0_i32_2161
  let c1_i32_2162 : BitVec 32 := 1#32
  let v2505 : BitVec 32 := Scalar.select v2504 c1_i32_2162 c2_i32_2160
  let v2506 : BitVec 32 := Scalar.remsi v2502 v2505
  let c0_i32_2164 : BitVec 32 := 0#32
  let v2508 : BitVec 1 := Scalar.cmpi .slt v2506 c0_i32_2164
  let c0_i32_2165 : BitVec 32 := 0#32
  let v2509 : BitVec 1 := Scalar.cmpi .slt v2505 c0_i32_2165
  let v2510 : BitVec 1 := Scalar.xori v2508 v2509
  let c0_i32_2163 : BitVec 32 := 0#32
  let v2507 : BitVec 1 := Scalar.cmpi .ne v2506 c0_i32_2163
  let v2511 : BitVec 1 := Scalar.andi v2510 v2507
  let v2512 : BitVec 32 := Scalar.addi v2506 v2505
  let v2513 : BitVec 32 := Scalar.select v2511 v2512 v2506
  let c0_i32_2166 : BitVec 32 := 0#32
  let v2514 : BitVec 1 := Scalar.cmpi .eq v2513 c0_i32_2166
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2167 : BitVec 32 := 1#32
  let v2515 : BitVec 32 := Scalar.subi c1_i32_2167 v79
  let v2516 : BitVec 32 := Scalar.select v2514 v79 v2515
  let v2517 : BitVec 32 := Scalar.addi v2503 v2516
  let v2519 : BitVec 32 := Scalar.addi v2518 v2517
  let c1_i32_2173 : BitVec 32 := 1#32
  let v2520 : BitVec 32 := Scalar.muli v2519 c1_i32_2173
  let v2521 : BitVec 32 := Scalar.addi c0_i32_2174 v2520
  v2521.toNat
def k0_off106 (d0 : Dev nD) : Fin 2 → Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_326 : BitVec 32 := 1#32
  let v489 : BitVec 32 := Scalar.shrsi v46 c1_i32_326
  let c1_i32_327 : BitVec 32 := 1#32
  let v490 : BitVec 32 := Scalar.andi v489 c1_i32_327
  let c1024_i32_328 : BitVec 32 := 1024#32
  let v491 : BitVec 32 := Scalar.muli v490 c1024_i32_328
  let v492 : BitVec 32 := Scalar.addi c0_i32_329 v491
  let c0_i32_578 : BitVec 32 := 0#32
  let v779 : BitVec 32 := Scalar.shrsi v46 c0_i32_578
  let c1_i32_579 : BitVec 32 := 1#32
  let v780 : BitVec 32 := Scalar.andi v779 c1_i32_579
  let c512_i32_580 : BitVec 32 := 512#32
  let v781 : BitVec 32 := Scalar.muli v780 c512_i32_580
  let v782 : BitVec 32 := Scalar.addi v492 v781
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_805 : BitVec 32 := 1#32
  let v1035 : BitVec 32 := Scalar.shrsi v19 c1_i32_805
  let c1_i32_806 : BitVec 32 := 1#32
  let v1036 : BitVec 32 := Scalar.andi v1035 c1_i32_806
  let c256_i32_807 : BitVec 32 := 256#32
  let v1037 : BitVec 32 := Scalar.muli v1036 c256_i32_807
  let v1038 : BitVec 32 := Scalar.addi v782 v1037
  let c0_i32_960 : BitVec 32 := 0#32
  let v1212 : BitVec 32 := Scalar.shrsi v19 c0_i32_960
  let c1_i32_961 : BitVec 32 := 1#32
  let v1213 : BitVec 32 := Scalar.andi v1212 c1_i32_961
  let c128_i32_962 : BitVec 32 := 128#32
  let v1214 : BitVec 32 := Scalar.muli v1213 c128_i32_962
  let v1215 : BitVec 32 := Scalar.addi v1038 v1214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c64_i32_1296 : BitVec 32 := 64#32
  let v1587 : BitVec 32 := Scalar.muli v79 c64_i32_1296
  let v1588 : BitVec 32 := Scalar.addi v1215 v1587
  let c64_i32_1720 : BitVec 32 := 64#32
  let v2052 : BitVec 32 := Scalar.muli v79 c64_i32_1720
  let v2053 : BitVec 32 := Scalar.subi v1588 v2052
  let c0_i32_1851 : BitVec 32 := 0#32
  let v2200 : BitVec 32 := Scalar.shrsi v19 c0_i32_1851
  let c1_i32_1852 : BitVec 32 := 1#32
  let v2201 : BitVec 32 := Scalar.andi v2200 c1_i32_1852
  let c128_i32_1868 : BitVec 32 := 128#32
  let v2212 : BitVec 32 := Scalar.muli v2201 c128_i32_1868
  let v2213 : BitVec 32 := Scalar.subi v2053 v2212
  let c1_i32_1979 : BitVec 32 := 1#32
  let v2326 : BitVec 32 := Scalar.shrsi v19 c1_i32_1979
  let c1_i32_1980 : BitVec 32 := 1#32
  let v2327 : BitVec 32 := Scalar.andi v2326 c1_i32_1980
  let c256_i32_1996 : BitVec 32 := 256#32
  let v2338 : BitVec 32 := Scalar.muli v2327 c256_i32_1996
  let v2339 : BitVec 32 := Scalar.subi v2213 v2338
  let c0_i32_2177 : BitVec 32 := 0#32
  let v2528 : BitVec 32 := Scalar.shrsi v46 c0_i32_2177
  let c1_i32_2178 : BitVec 32 := 1#32
  let v2529 : BitVec 32 := Scalar.andi v2528 c1_i32_2178
  let c512_i32_2194 : BitVec 32 := 512#32
  let v2540 : BitVec 32 := Scalar.muli v2529 c512_i32_2194
  let v2541 : BitVec 32 := Scalar.subi v2339 v2540
  let c1024_i32_2212 : BitVec 32 := 1024#32
  ![v2541.toNat, 1024]
def k0_dev63 (d0 : Dev nD) : Nat :=
  let c0_i32_2211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2205 : BitVec 32 := 8#32
  let v2558 : BitVec 32 := Scalar.muli v19 c8_i32_2205
  let c2_i32_2196 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_2195 : BitVec 32 := 2#32
  let v2542 : BitVec 32 := Scalar.xori v46 c2_i32_2195
  let v2543 : BitVec 32 := Scalar.muli c2_i32_2196 v2542
  let c2_i32_2197 : BitVec 32 := 2#32
  let c0_i32_2198 : BitVec 32 := 0#32
  let v2544 : BitVec 1 := Scalar.cmpi .eq c2_i32_2197 c0_i32_2198
  let c1_i32_2199 : BitVec 32 := 1#32
  let v2545 : BitVec 32 := Scalar.select v2544 c1_i32_2199 c2_i32_2197
  let v2546 : BitVec 32 := Scalar.remsi v2542 v2545
  let c0_i32_2201 : BitVec 32 := 0#32
  let v2548 : BitVec 1 := Scalar.cmpi .slt v2546 c0_i32_2201
  let c0_i32_2202 : BitVec 32 := 0#32
  let v2549 : BitVec 1 := Scalar.cmpi .slt v2545 c0_i32_2202
  let v2550 : BitVec 1 := Scalar.xori v2548 v2549
  let c0_i32_2200 : BitVec 32 := 0#32
  let v2547 : BitVec 1 := Scalar.cmpi .ne v2546 c0_i32_2200
  let v2551 : BitVec 1 := Scalar.andi v2550 v2547
  let v2552 : BitVec 32 := Scalar.addi v2546 v2545
  let v2553 : BitVec 32 := Scalar.select v2551 v2552 v2546
  let c0_i32_2203 : BitVec 32 := 0#32
  let v2554 : BitVec 1 := Scalar.cmpi .eq v2553 c0_i32_2203
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2204 : BitVec 32 := 1#32
  let v2555 : BitVec 32 := Scalar.subi c1_i32_2204 v79
  let v2556 : BitVec 32 := Scalar.select v2554 v79 v2555
  let v2557 : BitVec 32 := Scalar.addi v2543 v2556
  let v2559 : BitVec 32 := Scalar.addi v2558 v2557
  let c1_i32_2210 : BitVec 32 := 1#32
  let v2560 : BitVec 32 := Scalar.muli v2559 c1_i32_2210
  let v2561 : BitVec 32 := Scalar.addi c0_i32_2211 v2560
  v2561.toNat
def k0_off107 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_369 : BitVec 32 := 0#32
  let v538 : BitVec 32 := Scalar.shrsi v19 c0_i32_369
  let c1_i32_370 : BitVec 32 := 1#32
  let v539 : BitVec 32 := Scalar.andi v538 c1_i32_370
  let c1024_i32_371 : BitVec 32 := 1024#32
  let v540 : BitVec 32 := Scalar.muli v539 c1024_i32_371
  let v541 : BitVec 32 := Scalar.addi c0_i32_372 v540
  let c1_i32_620 : BitVec 32 := 1#32
  let v828 : BitVec 32 := Scalar.shrsi v19 c1_i32_620
  let c1_i32_621 : BitVec 32 := 1#32
  let v829 : BitVec 32 := Scalar.andi v828 c1_i32_621
  let c512_i32_622 : BitVec 32 := 512#32
  let v830 : BitVec 32 := Scalar.muli v829 c512_i32_622
  let v831 : BitVec 32 := Scalar.addi v541 v830
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_990 : BitVec 32 := 256#32
  let v1242 : BitVec 32 := Scalar.muli v79 c256_i32_990
  let v1243 : BitVec 32 := Scalar.addi v831 v1242
  let c0_i32_1154 : BitVec 32 := 0#32
  let v1434 : BitVec 32 := Scalar.shrsi v46 c0_i32_1154
  let c1_i32_1155 : BitVec 32 := 1#32
  let v1435 : BitVec 32 := Scalar.andi v1434 c1_i32_1155
  let c128_i32_1156 : BitVec 32 := 128#32
  let v1436 : BitVec 32 := Scalar.muli v1435 c128_i32_1156
  let v1437 : BitVec 32 := Scalar.addi v1243 v1436
  let c1_i32_1314 : BitVec 32 := 1#32
  let v1604 : BitVec 32 := Scalar.shrsi v46 c1_i32_1314
  let c1_i32_1315 : BitVec 32 := 1#32
  let v1605 : BitVec 32 := Scalar.andi v1604 c1_i32_1315
  let c64_i32_1316 : BitVec 32 := 64#32
  let v1606 : BitVec 32 := Scalar.muli v1605 c64_i32_1316
  let v1607 : BitVec 32 := Scalar.addi v1437 v1606
  let c1_i32_1522 : BitVec 32 := 1#32
  let v1844 : BitVec 32 := Scalar.shrsi v46 c1_i32_1522
  let c1_i32_1523 : BitVec 32 := 1#32
  let v1845 : BitVec 32 := Scalar.andi v1844 c1_i32_1523
  let c64_i32_1539 : BitVec 32 := 64#32
  let v1856 : BitVec 32 := Scalar.muli v1845 c64_i32_1539
  let v1857 : BitVec 32 := Scalar.subi v1607 v1856
  let c0_i32_1888 : BitVec 32 := 0#32
  let v2240 : BitVec 32 := Scalar.shrsi v46 c0_i32_1888
  let c1_i32_1889 : BitVec 32 := 1#32
  let v2241 : BitVec 32 := Scalar.andi v2240 c1_i32_1889
  let c128_i32_1905 : BitVec 32 := 128#32
  let v2252 : BitVec 32 := Scalar.muli v2241 c128_i32_1905
  let v2253 : BitVec 32 := Scalar.subi v1857 v2252
  let c256_i32_2031 : BitVec 32 := 256#32
  let v2376 : BitVec 32 := Scalar.muli v79 c256_i32_2031
  let v2377 : BitVec 32 := Scalar.subi v2253 v2376
  let c1_i32_2214 : BitVec 32 := 1#32
  let v2568 : BitVec 32 := Scalar.shrsi v19 c1_i32_2214
  let c1_i32_2215 : BitVec 32 := 1#32
  let v2569 : BitVec 32 := Scalar.andi v2568 c1_i32_2215
  let c512_i32_2231 : BitVec 32 := 512#32
  let v2580 : BitVec 32 := Scalar.muli v2569 c512_i32_2231
  let v2581 : BitVec 32 := Scalar.subi v2377 v2580
  let c1280_i32_2249 : BitVec 32 := 1280#32
  ![v2581.toNat, 1280]
def k0_dev64 (d0 : Dev nD) : Nat :=
  let c0_i32_2248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2232 : BitVec 32 := 1#32
  let v2582 : BitVec 32 := Scalar.xori v19 c1_i32_2232
  let c8_i32_2242 : BitVec 32 := 8#32
  let v2598 : BitVec 32 := Scalar.muli v2582 c8_i32_2242
  let c2_i32_2233 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2583 : BitVec 32 := Scalar.muli c2_i32_2233 v46
  let c2_i32_2234 : BitVec 32 := 2#32
  let c0_i32_2235 : BitVec 32 := 0#32
  let v2584 : BitVec 1 := Scalar.cmpi .eq c2_i32_2234 c0_i32_2235
  let c1_i32_2236 : BitVec 32 := 1#32
  let v2585 : BitVec 32 := Scalar.select v2584 c1_i32_2236 c2_i32_2234
  let v2586 : BitVec 32 := Scalar.remsi v46 v2585
  let c0_i32_2238 : BitVec 32 := 0#32
  let v2588 : BitVec 1 := Scalar.cmpi .slt v2586 c0_i32_2238
  let c0_i32_2239 : BitVec 32 := 0#32
  let v2589 : BitVec 1 := Scalar.cmpi .slt v2585 c0_i32_2239
  let v2590 : BitVec 1 := Scalar.xori v2588 v2589
  let c0_i32_2237 : BitVec 32 := 0#32
  let v2587 : BitVec 1 := Scalar.cmpi .ne v2586 c0_i32_2237
  let v2591 : BitVec 1 := Scalar.andi v2590 v2587
  let v2592 : BitVec 32 := Scalar.addi v2586 v2585
  let v2593 : BitVec 32 := Scalar.select v2591 v2592 v2586
  let c0_i32_2240 : BitVec 32 := 0#32
  let v2594 : BitVec 1 := Scalar.cmpi .eq v2593 c0_i32_2240
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2241 : BitVec 32 := 1#32
  let v2595 : BitVec 32 := Scalar.subi c1_i32_2241 v79
  let v2596 : BitVec 32 := Scalar.select v2594 v79 v2595
  let v2597 : BitVec 32 := Scalar.addi v2583 v2596
  let v2599 : BitVec 32 := Scalar.addi v2598 v2597
  let c1_i32_2247 : BitVec 32 := 1#32
  let v2600 : BitVec 32 := Scalar.muli v2599 c1_i32_2247
  let v2601 : BitVec 32 := Scalar.addi c0_i32_2248 v2600
  v2601.toNat
def k0_off108 (d0 : Dev nD) : Fin 2 → Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v587 : BitVec 32 := Scalar.shrsi v19 c1_i32_412
  let c1_i32_413 : BitVec 32 := 1#32
  let v588 : BitVec 32 := Scalar.andi v587 c1_i32_413
  let c1024_i32_414 : BitVec 32 := 1024#32
  let v589 : BitVec 32 := Scalar.muli v588 c1024_i32_414
  let v590 : BitVec 32 := Scalar.addi c0_i32_415 v589
  let c0_i32_650 : BitVec 32 := 0#32
  let v858 : BitVec 32 := Scalar.shrsi v19 c0_i32_650
  let c1_i32_651 : BitVec 32 := 1#32
  let v859 : BitVec 32 := Scalar.andi v858 c1_i32_651
  let c512_i32_652 : BitVec 32 := 512#32
  let v860 : BitVec 32 := Scalar.muli v859 c512_i32_652
  let v861 : BitVec 32 := Scalar.addi v590 v860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c256_i32_1030 : BitVec 32 := 256#32
  let v1289 : BitVec 32 := Scalar.muli v79 c256_i32_1030
  let v1290 : BitVec 32 := Scalar.addi v861 v1289
  let c1_i32_1196 : BitVec 32 := 1#32
  let v1483 : BitVec 32 := Scalar.shrsi v46 c1_i32_1196
  let c1_i32_1197 : BitVec 32 := 1#32
  let v1484 : BitVec 32 := Scalar.andi v1483 c1_i32_1197
  let c128_i32_1198 : BitVec 32 := 128#32
  let v1485 : BitVec 32 := Scalar.muli v1484 c128_i32_1198
  let v1486 : BitVec 32 := Scalar.addi v1290 v1485
  let c0_i32_1334 : BitVec 32 := 0#32
  let v1623 : BitVec 32 := Scalar.shrsi v46 c0_i32_1334
  let c1_i32_1335 : BitVec 32 := 1#32
  let v1624 : BitVec 32 := Scalar.andi v1623 c1_i32_1335
  let c64_i32_1336 : BitVec 32 := 64#32
  let v1625 : BitVec 32 := Scalar.muli v1624 c64_i32_1336
  let v1626 : BitVec 32 := Scalar.addi v1486 v1625
  let c0_i32_1559 : BitVec 32 := 0#32
  let v1884 : BitVec 32 := Scalar.shrsi v46 c0_i32_1559
  let c1_i32_1560 : BitVec 32 := 1#32
  let v1885 : BitVec 32 := Scalar.andi v1884 c1_i32_1560
  let c64_i32_1576 : BitVec 32 := 64#32
  let v1896 : BitVec 32 := Scalar.muli v1885 c64_i32_1576
  let v1897 : BitVec 32 := Scalar.subi v1626 v1896
  let c1_i32_1915 : BitVec 32 := 1#32
  let v2263 : BitVec 32 := Scalar.shrsi v46 c1_i32_1915
  let c1_i32_1916 : BitVec 32 := 1#32
  let v2264 : BitVec 32 := Scalar.andi v2263 c1_i32_1916
  let c128_i32_1932 : BitVec 32 := 128#32
  let v2275 : BitVec 32 := Scalar.muli v2264 c128_i32_1932
  let v2276 : BitVec 32 := Scalar.subi v1897 v2275
  let c256_i32_2066 : BitVec 32 := 256#32
  let v2414 : BitVec 32 := Scalar.muli v79 c256_i32_2066
  let v2415 : BitVec 32 := Scalar.subi v2276 v2414
  let c0_i32_2251 : BitVec 32 := 0#32
  let v2608 : BitVec 32 := Scalar.shrsi v19 c0_i32_2251
  let c1_i32_2252 : BitVec 32 := 1#32
  let v2609 : BitVec 32 := Scalar.andi v2608 c1_i32_2252
  let c512_i32_2268 : BitVec 32 := 512#32
  let v2620 : BitVec 32 := Scalar.muli v2609 c512_i32_2268
  let v2621 : BitVec 32 := Scalar.subi v2415 v2620
  let c1792_i32_2286 : BitVec 32 := 1792#32
  ![v2621.toNat, 1792]
def k0_dev65 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2269 : BitVec 32 := 2#32
  let v2622 : BitVec 32 := Scalar.xori v19 c2_i32_2269
  let c8_i32_2279 : BitVec 32 := 8#32
  let v2638 : BitVec 32 := Scalar.muli v2622 c8_i32_2279
  let c2_i32_2270 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2623 : BitVec 32 := Scalar.muli c2_i32_2270 v46
  let c2_i32_2271 : BitVec 32 := 2#32
  let c0_i32_2272 : BitVec 32 := 0#32
  let v2624 : BitVec 1 := Scalar.cmpi .eq c2_i32_2271 c0_i32_2272
  let c1_i32_2273 : BitVec 32 := 1#32
  let v2625 : BitVec 32 := Scalar.select v2624 c1_i32_2273 c2_i32_2271
  let v2626 : BitVec 32 := Scalar.remsi v46 v2625
  let c0_i32_2275 : BitVec 32 := 0#32
  let v2628 : BitVec 1 := Scalar.cmpi .slt v2626 c0_i32_2275
  let c0_i32_2276 : BitVec 32 := 0#32
  let v2629 : BitVec 1 := Scalar.cmpi .slt v2625 c0_i32_2276
  let v2630 : BitVec 1 := Scalar.xori v2628 v2629
  let c0_i32_2274 : BitVec 32 := 0#32
  let v2627 : BitVec 1 := Scalar.cmpi .ne v2626 c0_i32_2274
  let v2631 : BitVec 1 := Scalar.andi v2630 v2627
  let v2632 : BitVec 32 := Scalar.addi v2626 v2625
  let v2633 : BitVec 32 := Scalar.select v2631 v2632 v2626
  let c0_i32_2277 : BitVec 32 := 0#32
  let v2634 : BitVec 1 := Scalar.cmpi .eq v2633 c0_i32_2277
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_2278 : BitVec 32 := 1#32
  let v2635 : BitVec 32 := Scalar.subi c1_i32_2278 v79
  let v2636 : BitVec 32 := Scalar.select v2634 v79 v2635
  let v2637 : BitVec 32 := Scalar.addi v2623 v2636
  let v2639 : BitVec 32 := Scalar.addi v2638 v2637
  let c1_i32_2284 : BitVec 32 := 1#32
  let v2640 : BitVec 32 := Scalar.muli v2639 c1_i32_2284
  let v2641 : BitVec 32 := Scalar.addi c0_i32_2285 v2640
  v2641.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S32768x2048, .bf16⟩
  | .hbm, ⟨2, _⟩ => ⟨S2048x2048, .f32⟩
  | .hbm, ⟨3, _⟩ => ⟨S2048x2048, .bf16⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Flat.lean ====
/-
# The kernel's program as a list of steps

The body of the kernel is straight-line: five signals and one wait on the barrier semaphore, then 132 steps over six
independent column streams. A step is one of five kinds: multiply one half of the rows of a stream into the output
buffer (`mm`), start a reduce-scatter copy (`rs`), finish one and add what arrived (`fin`), start an all-gather copy
(`ag`), finish one (`col`). `Op.prog` is the program of a step; `flat` is the list of them all; `body_eq_flat` says
that the body is that list, by definitional unfolding.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Gemm

open Cert.KernelIdeal Cert.KernelIdeal.Gen
open Idealize.ShloMosaic Idealize.ShloMosaic.TcCoe Idealize.SL.Sem

variable {F : FTy → Type} [FloatOps F]

/-! ## Streams, rounds and shapes -/

/-- Rows moved at round `k`. -/
abbrev hgt : Fin 5 → ℕ | 0 => 1024 | 1 => 512 | 2 => 256 | 3 => 128 | 4 => 64
/-- Columns of stream `s`. -/
abbrev wid : Fin 6 → ℕ | 0 => 384 | 1 => 128 | 2 => 512 | 3 => 256 | 4 => 512 | 5 => 256
/-- First column of stream `s`. -/
abbrev cof : Fin 6 → ℕ | 0 => 0 | 1 => 384 | 2 => 512 | 3 => 1024 | 4 => 1280 | 5 => 1792
/-- The block of round `k` of stream `s`. -/
abbrev shp (s : Fin 6) (k : Fin 5) : Shape := ⟨2, ![hgt k, wid s]⟩

/-- No block is empty. -/
theorem shp_pos (s : Fin 6) (k : Fin 5) : 0 < (shp s k).numel := by revert s k; decide
/-- A block cast to its own shape. -/
theorem shp_casts (s : Fin 6) (k : Fin 5) : (shp s k).ShapeCasts (shp s k) := by revert s k; decide

/-! ## Buffers and semaphores -/

/-- The device's block of `A`, of `B`, and the output, whole. -/
abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0

/-- The buffer that round `k` of stream `s` lands in. -/
def rbuf : (s : Fin 6) → (k : Fin 5) → Memref sig .tc .vmem (shp s k) .bf16
  | 0, 0 => .whole cc0_scratch0 | 0, 1 => .whole cc0_scratch1 | 0, 2 => .whole cc0_scratch2 | 0, 3 => .whole cc0_scratch3 | 0, 4 => .whole cc0_scratch4
  | 1, 0 => .whole cc0_scratch5 | 1, 1 => .whole cc0_scratch6 | 1, 2 => .whole cc0_scratch7 | 1, 3 => .whole cc0_scratch8 | 1, 4 => .whole cc0_scratch9
  | 2, 0 => .whole cc0_scratch10 | 2, 1 => .whole cc0_scratch11 | 2, 2 => .whole cc0_scratch12 | 2, 3 => .whole cc0_scratch13 | 2, 4 => .whole cc0_scratch14
  | 3, 0 => .whole cc0_scratch15 | 3, 1 => .whole cc0_scratch16 | 3, 2 => .whole cc0_scratch17 | 3, 3 => .whole cc0_scratch18 | 3, 4 => .whole cc0_scratch19
  | 4, 0 => .whole cc0_scratch20 | 4, 1 => .whole cc0_scratch21 | 4, 2 => .whole cc0_scratch22 | 4, 3 => .whole cc0_scratch23 | 4, 4 => .whole cc0_scratch24
  | 5, 0 => .whole cc0_scratch25 | 5, 1 => .whole cc0_scratch26 | 5, 2 => .whole cc0_scratch27 | 5, 3 => .whole cc0_scratch28 | 5, 4 => .whole cc0_scratch29

/-- A landing buffer is taken whole. -/
theorem rbuf_whole (s : Fin 6) (k : Fin 5) : (rbuf s k).IsWhole := by
  fin_cases s <;> fin_cases k <;> exact Memref.isWhole_whole _

/-- The DMA semaphore of array `a` (reduce-scatter send and receive, all-gather send and receive) at stream `s`, round `k`. -/
abbrev dq (a : Fin 4) (s : Fin 6) (k : Fin 5) : DmaSem sig :=
  (⟨3 + 30 * a.val + (5 * s.val + k.val), by have := a.isLt; have := s.isLt; have := k.isLt; show _ < 123; omega⟩ : Fin 123)
/-- The runtime's barrier semaphore. -/
abbrev barS : Sem sig := (SemArray.scalar (sig.barrier 0 rfl) : Sems sig S_).sem

/-! ## Where each step reads and writes -/

/-- First element of the block that the reduce-scatter copy of stream `s`, round `k` sends. -/
def rsOff : Fin 6 → Fin 5 → Dev nD → Fin 2 → ℕ
  | 0, 0 => k0_off13 | 0, 1 => k0_off34 | 0, 2 => k0_off46 | 0, 3 => k0_off54 | 0, 4 => k0_off66
  | 1, 0 => k0_off15 | 1, 1 => k0_off36 | 1, 2 => k0_off48 | 1, 3 => k0_off56 | 1, 4 => k0_off68
  | 2, 0 => k0_off3 | 2, 1 => k0_off26 | 2, 2 => k0_off38 | 2, 3 => k0_off50 | 2, 4 => k0_off58
  | 3, 0 => k0_off5 | 3, 1 => k0_off28 | 3, 2 => k0_off40 | 3, 3 => k0_off52 | 3, 4 => k0_off60
  | 4, 0 => k0_off8 | 4, 1 => k0_off30 | 4, 2 => k0_off42 | 4, 3 => k0_off62 | 4, 4 => k0_off70
  | 5, 0 => k0_off10 | 5, 1 => k0_off32 | 5, 2 => k0_off44 | 5, 3 => k0_off64 | 5, 4 => k0_off72
/-- First element of the block the arriving block is added to. -/
def finOff : Fin 6 → Fin 5 → Dev nD → Fin 2 → ℕ
  | 0, 0 => k0_off33 | 0, 1 => k0_off45 | 0, 2 => k0_off53 | 0, 3 => k0_off65 | 0, 4 => k0_off73
  | 1, 0 => k0_off35 | 1, 1 => k0_off47 | 1, 2 => k0_off55 | 1, 3 => k0_off67 | 1, 4 => k0_off74
  | 2, 0 => k0_off25 | 2, 1 => k0_off37 | 2, 2 => k0_off49 | 2, 3 => k0_off57 | 2, 4 => k0_off75
  | 3, 0 => k0_off27 | 3, 1 => k0_off39 | 3, 2 => k0_off51 | 3, 3 => k0_off59 | 3, 4 => k0_off76
  | 4, 0 => k0_off29 | 4, 1 => k0_off41 | 4, 2 => k0_off61 | 4, 3 => k0_off69 | 4, 4 => k0_off77
  | 5, 0 => k0_off31 | 5, 1 => k0_off43 | 5, 2 => k0_off63 | 5, 3 => k0_off71 | 5, 4 => k0_off78
/-- First element of the block that the all-gather copy sends, and where it lands. -/
def agOff : Fin 6 → Fin 5 → Dev nD → Fin 2 → ℕ
  | 0, 0 => k0_off103 | 0, 1 => k0_off93 | 0, 2 => k0_off89 | 0, 3 => k0_off83 | 0, 4 => k0_off79
  | 1, 0 => k0_off104 | 1, 1 => k0_off94 | 1, 2 => k0_off90 | 1, 3 => k0_off84 | 1, 4 => k0_off80
  | 2, 0 => k0_off105 | 2, 1 => k0_off99 | 2, 2 => k0_off95 | 2, 3 => k0_off91 | 2, 4 => k0_off85
  | 3, 0 => k0_off106 | 3, 1 => k0_off100 | 3, 2 => k0_off96 | 3, 3 => k0_off92 | 3, 4 => k0_off86
  | 4, 0 => k0_off107 | 4, 1 => k0_off101 | 4, 2 => k0_off97 | 4, 3 => k0_off87 | 4, 4 => k0_off81
  | 5, 0 => k0_off108 | 5, 1 => k0_off102 | 5, 2 => k0_off98 | 5, 3 => k0_off88 | 5, 4 => k0_off82
/-- Addressee of the reduce-scatter copy. -/
def rsDevN : Fin 6 → Fin 5 → Dev nD → ℕ
  | 0, 0 => k0_dev10 | 0, 1 => k0_dev16 | 0, 2 => k0_dev22 | 0, 3 => k0_dev26 | 0, 4 => k0_dev32
  | 1, 0 => k0_dev11 | 1, 1 => k0_dev17 | 1, 2 => k0_dev23 | 1, 3 => k0_dev27 | 1, 4 => k0_dev33
  | 2, 0 => k0_dev6 | 2, 1 => k0_dev12 | 2, 2 => k0_dev18 | 2, 3 => k0_dev24 | 2, 4 => k0_dev28
  | 3, 0 => k0_dev7 | 3, 1 => k0_dev13 | 3, 2 => k0_dev19 | 3, 3 => k0_dev25 | 3, 4 => k0_dev29
  | 4, 0 => k0_dev8 | 4, 1 => k0_dev14 | 4, 2 => k0_dev20 | 4, 3 => k0_dev30 | 4, 4 => k0_dev34
  | 5, 0 => k0_dev9 | 5, 1 => k0_dev15 | 5, 2 => k0_dev21 | 5, 3 => k0_dev31 | 5, 4 => k0_dev35
/-- Addressee of the all-gather copy. -/
def agDevN : Fin 6 → Fin 5 → Dev nD → ℕ
  | 0, 0 => k0_dev60 | 0, 1 => k0_dev50 | 0, 2 => k0_dev46 | 0, 3 => k0_dev40 | 0, 4 => k0_dev36
  | 1, 0 => k0_dev61 | 1, 1 => k0_dev51 | 1, 2 => k0_dev47 | 1, 3 => k0_dev41 | 1, 4 => k0_dev37
  | 2, 0 => k0_dev62 | 2, 1 => k0_dev56 | 2, 2 => k0_dev52 | 2, 3 => k0_dev48 | 2, 4 => k0_dev42
  | 3, 0 => k0_dev63 | 3, 1 => k0_dev57 | 3, 2 => k0_dev53 | 3, 3 => k0_dev49 | 3, 4 => k0_dev43
  | 4, 0 => k0_dev64 | 4, 1 => k0_dev58 | 4, 2 => k0_dev54 | 4, 3 => k0_dev44 | 4, 4 => k0_dev38
  | 5, 0 => k0_dev65 | 5, 1 => k0_dev59 | 5, 2 => k0_dev55 | 5, 3 => k0_dev45 | 5, 4 => k0_dev39
/-- First row of `A` that a multiplication reads (half `h`: 0 the rows to be sent, 1 the rows kept). -/
def mmA : Fin 2 → Fin 6 → Dev nD → Fin 2 → ℕ
  | 0, 0 => k0_off11 | 0, 1 => k0_off11 | 0, 2 => fun d => k0_off1 d 0#32 | 0, 3 => fun d => k0_off1 d 1#32 | 0, 4 => fun d => k0_off6 d 0#32 | 0, 5 => fun d => k0_off6 d 1#32
  | 1, 0 => k0_off22 | 1, 1 => k0_off22 | 1, 2 => fun d => k0_off16 d 0#32 | 1, 3 => fun d => k0_off16 d 1#32 | 1, 4 => fun d => k0_off19 d 0#32 | 1, 5 => fun d => k0_off19 d 1#32
/-- First element of the block of the output that it writes. -/
def mmO : Fin 2 → Fin 6 → Dev nD → Fin 2 → ℕ
  | 0, 0 => k0_off12 | 0, 1 => k0_off14 | 0, 2 => k0_off2 | 0, 3 => k0_off4 | 0, 4 => k0_off7 | 0, 5 => k0_off9
  | 1, 0 => k0_off23 | 1, 1 => k0_off24 | 1, 2 => k0_off17 | 1, 3 => k0_off18 | 1, 4 => k0_off20 | 1, 5 => k0_off21

/-- One half of a stream's local product, rounded to bf16. -/
def mmPay : (s : Fin 6) → Vec F S1024x1024 .bf16 → Vec F ⟨2, ![1024, wid s]⟩ .bf16 → FVec F (shp s 0) .bf16
  | 0 => fun x y => k0_pay12 x y | 1 => fun x y => k0_pay13 x y | 2 => fun x y => k0_pay8 x y
  | 3 => fun x y => k0_pay9 x y | 4 => fun x y => k0_pay3 x y | 5 => fun x y => k0_pay11 x y

/-- The sum of a kept block and an arrived one. -/
def addPay (s : Fin 6) (k : Fin 5) (x y : Vec F (shp s k) .bf16) : FVec F (shp s k) .bf16 :=
  addf (shapeCast (shp s k) x (shp_casts s k)) y

/-! ## The mesh: 32 devices as five binary directions -/

/-- The coordinate of device `c` in direction `d` (`x`, the two bits of `y`, the two bits of `z`). -/
def bit (d : Fin 5) (c : Dev nD) : ℕ :=
  match d with
  | 0 => if (c.val % 8 / 2) % 2 = 0 then c.val % 2 else 1 - c.val % 2
  | 1 => c.val / 2 % 2
  | 2 => c.val / 4 % 2
  | 3 => c.val / 8 % 2
  | 4 => c.val / 16 % 2

/-- The device across direction `d`. -/
def par (d : Fin 5) (c : Dev nD) : Dev nD :=
  ⟨(c.val ^^^ (match d with | 0 => 1 | 1 => 3 | 2 => 4 | 3 => 8 | 4 => 16)) % 32, Nat.mod_lt _ (by decide)⟩

/-- The direction that stream `s` crosses at round `k`. -/
def dim : Fin 6 → Fin 5 → Fin 5
  | 0, k => ![0, 1, 2, 3, 4] k | 1, k => ![0, 2, 1, 4, 3] k | 2, k => ![1, 2, 3, 4, 0] k
  | 3, k => ![2, 1, 4, 3, 0] k | 4, k => ![3, 4, 0, 1, 2] k | 5, k => ![4, 3, 0, 2, 1] k

/-- The partner of device `c` at round `k` of stream `s`. -/
abbrev pr (s : Fin 6) (k : Fin 5) (c : Dev nD) : Dev nD := par (dim s k) c

/-- First row that device `c` still reduces after `n` rounds of stream `s`. -/
def lo (s : Fin 6) (c : Dev nD) : ℕ → ℕ
  | 0 => 0
  | n + 1 => lo s c n + (if h : n < 5 then bit (dim s ⟨n, h⟩) c * hgt ⟨n, h⟩ else 0)

/-- First row of the half that device `c` keeps at round `k`, and of the half that it sends. -/
abbrev keepLo (s : Fin 6) (k : Fin 5) (c : Dev nD) : ℕ := lo s c (k.val + 1)
/-- First row of the half sent in round `k`. -/
abbrev sendLo (s : Fin 6) (k : Fin 5) (c : Dev nD) : ℕ := lo s c k.val + (1 - bit (dim s k) c) * hgt k

/-- Crossing a direction twice leads back. -/
theorem par_par (d : Fin 5) (c : Dev nD) : par d (par d c) = c := by revert d c; decide
/-- The rows that a device sends are the rows that its partner keeps. -/
theorem sendLo_eq (s : Fin 6) (k : Fin 5) (c : Dev nD) : sendLo s k c = keepLo s k (pr s k c) := by revert s k c; decide +kernel
/-- The rows that a device keeps are the rows that its partner sends. -/
theorem keepLo_eq (s : Fin 6) (k : Fin 5) (c : Dev nD) : keepLo s k c = sendLo s k (pr s k c) := by revert s k c; decide +kernel
/-- The kept rows lie in the output. -/
theorem keepLo_le (s : Fin 6) (k : Fin 5) (c : Dev nD) : keepLo s k c + hgt k ≤ 2048 := by revert s k c; decide +kernel

/-! ## The printed offsets in closed form -/

/-- The printed offsets and addressees, in closed form: a copy of the first half sends `sendLo`, a sum and a copy of the second half are at `keepLo`, and every copy goes to the partner. -/
theorem rsOff_eq (s : Fin 6) (k : Fin 5) (c : Dev nD) : rsOff s k c = ![sendLo s k c, cof s] := by revert s k c; decide +kernel
theorem finOff_eq (s : Fin 6) (k : Fin 5) (c : Dev nD) : finOff s k c = ![keepLo s k c, cof s] := by revert s k c; decide +kernel
theorem agOff_eq (s : Fin 6) (k : Fin 5) (c : Dev nD) : agOff s k c = ![keepLo s k c, cof s] := by revert s k c; decide +kernel
theorem rsDevN_eq (s : Fin 6) (k : Fin 5) (c : Dev nD) : rsDevN s k c = (pr s k c).val := by revert s k c; decide +kernel
theorem agDevN_eq (s : Fin 6) (k : Fin 5) (c : Dev nD) : agDevN s k c = (pr s k c).val := by revert s k c; decide +kernel
/-- First row of the half of the local product that `mm h` computes. -/
abbrev mmLo (h : Fin 2) (s : Fin 6) (c : Dev nD) : ℕ := match h with | 0 => sendLo s 0 c | 1 => keepLo s 0 c
/-- A multiplication reads the rows of `A`, and writes the rows of the output, from `mmLo` on. -/
theorem mmA_eq (h : Fin 2) (s : Fin 6) (c : Dev nD) : mmA h s c = ![mmLo h s c, 0] := by revert h s c; decide +kernel
theorem mmO_eq (h : Fin 2) (s : Fin 6) (c : Dev nD) : mmO h s c = ![mmLo h s c, cof s] := by revert h s c; decide +kernel
/-- The rows of a multiplication lie in the output. -/
theorem mmLo_le (h : Fin 2) (s : Fin 6) (c : Dev nD) : mmLo h s c + 1024 ≤ 2048 := by revert h s c; decide +kernel

/-! ## The blocks are in bounds, whole words and packed rows -/

/-- A stream's columns lie in the output. -/
theorem cof_le (s : Fin 6) : cof s + wid s ≤ 2048 := by revert s; decide

/-- A block whose rows lie in the output lies in the output. -/
theorem inb_of (s : Fin 6) (k : Fin 5) {l : ℕ} (h : l + hgt k ≤ 2048) : ∀ a, (![l, cof s] : Fin 2 → ℕ) a + (shp s k).size a ≤ S2048x2048.size a := by
  intro a; fin_cases a
  · exact h
  · exact cof_le s

/-- The blocks at the printed offsets lie in their arrays. -/
theorem rsOff_inb (s : Fin 6) (k : Fin 5) (c : Dev nD) : ∀ a, rsOff s k c a + (shp s k).size a ≤ S2048x2048.size a := by
  rw [rsOff_eq, sendLo_eq]; exact inb_of s k (keepLo_le s k _)
theorem finOff_inb (s : Fin 6) (k : Fin 5) (c : Dev nD) : ∀ a, finOff s k c a + (shp s k).size a ≤ S2048x2048.size a := by
  rw [finOff_eq]; exact inb_of s k (keepLo_le s k _)
theorem agOff_inb (s : Fin 6) (k : Fin 5) (c : Dev nD) : ∀ a, agOff s k c a + (shp s k).size a ≤ S2048x2048.size a := by
  rw [agOff_eq]; exact inb_of s k (keepLo_le s k _)
theorem mmO_inb (h : Fin 2) (s : Fin 6) (c : Dev nD) : ∀ a, mmO h s c a + (shp s 0).size a ≤ S2048x2048.size a := by
  rw [mmO_eq]; exact inb_of s 0 (mmLo_le h s c)
theorem mmA_inb (h : Fin 2) (s : Fin 6) (c : Dev nD) : ∀ a, mmA h s c a + S1024x1024.size a ≤ S2048x1024.size a := by
  rw [mmA_eq]; intro a; fin_cases a
  · exact mmLo_le h s c
  · exact Nat.le_refl 1024
theorem mmB_inb (s : Fin 6) : ∀ a, (![0, cof s] : Fin 2 → ℕ) a + (⟨2, ![1024, wid s]⟩ : Shape).size a ≤ S1024x2048.size a := by
  intro a; fin_cases a
  · exact Nat.le_refl 1024
  · exact cof_le s
/-- A landing buffer as a block of itself. -/
theorem zero_inb (s : Fin 6) (k : Fin 5) : ∀ a, (![0, 0] : Fin 2 → ℕ) a + (shp s k).size a ≤ (shp s k).size a := by
  intro a; fin_cases a <;> exact Nat.le_of_eq (Nat.zero_add _)

/-- The blocks at the printed offsets start and end at whole words. -/
theorem rsOff_words (s : Fin 6) (k : Fin 5) (c : Dev nD) :
    (Rect.unit (s := S2048x2048) (rsOff s k c) (shp s k).size (rsOff_inb s k c)).WholeWords (EltTy.packing .bf16) := by revert s k c; decide +kernel
theorem agOff_words (s : Fin 6) (k : Fin 5) (c : Dev nD) :
    (Rect.unit (s := S2048x2048) (agOff s k c) (shp s k).size (agOff_inb s k c)).WholeWords (EltTy.packing .bf16) := by revert s k c; decide +kernel
theorem finOff_packed (s : Fin 6) (k : Fin 5) (c : Dev nD) :
    (Rect.unit (s := S2048x2048) (finOff s k c) (shp s k).size (finOff_inb s k c)).PackedRows (EltTy.packing .bf16) := by revert s k c; decide +kernel
theorem mmO_packed (h : Fin 2) (s : Fin 6) (c : Dev nD) :
    (Rect.unit (s := S2048x2048) (mmO h s c) (shp s 0).size (mmO_inb h s c)).PackedRows (EltTy.packing .bf16) := by revert h s c; decide +kernel

/-- The addressees are devices of the mesh. -/
theorem rsDevN_lt (s : Fin 6) (k : Fin 5) (c : Dev nD) : rsDevN s k c < nD := by rw [rsDevN_eq]; exact (pr s k c).isLt
theorem agDevN_lt (s : Fin 6) (k : Fin 5) (c : Dev nD) : agDevN s k c < nD := by rw [agDevN_eq]; exact (pr s k c).isLt

/-! ## The steps -/

/-- A device's program. -/
abbrev P (F : FTy → Type) : Type 1 := Prog (TpuEff nD τ sig (Elt F) Λ₀ .tc) PUnit

/-- The source of a copy of the first half, and of the second half. -/
abbrev rsBlk (s : Fin 6) (k : Fin 5) (c : Dev nD) : Memref sig .tc .vmem (shp s k) .bf16 :=
  oM.slice (Rect.unit (s := S2048x2048) (rsOff s k c) (shp s k).size (rsOff_inb s k c)) (fun _ => rfl)
abbrev agBlk (s : Fin 6) (k : Fin 5) (c : Dev nD) : Memref sig .tc .vmem (shp s k) .bf16 :=
  oM.slice (Rect.unit (s := S2048x2048) (agOff s k c) (shp s k).size (agOff_inb s k c)) (fun _ => rfl)

/-- Both consist of whole words. -/
theorem rsBlk_exact (s : Fin 6) (k : Fin 5) (c : Dev nD) : (rsBlk s k c).view.WordExact :=
  (Memref.isWhole_whole _).wordExact_slice rfl _ (rsOff_words s k c)
theorem agBlk_exact (s : Fin 6) (k : Fin 5) (c : Dev nD) : (agBlk s k c).view.WordExact :=
  (Memref.isWhole_whole _).wordExact_slice rfl _ (agOff_words s k c)

/-- A landing buffer lies in the memory of the core itself. -/
theorem rbuf_scratch (s : Fin 6) (k : Fin 5) : (rbuf s k).view.ref.isScScratch = false := by
  fin_cases s <;> fin_cases k <;> rfl

/-- Multiply: load a half of `A` and the stream's columns of `B`, store the rounded product. -/
def mmProg (h : Fin 2) (s : Fin 6) (c : Dev nD) : P F :=
  .op (.load aM (Rect.unit (s := S2048x1024) (mmA h s c) S1024x1024.size (mmA_inb h s c)).toLoadRect (View.loadsAt_vmem h_S1024x1024)) fun x =>
  .op (.load bM (Rect.unit (s := S1024x2048) ![0, cof s] (⟨2, ![1024, wid s]⟩ : Shape).size (mmB_inb s)).toLoadRect (View.loadsAt_vmem (shp_pos s 0))) fun y =>
  .op (.load oM (Rect.unit (s := S2048x2048) (mmO h s c) (shp s 0).size (mmO_inb h s c)).toLoadRect (View.loadsAt_vmem (shp_pos s 0))) fun _ =>
  .op (.store oM (Rect.unit (s := S2048x2048) (mmO h s c) (shp s 0).size (mmO_inb h s c)) (mmPay s x y) Finset.univ
    (View.stores_vmem (shp_pos s 0) ((Memref.isWhole_whole _).storeExact_slice rfl _ (mmO_packed h s c)) (fun _ => rfl)) (.inl rfl)) .ret

/-- Start the reduce-scatter copy of round `k` to the partner. -/
def rsProg (s : Fin 6) (k : Fin 5) (c : Dev nD) : P F :=
  .op (.enqueueDma (rsBlk s k c) (.remote (Dev.tc (⟨rsDevN s k c, rsDevN_lt s k c⟩ : Dev nD)) (rbuf s k) (.dma (dq 0 s k)) (rbuf_scratch s k)) (.dma (dq 1 s k))
    (rsBlk_exact s k c) (rbuf_whole s k).wordExact ⟨⟨rfl, Or.inl rfl⟩, trivial⟩) .ret

/-- Wait for the copy sent and the copy received at round `k`, and add the arrived block to the kept one. -/
def finProg (s : Fin 6) (k : Fin 5) (c : Dev nD) : P F :=
  .op (.waitDma2 (dq 0 s k) (rbuf s k) (rsBlk s k c) (rbuf_whole s k).wordExact (rsBlk_exact s k c)) fun _ =>
  .op (.waitDma2 (dq 1 s k) (rsBlk s k c) (rbuf s k) (rsBlk_exact s k c) (rbuf_whole s k).wordExact) fun _ =>
  .op (.load oM (Rect.unit (s := S2048x2048) (finOff s k c) (shp s k).size (finOff_inb s k c)).toLoadRect (View.loadsAt_vmem (shp_pos s k))) fun x =>
  .op (.load (rbuf s k) (Rect.unit (s := shp s k) ![0, 0] (shp s k).size (zero_inb s k)).toLoadRect (View.loadsAt_vmem (shp_pos s k))) fun y =>
  .op (.load oM (Rect.unit (s := S2048x2048) (finOff s k c) (shp s k).size (finOff_inb s k c)).toLoadRect (View.loadsAt_vmem (shp_pos s k))) fun _ =>
  .op (.store oM (Rect.unit (s := S2048x2048) (finOff s k c) (shp s k).size (finOff_inb s k c)) (addPay s k x y) Finset.univ
    (View.stores_vmem (shp_pos s k) ((Memref.isWhole_whole _).storeExact_slice rfl _ (finOff_packed s k c)) (fun _ => rfl)) (.inl rfl)) .ret

/-- Start the all-gather copy of round `k` to the same rows of the partner's output. -/
def agProg (s : Fin 6) (k : Fin 5) (c : Dev nD) : P F :=
  .op (.enqueueDma (agBlk s k c) (.remote (Dev.tc (⟨agDevN s k c, agDevN_lt s k c⟩ : Dev nD)) (agBlk s k c) (.dma (dq 2 s k)) rfl) (.dma (dq 3 s k))
    (agBlk_exact s k c) (agBlk_exact s k c) ⟨⟨rfl, Or.inl rfl⟩, trivial⟩) .ret

/-- Wait for the copy sent and the copy received at all-gather round `k`. -/
def colProg (s : Fin 6) (k : Fin 5) (c : Dev nD) : P F :=
  .op (.waitDma2 (dq 2 s k) (agBlk s k c) (agBlk s k c) (agBlk_exact s k c) (agBlk_exact s k c)) fun _ =>
  .op (.waitDma2 (dq 3 s k) (agBlk s k c) (agBlk s k c) (agBlk_exact s k c) (agBlk_exact s k c)) .ret

/-- The steps by name. -/
inductive Op
  | mm (h : Fin 2) (s : Fin 6)
  | rs (s : Fin 6) (k : Fin 5)
  | fin (s : Fin 6) (k : Fin 5)
  | ag (s : Fin 6) (k : Fin 5)
  | col (s : Fin 6) (k : Fin 5)

/-- The program of a step on device `c`. -/
def Op.prog (c : Dev nD) : Op → P F
  | .mm h s => mmProg h s c
  | .rs s k => rsProg s k c
  | .fin s k => finProg s k c
  | .ag s k => agProg s k c
  | .col s k => colProg s k c

/-- The steps in program order. -/
def ops : List Op :=
  [.mm 0 2, .rs 2 0, .mm 0 3, .rs 3 0, .mm 0 4, .rs 4 0, .mm 0 5, .rs 5 0, .mm 0 0, .rs 0 0, .mm 0 1, .rs 1 0, .mm 1 2, .mm 1 3,
   .mm 1 4, .mm 1 5, .mm 1 0, .mm 1 1, .fin 2 0, .rs 2 1, .fin 3 0, .rs 3 1, .fin 4 0, .rs 4 1, .fin 5 0, .rs 5 1, .fin 0 0,
   .rs 0 1, .fin 1 0, .rs 1 1, .fin 2 1, .rs 2 2, .fin 3 1, .rs 3 2, .fin 4 1, .rs 4 2, .fin 5 1, .rs 5 2, .fin 0 1, .rs 0 2,
   .fin 1 1, .rs 1 2, .fin 2 2, .rs 2 3, .fin 3 2, .rs 3 3, .fin 0 2, .rs 0 3, .fin 1 2, .rs 1 3, .fin 2 3, .rs 2 4, .fin 3 3,
   .rs 3 4, .fin 4 2, .rs 4 3, .fin 5 2, .rs 5 3, .fin 0 3, .rs 0 4, .fin 1 3, .rs 1 4, .fin 4 3, .rs 4 4, .fin 5 3, .rs 5 4,
   .fin 0 4, .fin 1 4, .fin 2 4, .fin 3 4, .fin 4 4, .fin 5 4, .ag 0 4, .ag 1 4, .ag 4 4, .ag 5 4, .col 0 4, .ag 0 3, .col 1 4,
   .ag 1 3, .ag 2 4, .ag 3 4, .col 4 4, .ag 4 3, .col 5 4, .ag 5 3, .col 0 3, .ag 0 2, .col 1 3, .ag 1 2, .col 2 4, .ag 2 3,
   .col 3 4, .ag 3 3, .col 0 2, .ag 0 1, .col 1 2, .ag 1 1, .col 2 3, .ag 2 2, .col 3 3, .ag 3 2, .col 4 3, .ag 4 2, .col 5 3,
   .ag 5 2, .col 2 2, .ag 2 1, .col 3 2, .ag 3 1, .col 4 2, .ag 4 1, .col 5 2, .ag 5 1, .col 0 1, .ag 0 0, .col 1 1, .ag 1 0,
   .col 2 1, .ag 2 0, .col 3 1, .ag 3 0, .col 4 1, .ag 4 0, .col 5 1, .ag 5 0, .col 0 0, .col 1 0, .col 2 0, .col 3 0, .col 4 0,
   .col 5 0]

/-- Signal one partner's barrier semaphore. -/
def sigProg (n : ℕ) (h : n < nD) : P F := semSignalWord (⟨n, h⟩ : Dev nD) barS 1#32

/-- The whole body: the barrier, then the steps. -/
def flat : P F :=
  .op .deviceId fun c =>
    sigProg (k0_dev1 c) (k0_dev1_lt c) >>= fun _ => sigProg (k0_dev2 c) (k0_dev2_lt c) >>= fun _ => sigProg (k0_dev3 c) (k0_dev3_lt c) >>= fun _ =>
    sigProg (k0_dev4 c) (k0_dev4_lt c) >>= fun _ => sigProg (k0_dev5 c) (k0_dev5_lt c) >>= fun _ =>
    (semWaitWord barS 5#32 : P F) >>= fun _ => Pipeline.chain (ops.map (Op.prog c))

end Cert.Gemm

end
-- ==== Proof.Contents.lean ====
/-
# What the buffers hold

Blocks of the output buffer, the running sums of the reduce-scatter (`acc`), the result every device ends with (`res`),
and what loads, stores and copies of those blocks read and write.
-/
module

public import proofs.«01_k».proof.Proof.Flat
public import Idealize.ShloMosaic.Lib.Pipeline.Value

@[expose] public section

noncomputable section

namespace Cert.Gemm

open Cert.KernelIdeal Cert.KernelIdeal.Gen
open Idealize.ShloMosaic Idealize.ShloMosaic.TcCoe Idealize.SL.Sem

variable {F : FTy → Type} [FloatOps F]

/-- Contents of a device's block of `A`, of its block of `B`, and of the output. -/
abbrev AIn (F : FTy → Type) : Type := (cc0_stg0_0 : Ref sig .tc).ty.Contents (Elt F)
abbrev BIn (F : FTy → Type) : Type := (cc0_stg1_0 : Ref sig .tc).ty.Contents (Elt F)
abbrev Out (F : FTy → Type) : Type := (cc0_stg2_0 : Ref sig .tc).ty.Contents (Elt F)

/-! ## Blocks of the output -/

/-- A position in the output. -/
abbrev Ix : Type := S2048x2048.Idx
/-- Row and column of an element. -/
abbrev row (i : Ix) : ℕ := (i (0 : Fin 2)).val
abbrev col (i : Ix) : ℕ := (i (1 : Fin 2)).val
/-- Rows and columns are below 2048. -/
theorem row_lt (i : Ix) : row i < 2048 := (i (0 : Fin 2)).isLt
theorem col_lt (i : Ix) : col i < 2048 := (i (1 : Fin 2)).isLt

/-- Rows `l` to `l + h` of the columns of stream `s`. -/
def blk (s : Fin 6) (l h : ℕ) : Finset Ix :=
  Finset.univ.filter fun i => (l ≤ row i ∧ row i < l + h) ∧ cof s ≤ col i ∧ col i < cof s + wid s

/-- When a position is in a block. -/
theorem mem_blk {s : Fin 6} {l h : ℕ} {i : Ix} : i ∈ blk s l h ↔ (l ≤ row i ∧ row i < l + h) ∧ cof s ≤ col i ∧ col i < cof s + wid s := by
  unfold blk; rw [Finset.mem_filter]; exact ⟨fun h => h.2, fun h => ⟨Finset.mem_univ _, h⟩⟩

/-- Two stacked blocks are one. -/
theorem blk_union (s : Fin 6) (l h : ℕ) : blk s l h ∪ blk s (l + h) h = blk s l (2 * h) := by
  ext i; rw [Finset.mem_union, mem_blk, mem_blk, mem_blk]; omega
/-- Blocks of a stream with no row in common are disjoint. -/
theorem blk_disjoint (s : Fin 6) {l l' h : ℕ} (hl : l + h ≤ l' ∨ l' + h ≤ l) : Disjoint (blk s l h) (blk s l' h) := by
  rw [Finset.disjoint_left]; intro i hi hi'; rw [mem_blk] at hi hi'; omega

/-- The two halves of the rows before round `k`: those kept and those sent. -/
theorem halves_disjoint (s : Fin 6) (k : Fin 5) (c : Dev nD) : Disjoint (blk s (keepLo s k c) (hgt k)) (blk s (sendLo s k c) (hgt k)) :=
  blk_disjoint s (by revert s k c; decide +kernel)
/-- The half kept and the half sent are the lower and the upper half of what a device has before the round, in one order or the other. -/
theorem halves_cases (s : Fin 6) (k : Fin 5) (c : Dev nD) :
    (keepLo s k c = lo s c k.val ∧ sendLo s k c = lo s c k.val + hgt k) ∨ (sendLo s k c = lo s c k.val ∧ keepLo s k c = lo s c k.val + hgt k) := by
  revert s k c; decide +kernel
/-- Together they are what the device has before the round. -/
theorem halves_union (s : Fin 6) (k : Fin 5) (c : Dev nD) :
    blk s (keepLo s k c) (hgt k) ∪ blk s (sendLo s k c) (hgt k) = blk s (lo s c k.val) (2 * hgt k) := by
  rcases halves_cases s k c with ⟨h1, h2⟩ | ⟨h1, h2⟩
  · rw [h1, h2, blk_union]
  · rw [h1, h2, Finset.union_comm, blk_union]

/-- The element of the output at position `x` of the block whose first row is `l`. -/
def ix (s : Fin 6) (k : Fin 5) (l : ℕ) (x : (shp s k).Idx) : Ix :=
  fun a => ⟨((![l + (x (0 : Fin 2)).val, cof s + (x (1 : Fin 2)).val] : Fin 2 → ℕ) a) % 2048, by fin_cases a <;> exact Nat.mod_lt _ (by decide)⟩

/-- The position in that block of an element. -/
def lIx (s : Fin 6) (k : Fin 5) (l : ℕ) (i : Ix) : (shp s k).Idx :=
  fun a => ⟨(![(row i - l) % hgt k, (col i - cof s) % wid s] : Fin 2 → ℕ) a, by
    fin_cases a
    · exact Nat.mod_lt _ (by revert k; decide)
    · exact Nat.mod_lt _ (by revert s; decide)⟩

section Block
variable (s : Fin 6) (k : Fin 5) {l : ℕ} {off : Fin 2 → ℕ} (ho : off = ![l, cof s]) (inb : ∀ a, off a + (shp s k).size a ≤ S2048x2048.size a)

/-- A block inside the output has its positions inside the output. -/
theorem row_le (hl : l + hgt k ≤ 2048) (x : (shp s k).Idx) : l + (x (0 : Fin 2)).val < 2048 ∧ cof s + (x (1 : Fin 2)).val < 2048 := by
  have h0 : (x (0 : Fin 2)).val < hgt k := (x (0 : Fin 2)).isLt
  have h1 : (x (1 : Fin 2)).val < wid s := (x (1 : Fin 2)).isLt
  have := cof_le s; omega

/-- Row and column of a position of a block. -/
theorem row_ix (hl : l + hgt k ≤ 2048) (x : (shp s k).Idx) : row (ix s k l x) = l + (x (0 : Fin 2)).val :=
  Nat.mod_eq_of_lt (row_le s k hl x).1
theorem col_ix (hl : l + hgt k ≤ 2048) (x : (shp s k).Idx) : col (ix s k l x) = cof s + (x (1 : Fin 2)).val :=
  Nat.mod_eq_of_lt (row_le s k hl x).2

/-- A position of a block, found in the output and looked up again, is itself. -/
theorem lIx_ix (hl : l + hgt k ≤ 2048) (x : (shp s k).Idx) : lIx s k l (ix s k l x) = x := by
  funext a; apply Fin.ext
  have h0 : (x (0 : Fin 2)).val < hgt k := (x (0 : Fin 2)).isLt
  have h1 : (x (1 : Fin 2)).val < wid s := (x (1 : Fin 2)).isLt
  fin_cases a
  · show (row (ix s k l x) - l) % hgt k = _
    rw [row_ix s k hl, Nat.add_sub_cancel_left]; exact Nat.mod_eq_of_lt h0
  · show (col (ix s k l x) - cof s) % wid s = _
    rw [col_ix s k hl, Nat.add_sub_cancel_left]; exact Nat.mod_eq_of_lt h1

/-- A position of the output inside a block, looked up and found again, is itself. -/
theorem ix_lIx {i : Ix} (hi : i ∈ blk s l (hgt k)) : ix s k l (lIx s k l i) = i := by
  rw [mem_blk] at hi
  funext a; apply Fin.ext
  fin_cases a
  · show (l + (row i - l) % hgt k) % 2048 = row i
    rw [Nat.mod_eq_of_lt (show row i - l < hgt k by omega), show l + (row i - l) = row i by omega]; exact Nat.mod_eq_of_lt (row_lt i)
  · show (cof s + (col i - cof s) % wid s) % 2048 = col i
    rw [Nat.mod_eq_of_lt (show col i - cof s < wid s by omega), show cof s + (col i - cof s) = col i by omega]; exact Nat.mod_eq_of_lt (col_lt i)

/-- The slice of the output at a block. -/
abbrev oSl : Memref sig .tc .vmem (shp s k) .bf16 := oM.slice (Rect.unit (s := S2048x2048) off (shp s k).size inb) (fun _ => rfl)

include ho inb in
/-- The rows of a slice lie in the output. -/
theorem le_of_inb : l + hgt k ≤ 2048 := by subst ho; exact inb (0 : Fin 2)

include ho in
/-- A slice covers its block. -/
theorem oSl_set : (oSl s k inb).view.set = blk s l (hgt k) := by
  subst ho
  rw [show (oSl s k inb).view.set = (Rect.unit (s := S2048x2048) ![l, cof s] (shp s k).size inb).set from View.set_slice_whole _ _]
  ext i
  rw [Rect.mem_set_unit, mem_blk]
  exact Fin.forall_fin_two

include ho in
/-- Where a slice's position lies in the output. -/
theorem oSl_emb (x : (shp s k).Idx) : (oSl s k inb).view.emb x = ix s k l x := by
  have hl := le_of_inb s k ho inb
  subst ho
  funext a; apply Fin.ext
  fin_cases a
  · show l + 1 * (x (0 : Fin 2)).val = (l + (x (0 : Fin 2)).val) % 2048
    rw [Nat.one_mul, Nat.mod_eq_of_lt (row_le s k hl x).1]
  · show cof s + 1 * (x (1 : Fin 2)).val = (cof s + (x (1 : Fin 2)).val) % 2048
    rw [Nat.one_mul, Nat.mod_eq_of_lt (row_le s k hl x).2]

include ho in
/-- Reading a slice. -/
theorem oSl_read (f : Out F) : (oSl s k inb).view.read (Elt F) f = fun x => f (ix s k l x) := by
  funext x; rw [← oSl_emb s k ho inb x]; rfl

include ho in
/-- Writing into a block leaves there, element by element, what is written. -/
theorem oSl_write (f : Out F) (w : (shp s k).Idx → Elt F .bf16) {i : Ix} (hi : i ∈ blk s l (hgt k)) :
    (oSl s k inb).view.write (Elt F) f w Finset.univ i = w (lIx s k l i) := by
  have h := View.write_emb_of_mem (Val := Elt F) (v := (oSl s k inb).view) f w (Finset.mem_univ (lIx s k l i))
  rw [oSl_emb s k ho inb, ix_lIx s k hi] at h
  exact h

end Block

/-! ## The local products, the running sums, the result -/

/-- The half in which a row lies is inside the output. -/
theorem half_le (i : Ix) : 1024 * (row i / 1024) + 1024 ≤ 2048 := by have := row_lt i; omega

/-- Rows `l` to `l + 1024` of `A` times the columns of stream `s` of `B`, rounded to bf16. -/
def mulHalf (A : AIn F) (B : BIn F) (s : Fin 6) (l : ℕ) (hl : l + 1024 ≤ 2048) : FVec F (shp s 0) .bf16 :=
  mmPay s (aM.view.readAt (Elt F) (Rect.unit (s := S2048x1024) ![l, 0] S1024x1024.size
      (by intro a; fin_cases a <;> [exact hl; exact Nat.le_refl 1024])).toLoadRect A)
    (bM.view.readAt (Elt F) (Rect.unit (s := S1024x2048) ![0, cof s] (⟨2, ![1024, wid s]⟩ : Shape).size (mmB_inb s)).toLoadRect B)

/-- The local product in stream `s`, element by element. -/
def mulAt (A : AIn F) (B : BIn F) (s : Fin 6) : Out F :=
  fun i => mulHalf A B s (1024 * (row i / 1024)) (half_le i) (lIx s 0 (1024 * (row i / 1024)) i)

/-- On a half of a stream the local product is that half's product. -/
theorem mulAt_eq (A : AIn F) (B : BIn F) (s : Fin 6) {l : ℕ} (hl : l + 1024 ≤ 2048) (h2 : l = 0 ∨ l = 1024) {i : Ix} (hi : i ∈ blk s l 1024) :
    mulAt A B s i = mulHalf A B s l hl (lIx s 0 l i) := by
  rw [mem_blk] at hi
  have e : 1024 * (row i / 1024) = l := by omega
  unfold mulAt; subst e; rfl

/-- A multiplication starts at row 0 or at row 1024. -/
theorem mmLo_cases (h : Fin 2) (s : Fin 6) (c : Dev nD) : mmLo h s c = 0 ∨ mmLo h s c = 1024 := by revert h s c; decide +kernel

variable (A : Dev nD → AIn F) (B : Dev nD → BIn F)

/-- The partial sum that device `c` holds after `n` rounds of stream `s`: its own and its partner's of the round before. -/
def acc (s : Fin 6) : ℕ → Dev nD → Out F
  | 0, c => mulAt (A c) (B c) s
  | n + 1, c => addf (F := F) (s := S2048x2048) (acc s n c) (acc s n (if h : n < 5 then pr s ⟨n, h⟩ c else c))

/-- One more round adds the partner's partial sum. -/
theorem acc_succ (s : Fin 6) (k : Fin 5) (c : Dev nD) (i : Ix) :
    acc A B s (k.val + 1) c i = addf (F := F) (s := S2048x2048) (acc A B s k.val c) (acc A B s k.val (pr s k c)) i := by
  rw [acc, dif_pos k.isLt]

/-- The stream of a column, and the device that completes rows `64 q` to `64 q + 64` of a stream. -/
def strOf (j : ℕ) : Fin 6 := if j < 384 then 0 else if j < 512 then 1 else if j < 1024 then 2 else if j < 1280 then 3 else if j < 1792 then 4 else 5
/-- The device that completes rows `64 q` to `64 q + 64` of a stream. -/
def owner (s : Fin 6) (q : ℕ) : Dev nD := ((List.finRange 32).find? fun c : Fin 32 => lo s c 5 == 64 * q).getD 0

/-- It is the device whose rows after five rounds these are. -/
theorem owner_eq (s : Fin 6) (c : Dev nD) : owner s (lo s c 5 / 64) = c := by revert s c; decide +kernel
/-- These rows start at a multiple of 64. -/
theorem lo_five (s : Fin 6) (c : Dev nD) : lo s c 5 % 64 = 0 := by revert s c; decide +kernel
/-- A column inside a stream's range is that stream's. -/
theorem strOf_eq (s : Fin 6) {j : ℕ} (h : cof s ≤ j ∧ j < cof s + wid s) : strOf j = s := by
  unfold strOf
  fin_cases s <;> simp only [cof, wid] at h <;> (repeat' split) <;> first | rfl | omega

/-- What every device's output ends with. -/
def res : Out F := fun i => acc A B (strOf (col i)) 5 (owner (strOf (col i)) (row i / 64)) i

/-- On the rows that a device has after five rounds its partial sum is the result. -/
theorem res_eq (s : Fin 6) (c : Dev nD) {i : Ix} (hi : i ∈ blk s (lo s c 5) 64) : acc A B s 5 c i = res A B i := by
  rw [mem_blk] at hi
  unfold res
  rw [strOf_eq s hi.2]
  have h : row i / 64 = lo s c 5 / 64 := by have := lo_five s c; omega
  rw [h, owner_eq]

/-- The sum of a kept and an arrived block, element by element. -/
theorem addPay_apply (s : Fin 6) (k : Fin 5) (x y : Vec F (shp s k) .bf16) (f g : Out F) (j : (shp s k).Idx) (i : Ix)
    (hx : x j = f i) (hy : y j = g i) : addPay s k x y j = addf (F := F) (s := S2048x2048) f g i := by
  unfold addPay
  rw [shapeCast_self]
  show FloatOps.addf (x j) (y j) = FloatOps.addf (f i) (g i)
  rw [hx, hy]

end Cert.Gemm

end
-- ==== Proof.Schedule.lean ====
/-
# The protocol of the exchange

The cells (semaphores) of every device, what is paid into each of them and by whom, what each device owes, and the
levels that order the waits. A device has the barrier cell (five signals, one from each neighbour, each handing over the
neighbour's landing buffers that this device will fill) and, per stream and round, four copy cells.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- A barrier cell has five payers, a copy cell one. -/
abbrev Duty : Type := Fin 5
/-- The ghost state: that of the exchange beside that of the staging copies. -/
abbrev UB : Type := URounds (GSem nD τ sig) Duty
abbrev UU : Type := UR sig nD τ × UB

local notation "𝕄" => MT nD τ sig Unit (Elt F) ℕ UU ℕ

/-- Where the two lie in it. -/
abbrev EP : Emb (UR sig nD τ) (MT nD τ sig Unit (Elt F) ℕ UU ℕ) := embL
abbrev ER : Emb UB (MT nD τ sig Unit (Elt F) ℕ UU ℕ) := embR

/-! ## Cells -/

/-- A copy cell's name: the array, the stream, the round. -/
abbrev J : Type := Fin 4 × Fin 6 × Fin 5
/-- The semaphore of a copy cell. -/
abbrev dsem (j : J) : SemLoc sig := .dma (dq j.1 j.2.1 j.2.2)
/-- A device's cells: the barrier and the copy cells. -/
abbrev csem : Option J → SemLoc sig | none => .reg barS | some j => dsem j
/-- A cell of a device; its barrier cell; one of its copy cells. -/
abbrev kcell (ck : Dev nD × Option J) : GSem nD τ sig := ((ck.1 : Thread nD τ), csem ck.2)
abbrev barCell (c : Dev nD) : GSem nD τ sig := ((c : Thread nD τ), .reg barS)
abbrev dCell (a : Fin 4) (s : Fin 6) (k : Fin 5) (c : Dev nD) : GSem nD τ sig := ((c : Thread nD τ), .dma (dq a s k))

/-- Which copy cell a semaphore is, and which cell. -/
def dec : SemLoc sig → Option J
  | .dma q => if h : 3 ≤ (show Fin 123 from q).val then
      some (⟨((show Fin 123 from q).val - 3) / 30, by have := (show Fin 123 from q).isLt; omega⟩,
        ⟨((show Fin 123 from q).val - 3) % 30 / 5, by omega⟩, ⟨((show Fin 123 from q).val - 3) % 5, by omega⟩) else none
  | .reg _ => none
/-- Which cell a semaphore is, if it is one. -/
def kind : SemLoc sig → Option (Option J)
  | .reg _ => some none
  | .dma q => (dec (.dma q)).map some

/-- A copy cell's semaphore is recognised as that cell's. -/
theorem dec_dq (a : Fin 4) (s : Fin 6) (k : Fin 5) : dec (.dma (dq a s k)) = some (a, s, k) := by revert a s k; decide +kernel
/-- So is it among all the cells, -/
theorem kind_dq (a : Fin 4) (s : Fin 6) (k : Fin 5) : kind (.dma (dq a s k)) = some (some (a, s, k)) := by
  exact congrArg (Option.map some) (dec_dq a s k)
/-- and the barrier's, -/
theorem kind_bar : kind (.reg barS) = some none := rfl
/-- and any. -/
theorem kind_csem (j : Option J) : kind (csem j) = some j := by
  cases j with
  | none => exact kind_bar
  | some j => exact kind_dq j.1 j.2.1 j.2.2
/-- Different cells have different semaphores. -/
theorem csem_injective : Function.Injective csem := fun j j' h => Option.some.inj ((kind_csem j).symm.trans ((congrArg kind h).trans (kind_csem j')))

/-- What a copy of round `k` of stream `s` credits. -/
abbrev amt (s : Fin 6) (k : Fin 5) : ℕ := (rbuf s k).view.dmaCredit
/-- Every copy credits something. -/
theorem amt_pos (s : Fin 6) (k : Fin 5) : 0 < amt s k := View.dmaCredit_pos _ (shp_pos s k)
/-- A copy between a landing buffer and a block of the output credits the same at both ends. -/
theorem amt_oSl (s : Fin 6) (k : Fin 5) {off : Fin 2 → ℕ} (inb : ∀ a, off a + (shp s k).size a ≤ S2048x2048.size a) :
    (oSl s k inb).view.dmaCredit = amt s k := by fin_cases s <;> fin_cases k <;> rfl

/-! ## What is handed over -/

/-- Rows `l` to `l + h` of stream `s` of device `c`'s output. -/
def own (c : Dev nD) (s : Fin 6) (l h : ℕ) (f : Out F) : sProp 𝕄 := ((c : Thread nD τ).loc cc0_stg2_0) ↦[blk s l h]{fullShare} f
/-- The landing buffer of round `k` of stream `s` of device `c`. -/
def rb (c : Dev nD) (s : Fin 6) (k : Fin 5) (f : Buf (Elt F) ((rbuf s k).view.loc (c : Thread nD τ))) : sProp 𝕄 :=
  (rbuf s k).view.loc (c : Thread nD τ) ↦[(rbuf s k).view.set]{fullShare} f

omit [FloatOps F] in
instance own_storable (c : Dev nD) (s l h f) : BI.Storable (upEmb : UEmb _ 𝕄) (own (F := F) c s l h f) := by unfold own; infer_instance
omit [FloatOps F] in
instance rb_storable (c : Dev nD) (s k f) : BI.Storable (upEmb : UEmb _ 𝕄) (rb (F := F) c s k f) := by unfold rb; infer_instance

variable (A : Dev nD → AIn F) (B : Dev nD → BIn F)

/-- The signal of direction `d`: the neighbour's landing buffers of the rounds that cross `d`. -/
def barPay (c : Dev nD) (d : Duty) : sProp 𝕄 :=
  bigSep Finset.univ fun sk : Fin 6 × Fin 5 => if d = dim sk.1 sk.2 then iprop(∃ f, rb (F := F) (par d c) sk.1 sk.2 f) else iprop(emp)
/-- A reduce-scatter copy that arrived: the landing buffer with the partner's partial sums, and the partner's rows it came from. -/
def rsPay (c : Dev nD) (s : Fin 6) (k : Fin 5) : sProp 𝕄 :=
  iprop((∃ f, ⌜(rbuf s k).view.read (Elt F) f = fun x => acc A B s k.val (pr s k c) (ix s k (keepLo s k c) x)⌝ ∗ rb c s k f)
    ∗ ∃ f, own (pr s k c) s (keepLo s k c) (hgt k) f)
/-- An all-gather copy sent: its source rows back; and arrived: the rows it filled. -/
def agSrc (c : Dev nD) (s : Fin 6) (k : Fin 5) : sProp 𝕄 := own c s (keepLo s k c) (hgt k) (res A B)
/-- The rows that an all-gather copy filled. -/
def agDst (c : Dev nD) (s : Fin 6) (k : Fin 5) : sProp 𝕄 := own c s (sendLo s k c) (hgt k) (res A B)

/-- What a payment into a cell hands over. -/
def cellPay (c : Dev nD) (d : Duty) : Option (Option J) → sProp 𝕄
  | some none => barPay c d
  | some (some (0, _, _)) => iprop(emp)
  | some (some (1, s, k)) => rsPay A B c s k
  | some (some (2, s, k)) => agSrc A B c s k
  | some (some (3, s, k)) => agDst A B c s k
  | none => iprop(emp)

omit [FloatOps F] in
instance ite_storable (p : Prop) [Decidable p] (X Y : sProp 𝕄) [BI.Storable (upEmb : UEmb _ 𝕄) X] [BI.Storable (upEmb : UEmb _ 𝕄) Y] :
    BI.Storable (upEmb : UEmb _ 𝕄) (if p then X else Y) := by split <;> infer_instance
instance cellPay_storable (c : Dev nD) (d : Duty) (j) : BI.Storable (upEmb : UEmb _ 𝕄) (cellPay A B c d j) := by
  unfold cellPay barPay rsPay agSrc agDst
  (repeat' split) <;> infer_instance

/-- The schedule: who pays into a cell, how much, and what is handed over. Every cell has one round. -/
def sched : Rounds.Schedule (GSem nD τ sig) Duty 𝕄 where
  duties g r := if r = 0 ∧ g.1.2 = .tc then (match kind g.2 with | some none => Finset.univ | some (some _) => {0} | none => ∅) else ∅
  unitless _ := False
  amount g _ _ := match kind g.2 with | some (some (_, s, k)) => amt s k | _ => 1
  payload g _ d := cellPay A B g.1.1 d (kind g.2)
  amount_pos g _ _ _ := by split <;> first | exact amt_pos _ _ | exact Nat.one_pos

instance sched_payload_storable (g : GSem nD τ sig) (r : ℕ) (d : Duty) :
    BI.Storable (upEmb : UEmb _ 𝕄) ((sched A B).payload g r d) := cellPay_storable A B g.1.1 d (kind g.2)

/-- The five duties of a barrier cell. -/
theorem duties_bar (c : Dev nD) : (sched A B).duties (barCell c) 0 = Finset.univ := by
  dsimp only [sched]; rw [if_pos ⟨rfl, rfl⟩]; rfl
/-- The one duty of a copy cell. -/
theorem duties_dma (a : Fin 4) (s : Fin 6) (k : Fin 5) (c : Dev nD) : (sched A B).duties (dCell a s k c) 0 = {0} := by
  dsimp only [sched]; rw [if_pos ⟨rfl, rfl⟩, kind_dq]
/-- No cell has a second round. -/
theorem duties_later (g : GSem nD τ sig) : ∀ r, 1 ≤ r → (sched A B).duties g r = ∅ :=
  fun r hr => by dsimp only [sched]; rw [if_neg fun h => by omega]
/-- The amounts and what is handed over, cell by cell. -/
theorem amount_bar (c : Dev nD) (d : Duty) : (sched A B).amount (barCell c) 0 d = 1 := rfl
theorem amount_dma (a : Fin 4) (s : Fin 6) (k : Fin 5) (c : Dev nD) (d : Duty) : (sched A B).amount (dCell a s k c) 0 d = amt s k := by
  dsimp only [sched]; rw [kind_dq]
theorem payload_bar (c : Dev nD) (d : Duty) : (sched A B).payload (barCell c) 0 d = barPay c d := rfl
theorem payload_dma (a : Fin 4) (s : Fin 6) (k : Fin 5) (c : Dev nD) (d : Duty) :
    (sched A B).payload (dCell a s k c) 0 d = cellPay A B c d (some (some (a, s, k))) := by
  dsimp only [sched]; rw [kind_dq]

/-- A barrier cell collects five units. -/
theorem expect_bar (c : Dev nD) : (sched A B).expect (barCell c) 0 = 5 := by
  unfold Schedule.expect Schedule.amountOf
  rw [duties_bar, Finset.sum_congr rfl fun d _ => amount_bar A B c d, Finset.sum_const, Finset.card_univ, Fintype.card_fin, smul_eq_mul]
/-- A copy cell collects what its one copy credits. -/
theorem expect_dma (a : Fin 4) (s : Fin 6) (k : Fin 5) (c : Dev nD) : (sched A B).expect (dCell a s k c) 0 = amt s k := by
  unfold Schedule.expect Schedule.amountOf; rw [duties_dma, Finset.sum_singleton, amount_dma]

/-- All that a copy cell hands over. -/
theorem rest_dma (a : Fin 4) (s : Fin 6) (k : Fin 5) (c : Dev nD) :
    bigSep ((sched A B).duties (dCell a s k c) 0 \ ∅) (fun d => (sched A B).payload (dCell a s k c) 0 d) = cellPay A B c 0 (some (some (a, s, k))) := by
  rw [Finset.sdiff_empty, duties_dma, bigSep_singleton, payload_dma]
omit [FloatOps F] in
/-- A family that is empty but at one index is its member there. -/
theorem bigSep_ite_at {I : Type} [Fintype I] [DecidableEq I] (i : I) (Φ : I → sProp 𝕄) :
    (bigSep Finset.univ fun j => if j = i then Φ j else iprop(emp)) = Φ i := by
  have h : (bigSep (Finset.univ.filter (· = i)) Φ) = bigSep Finset.univ fun j => if j = i then Φ j else iprop(emp) :=
    bigSep_filter Finset.univ (· = i) Φ
  rw [← h, Finset.filter_eq' Finset.univ i, if_pos (Finset.mem_univ _), bigSep_singleton]
/-- All five signals together: every landing buffer this device fills. -/
theorem rest_bar (c : Dev nD) :
    bigSep ((sched A B).duties (barCell c) 0 \ ∅) (fun d => (sched A B).payload (barCell c) 0 d)
      = bigSep Finset.univ fun sk : Fin 6 × Fin 5 => iprop(∃ f, rb (F := F) (pr sk.1 sk.2 c) sk.1 sk.2 f) := by
  rw [Finset.sdiff_empty, duties_bar]
  simp only [payload_bar]; unfold barPay
  rw [bigSep_univ_comm]
  exact bigSep_congr fun sk _ => bigSep_ite_at (dim sk.1 sk.2) fun d => iprop(∃ f, rb (F := F) (par d c) sk.1 sk.2 f)

/-! ## Levels and debts -/

/-- The place of each copy start in program order: the level of the cell it credits. -/
def rank (q : Fin 2) (s : Fin 6) (k : Fin 5) : ℕ := match q with
  | 0 => (![![6, 12, 18, 22, 28], ![7, 13, 19, 23, 29], ![2, 8, 14, 20, 24], ![3, 9, 15, 21, 25], ![4, 10, 16, 26, 30], ![5, 11, 17, 27, 31]] : Fin 6 → Fin 5 → ℕ) s k
  | 1 => (![![56, 46, 42, 36, 32], ![57, 47, 43, 37, 33], ![58, 52, 48, 44, 38], ![59, 53, 49, 45, 39], ![60, 54, 50, 40, 34], ![61, 55, 51, 41, 35]] : Fin 6 → Fin 5 → ℕ) s k
/-- Every copy is above the barrier. -/
theorem rank_pos (q : Fin 2) (s : Fin 6) (k : Fin 5) : 1 < rank q s k := by revert q s k; decide

/-- What device `c` owes for a step, for a list of steps, and at launch. -/
def owe1 (c : Dev nD) : Op → CellTallies nD τ sig Unit
  | .rs s k => tallyAt (dCell 1 s k (pr s k c)) () (amt s k)
  | .ag s k => tallyAt (dCell 3 s k (pr s k c)) () (amt s k)
  | _ => 0
/-- The same for a list of steps. -/
def owed (c : Dev nD) : List Op → CellTallies nD τ sig Unit
  | [] => 0
  | o :: l => owed c l + owe1 c o
/-- A signal of the barrier. -/
abbrev barOwe (c : Dev nD) (d : Duty) : CellTallies nD τ sig Unit := tallyAt (barCell (par d c)) () 1
/-- What a device owes at launch: its five signals and all its copies. -/
def O₀ (c : Dev nD) : CellTallies nD τ sig Unit :=
  owed c ops + barOwe c 4 + barOwe c 3 + barOwe c 2 + barOwe c 1 + barOwe c 0

/-- Only the cells of the cores have levels. -/
def L (g : GSem nD τ sig) : Finset Unit := if g.1.2 = .tc then {()} else ∅
/-- The level of a cell: the barrier's 1, an arrival's the place of its copy, everything else 0. -/
def lv (g : GSem nD τ sig) (_ : Unit) : ℕ := match kind g.2 with
  | some none => 1 | some (some (1, s, k)) => rank 0 s k | some (some (3, s, k)) => rank 1 s k | _ => 0
/-- The levels, cell by cell. -/
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_0 (s : Fin 6) (k : Fin 5) (c : Dev nD) : lv (dCell 0 s k c) () = 0 := by unfold lv; rw [kind_dq]; rfl
theorem lv_1 (s : Fin 6) (k : Fin 5) (c : Dev nD) : lv (dCell 1 s k c) () = rank 0 s k := by unfold lv; rw [kind_dq]; rfl
theorem lv_2 (s : Fin 6) (k : Fin 5) (c : Dev nD) : lv (dCell 2 s k c) () = 0 := by unfold lv; rw [kind_dq]; rfl
theorem lv_3 (s : Fin 6) (k : Fin 5) (c : Dev nD) : lv (dCell 3 s k c) () = rank 1 s k := by unfold lv; rw [kind_dq]; rfl

/-- Every copy start among the steps has a level above `n`. -/
def Op.above (n : ℕ) : Op → Bool | .rs s k => n < rank 0 s k | .ag s k => n < rank 1 s k | _ => true

/-- What a list of steps owes is owed to a core's cell, above every level that its copies are above. -/
theorem owed_pos {c : Dev nD} {l : List Op} {g : GSem nD τ sig} {u : Unit} (h : 0 < owed c l g u) :
    g.1.2 = .tc ∧ ∀ n, l.all (Op.above n) = true → n < lv g () := by
  induction l with
  | nil => exact absurd h (Nat.lt_irrefl 0)
  | cons o l ih =>
    rw [owed, Pi.add_apply, Finsupp.add_apply] at h
    by_cases h1 : 0 < owed c l g u
    · exact ⟨(ih h1).1, fun n hn => (ih h1).2 n (by rw [List.all_cons, Bool.and_eq_true] at hn; exact hn.2)⟩
    · have h2 : 0 < owe1 c o g u := by omega
      have hcell (g' : GSem nD τ sig) (N : ℕ) (hh : 0 < (tallyAt g' () N : CellTallies nD τ sig Unit) g u) : g = g' := by
        by_contra hne
        rw [tallyAt_apply, if_neg fun h' => hne h'.1] at hh
        exact Nat.lt_irrefl 0 hh
      cases o with
      | rs s k =>
        have := hcell _ _ h2; subst this
        refine ⟨rfl, fun n hn => ?_⟩
        rw [List.all_cons, Bool.and_eq_true] at hn
        rw [lv_1]; exact of_decide_eq_true hn.1
      | ag s k =>
        have := hcell _ _ h2; subst this
        refine ⟨rfl, fun n hn => ?_⟩
        rw [List.all_cons, Bool.and_eq_true] at hn
        rw [lv_3]; exact of_decide_eq_true hn.1
      | mm _ _ => exact absurd h2 (Nat.lt_irrefl 0)
      | fin _ _ => exact absurd h2 (Nat.lt_irrefl 0)
      | col _ _ => exact absurd h2 (Nat.lt_irrefl 0)

/-- A device may wait at a level below everything that it owes. -/
theorem mayWait_of {c : Dev nD} {sm : SemLoc sig} {O : CellTallies nD τ sig Unit} (n : ℕ) (hl : lv ((c : Thread nD τ), sm) () ≤ n)
    (h : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact hl)
    (fun g u hg => (h g u hg).2)

/-- A device may wait at a level below every copy it has still to start. -/
theorem mayWait_owed {c : Dev nD} {sm : SemLoc sig} {l : List Op} (n : ℕ) (hl : lv ((c : Thread nD τ), sm) () ≤ n) (h : l.all (Op.above n) = true) :
    (levAts L lv : sProp 𝕄) ⊢ MayWait (c : Thread nD τ) sm () (owed c l) :=
  mayWait_of n hl fun g u hg => ⟨(owed_pos hg).1, (owed_pos hg).2 n h⟩

/-- Every copy of the kernel is above the barrier. -/
theorem above_ops : ops.all (Op.above 1) = true := by decide +kernel

/-- At launch everything owed is at a barrier cell or above. -/
theorem O₀_pos {c : Dev nD} {g : GSem nD τ sig} {u : Unit} (h : 0 < O₀ c g u) : g.1.2 = .tc ∧ 0 < lv g () := by
  unfold O₀ at h
  have hb (d : Duty) (hh : 0 < barOwe c d g u) : g.1.2 = .tc ∧ 0 < lv g () := by
    by_cases hg : g = barCell (par d c)
    · subst hg; exact ⟨rfl, by rw [lv_bar]; exact Nat.one_pos⟩
    · rw [tallyAt_apply, if_neg fun h' => hg h'.1] at hh; exact absurd hh (Nat.lt_irrefl 0)
  simp only [Pi.add_apply, Finsupp.add_apply] at h
  by_cases h0 : 0 < owed c ops g u
  · exact ⟨(owed_pos h0).1, Nat.lt_of_succ_lt ((owed_pos h0).2 1 above_ops)⟩
  by_cases h4 : 0 < barOwe c 4 g u; · exact hb 4 h4
  by_cases h3 : 0 < barOwe c 3 g u; · exact hb 3 h3
  by_cases h2 : 0 < barOwe c 2 g u; · exact hb 2 h2
  by_cases h1 : 0 < barOwe c 1 g u; · exact hb 1 h1
  exact hb 0 (by omega)

end Cert.Gemm

end
-- ==== Proof.Steps.lean ====
/-
# The steps one by one

For each kind of step of the flat program, what it takes and what it gives back.
-/
module

public import proofs.«01_k».proof.Proof.Schedule

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body has no loop. -/
abbrev 𝒱₀ : Variants := Variants.none

/-- Device `c` runs a program. -/
abbrev run (c : Dev nD) (p : P F) (Q : PUnit → sProp 𝕄) : sProp 𝕄 :=
  wp frame (wpE (defs₀ (F := F)) 𝒱₀ (c : Thread nD τ) none) Set.univ p Q

variable (A : Dev nD → AIn F) (B : Dev nD → BIn F) (K : Dev nD × Option J → ℕ)

/-! ## What every step may use -/

/-- Every cell's invariant, every cell at round 0, and the levels. -/
def recs : sProp 𝕄 :=
  iprop((bigSep Finset.univ fun ck : Dev nD × Option J => cellInv ER (sched A B) (K ck) (kcell ck))
    ∗ (bigSep Finset.univ fun ck : Dev nD × Option J => reached ER (kcell ck) 0) ∗ levAts L lv)
instance recs_persistent : BI.Persistent (recs A B K) := by unfold recs; infer_instance

/-- The records hold each cell's invariant, -/
theorem recs_inv (ck : Dev nD × Option J) : recs A B K ⊢ cellInv ER (sched A B) (K ck) (kcell ck) := by
  unfold recs; iintro ⟨H, -, -⟩
  have h : (bigSep Finset.univ fun ck : Dev nD × Option J => cellInv ER (sched A B) (K ck) (kcell ck)) ⊢ cellInv ER (sched A B) (K ck) (kcell ck) :=
    bigSep_elim (Finset.mem_univ ck)
  iapply h $$ H
/-- and that it is at its first round. -/
theorem recs_reached (ck : Dev nD × Option J) : recs A B K ⊢ reached ER (kcell ck) 0 := by
  unfold recs; iintro ⟨-, H, -⟩
  have h : (bigSep Finset.univ fun ck : Dev nD × Option J => (reached ER (kcell ck) 0 : sProp 𝕄)) ⊢ reached ER (kcell ck) 0 :=
    bigSep_elim (Finset.mem_univ ck)
  iapply h $$ H

/-- What device `c` still owes. -/
def ow (c : Dev nD) (O : CellTallies nD τ sig Unit) : sProp 𝕄 := iprop(∃ W, owes (c : Thread nD τ) O W)

/-- Device `c`, owing `O`, may wait on `sm`. -/
abbrev mayWait (c : Dev nD) (sm : SemLoc sig) (O : CellTallies nD τ sig Unit) : Prop :=
  (levAts L lv : sProp 𝕄) ⊢ MayWait (c : Thread nD τ) sm () O

/-- The records give that too. -/
theorem recs_mayWait {c : Dev nD} {sm : SemLoc sig} {O : CellTallies nD τ sig Unit} (hm : mayWait (F := F) c sm O) :
    recs A B K ⊢ MayWait (c : Thread nD τ) sm () O := by
  unfold recs; iintro ⟨-, -, H⟩; iapply hm; iexact H

/-! ## The state of one exchange -/

variable (c : Dev nD) (s : Fin 6) (k : Fin 5)

/-- What a device needs for a reduce-scatter copy besides the buffers: the tokens to pay, its positions and its credit. -/
def rsTok : sProp 𝕄 :=
  iprop(dutyTok ER (dCell 0 s k c) 0 0 ∗ dutyTok ER (dCell 1 s k (pr s k c)) 0 0
    ∗ atPos ER (dCell 0 s k c) 0 ∅ 0 ∗ atPos ER (dCell 1 s k c) 0 ∅ 0 ∗ cred (tallyAt (dCell 1 s k c) () (amt s k)))
/-- Before the copy: also the partner's landing buffer. -/
def rsReady : sProp 𝕄 := iprop((∃ f, rb (F := F) (pr s k c) s k f) ∗ rsTok (F := F) c s k)
/-- The copy in flight. -/
def rsMid : sProp 𝕄 :=
  iprop(cred (tallyAt (dCell 0 s k c) () (amt s k)) ∗ atPos ER (dCell 0 s k c) 0 ∅ 0 ∗ atPos ER (dCell 1 s k c) 0 ∅ 0
    ∗ cred (tallyAt (dCell 1 s k c) () (amt s k)))
/-- The copy waited for: its cells at zero, and the landing buffer back. -/
def rsFin : sProp 𝕄 := iprop(semVal (dCell 0 s k c) 0 ∗ semVal (dCell 1 s k c) 0 ∗ ∃ f, rb (F := F) c s k f)
/-- The partner's rows that the all-gather copy will fill. -/
def piece : sProp 𝕄 := iprop(∃ f, own (F := F) (pr s k c) s (keepLo s k c) (hgt k) f)
/-- Before an all-gather copy: the tokens, the positions and the credit. -/
def agReady : sProp 𝕄 :=
  iprop(dutyTok ER (dCell 2 s k c) 0 0 ∗ dutyTok ER (dCell 3 s k (pr s k c)) 0 0
    ∗ atPos ER (dCell 2 s k c) 0 ∅ 0 ∗ atPos ER (dCell 3 s k c) 0 ∅ 0 ∗ cred (tallyAt (dCell 3 s k c) () (amt s k)))
/-- That copy in flight. -/
def agMid : sProp 𝕄 :=
  iprop(cred (tallyAt (dCell 2 s k c) () (amt s k)) ∗ atPos ER (dCell 2 s k c) 0 ∅ 0 ∗ atPos ER (dCell 3 s k c) 0 ∅ 0
    ∗ cred (tallyAt (dCell 3 s k c) () (amt s k)))
/-- That copy waited for: its cells at zero. -/
def agDone : sProp 𝕄 := iprop(semVal (dCell 2 s k c) 0 ∗ semVal (dCell 3 s k c) 0)

/-- The partner's partner is the device itself. -/
theorem pr_pr : pr s k (pr s k c) = c := par_par _ _

/-! ## Multiplications -/

/-- The device's blocks of `A` and `B` in its memory. -/
def aPt (c : Dev nD) (f : AIn F) : sProp 𝕄 := ((c : Thread nD τ).loc cc0_stg0_0) ↦{fullShare} f
def bPt (c : Dev nD) (f : BIn F) : sProp 𝕄 := ((c : Thread nD τ).loc cc0_stg1_0) ↦{fullShare} f

omit [FloatOps F] in
/-- A load at a block of the output reads inside the block. -/
theorem set_load {off : Fin 2 → ℕ} {l : ℕ} (ho : off = ![l, cof s]) (inb : ∀ a, off a + (shp s k).size a ≤ S2048x2048.size a) :
    oM.view.setOn (Rect.unit (s := S2048x2048) off (shp s k).size inb).toLoadRect.set ⊆ blk s l (hgt k) := by
  rw [← oSl_set s k ho inb, View.set_slice]; exact Finset.Subset.refl _

omit [FloatOps F] in
/-- A store at a block of the output writes that block. -/
theorem set_store {off : Fin 2 → ℕ} {l : ℕ} (ho : off = ![l, cof s]) (inb : ∀ a, off a + (shp s k).size a ≤ S2048x2048.size a) :
    (oM.access (Rect.unit (s := S2048x2048) off (shp s k).size inb)).setOn Finset.univ ⊆ blk s l (hgt k) := by
  rw [← oSl_set s k ho inb]; exact Finset.Subset.refl _

/-- Rows stored whole hold what was stored. -/
theorem own_write {off : Fin 2 → ℕ} {l : ℕ} (ho : off = ![l, cof s]) (inb : ∀ a, off a + (shp s k).size a ≤ S2048x2048.size a)
    (f g : Out F) (w : (shp s k).Idx → Elt F .bf16) (h : ∀ i ∈ blk s l (hgt k), w (lIx s k l i) = g i) :
    own c s l (hgt k) ((oM.access (Rect.unit (s := S2048x2048) off (shp s k).size inb)).write (Elt F) f w Finset.univ) = own c s l (hgt k) g := by
  unfold own
  exact pointsTo_congr fun i hi => (oSl_write s k ho inb f w hi).trans (h i hi)

omit [FloatOps F] in
/-- A load depends on its offset alone. -/
theorem readA_congr (f : AIn F) {off off' : Fin 2 → ℕ} (h : off = off') {inb : ∀ a, off a + S1024x1024.size a ≤ S2048x1024.size a} :
    aM.view.readAt (Elt F) (Rect.unit (s := S2048x1024) off S1024x1024.size inb).toLoadRect f
      = aM.view.readAt (Elt F) (Rect.unit (s := S2048x1024) off' S1024x1024.size (h ▸ inb)).toLoadRect f := by subst h; rfl

/-- A multiplication: the rows it writes hold the product. -/
theorem step_mm (h : Fin 2) :
    iprop(aPt c (A c) ∗ bPt c (B c) ∗ ∃ f, own c s (mmLo h s c) (hgt 0) f)
      ⊢ run c (mmProg h s c) fun _ => iprop(aPt c (A c) ∗ bPt c (B c) ∗ own c s (mmLo h s c) (hgt 0) (acc A B s 0 c)) := by
  unfold mmProg aPt bPt
  iintro ⟨Ha, Hb, ⟨%f, Ho⟩⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  unfold own
  iapply (wp_load 𝒱₀ (c : Thread nD τ) none Set.univ (m := oM) (set_load s 0 (mmO_eq h s c) (mmO_inb h s c))) $$ Ho; iintro Ho
  iapply (wp_store 𝒱₀ (c : Thread nD τ) none Set.univ (m := oM) (Mk := Finset.univ) (set_store s 0 (mmO_eq h s c) (mmO_inb h s c))) $$ Ho; iintro Ho
  rw [wp_ret]; imodintro
  isplitl [Ha]; · iexact Ha
  isplitl [Hb]; · iexact Hb
  have e := own_write c s 0 (mmO_eq h s c) (mmO_inb h s c) f (acc A B s 0 c)
    (mmPay s (aM.view.readAt (Elt F) (Rect.unit (s := S2048x1024) (mmA h s c) S1024x1024.size (mmA_inb h s c)).toLoadRect (A c))
      (bM.view.readAt (Elt F) (Rect.unit (s := S1024x2048) ![0, cof s] (⟨2, ![1024, wid s]⟩ : Shape).size (mmB_inb s)).toLoadRect (B c))) fun i hi => ?_
  · unfold own at e
    rw [← e]; iexact Ho
  rw [acc, mulAt_eq (A c) (B c) s (mmLo_le h s c) (mmLo_cases h s c) hi]
  unfold mulHalf
  rw [readA_congr (A c) (mmA_eq h s c)]

/-! ## Waits -/

/-- A wait on a copy cell: what was handed over, and the cell closed at zero. -/
theorem wait_cell (a : Fin 4) {w : TpuEff nD τ sig (Elt F) Λ₀ .tc PUnit} {n : ℕ} {O : CellTallies nD τ sig Unit} {k' : PUnit → P F} {Q : PUnit → sProp 𝕄}
    (hw : ∀ R : PUnit → sProp 𝕄, wpE (defs₀ (F := F)) 𝒱₀ (c : Thread nD τ) none Set.univ w R = waitSpec (c : Thread nD τ) Set.univ (.dma (dq a s k)) n R)
    (hn : n = amt s k) (hm : mayWait (F := F) c (.dma (dq a s k)) O) :
    iprop(recs A B K ∗ cred (tallyAt (dCell a s k c) () (amt s k)) ∗ ow c O ∗ atPos ER (dCell a s k c) 0 ∅ 0)
      ⊢ iprop(((ow c O ∗ semVal (dCell a s k c) 0 ∗ cellPay A B c 0 (some (some (a, s, k)))) -∗ run c (k' ⟨⟩) Q) -∗ run c (.op w k') Q) := by
  subst hn
  unfold ow
  iintro ⟨#Hr, Hc, ⟨%W, HO⟩, Hat⟩ Hk
  ihave #HI := (recs_inv A B K (c, some (a, s, k))) $$ Hr
  iapply (Rounds.wp_wait_rest_token 𝒱₀ ER (sched A B) (c : Thread nD τ) none (κ := K (c, some (a, s, k))) (sm := .dma (dq a s k)) (k' := amt s k)
      hw (Set.mem_univ _) () (O := O) (W := W) (R := 0) (m := 0) (T := ∅)
      ((Nat.zero_add _).trans (expect_dma A B a s k c).symm)) $$ [Hc HO Hat]
  · isplitr; · iexact HI
    isplitl [Hc]; · iexact Hc
    isplitl [HO]; · iexact HO
    isplitr
    · iapply (recs_mayWait A B K hm); iexact Hr
    iexact Hat
  iintro ⟨HO, Hat, -, Hpay⟩
  ihave Hp := (Entails.of_eq (rest_dma A B a s k c)) $$ Hpay
  imod (Rounds.cell_close ER (sched A B) (Set.mem_univ (K (c, some (a, s, k)))) (fun h => h) (R := 0 + 1) (duties_later A B (dCell a s k c))) $$ [Hat] with Hz
  · isplitr; · iexact HI
    iexact Hat
  iapply Hk
  isplitl [HO]; · iexists _; iexact HO
  isplitl [Hz]; · iexact Hz
  iexact Hp

/-! ## Copies -/

/-- Start a reduce-scatter copy, addressed to the partner `n`. -/
theorem send_rs (n : Dev nD) (hn : n = pr s k c) {k' : PUnit → P F} {Q : PUnit → sProp 𝕄} {O : CellTallies nD τ sig Unit} :
    iprop(recs A B K ∗ rsReady c s k ∗ own c s (sendLo s k c) (hgt k) (acc A B s k.val c) ∗ ow c (O + owe1 c (.rs s k)))
      ⊢ iprop(((rsMid c s k ∗ ow c O) -∗ run c (k' ⟨⟩) Q)
          -∗ run c (.op (.enqueueDma (rsBlk s k c) (.remote (Dev.tc n) (rbuf s k) (.dma (dq 0 s k)) (rbuf_scratch s k)) (.dma (dq 1 s k))
              (rsBlk_exact s k c) (rbuf_whole s k).wordExact ⟨⟨rfl, Or.inl rfl⟩, trivial⟩) k') Q) := by
  subst hn
  unfold rsReady rsTok ow
  iintro ⟨#Hr, ⟨⟨%fn, Hb⟩, Ht0, Ht1, Hat0, Hat1, Hc1⟩, Ho, ⟨%W, HO⟩⟩ Hk
  ihave #HI0 := (recs_inv A B K (c, some (0, s, k))) $$ Hr
  ihave #HI1 := (recs_inv A B K (pr s k c, some (1, s, k))) $$ Hr
  ihave #HR0 := (recs_reached A B K (c, some (0, s, k))) $$ Hr
  ihave #HR1 := (recs_reached A B K (pr s k c, some (1, s, k))) $$ Hr
  iapply (Rounds.wp_send_landing_pointsTo 𝒱₀ ER (sched A B) (c : Thread nD τ) none (κ₁ := K (c, some (0, s, k))) (κ₂ := K (pr s k c, some (1, s, k)))
    (c' := (pr s k c : Thread nD τ)) (src := rsBlk s k c) (dst := rbuf s k) (sS := .dma (dq 0 s k)) (sem := .dma (dq 1 s k))
    (q := fullShare) (fs := acc A B s k.val c)
    (r₁ := 0) (r₂ := 0) (d₁ := 0) (d₂ := 0) (fd := fn)
    (by rw [duties_dma]; exact Finset.mem_singleton_self _) (by rw [duties_dma]; exact Finset.mem_singleton_self _)
    () () (amt s k) rfl (amount_dma A B 0 s k c 0) (amount_dma A B 1 s k (pr s k c) 0) O rfl (W := W)
    (by rw [payload_dma]; exact BI.Entails.refl _)
    (by
      rw [payload_dma]; show _ ⊢ rsPay A B (pr s k c) s k
      unfold rsPay
      rw [pr_pr, ← sendLo_eq]
      iintro ⟨Hb, Ho⟩
      isplitl [Hb]
      · iexists _; isplitr
        rotate_left
        · unfold rb; iexact Hb
        · ipureintro
          rw [View.read_write_univ, oSl_read s k (rsOff_eq s k c) (rsOff_inb s k c)]
      · iexists _; unfold own
        rw [oSl_set s k (rsOff_eq s k c) (rsOff_inb s k c)]
        iexact Ho)) $$ [Hb Ht0 Ht1 Ho HO]
  · isplitr; · iexact HI0
    isplitr; · iexact HI1
    isplitl [Ho]
    · unfold own; rw [oSl_set s k (rsOff_eq s k c) (rsOff_inb s k c)]; iexact Ho
    isplitl [Hb]; · unfold rb; iexact Hb
    isplitl [HO]; · iexact HO
    isplitl [Ht0]; · iexact Ht0
    isplitr; · iexact HR0
    isplitl [Ht1]; · iexact Ht1
    iexact HR1
  iintro ⟨Hc0, HO⟩
  iapply Hk
  unfold rsMid
  isplitl [Hc0 Hat0 Hat1 Hc1]
  · isplitl [Hc0]; · iexact Hc0
    isplitl [Hat0]; · iexact Hat0
    isplitl [Hat1] <;> iassumption
  iexists _; iexact HO

/-- Starting a reduce-scatter copy: the rows to be sent are given up and what it owed is paid. -/
theorem step_rs {O : CellTallies nD τ sig Unit} :
    iprop(recs A B K ∗ rsReady c s k ∗ own c s (sendLo s k c) (hgt k) (acc A B s k.val c) ∗ ow c (O + owe1 c (.rs s k)))
      ⊢ run c (rsProg s k c) fun _ => iprop(rsMid c s k ∗ ow c O) := by
  unfold rsProg
  iintro H
  iapply (send_rs A B K c s k _ (Fin.ext (rsDevN_eq s k c))) $$ H
  iintro H
  unfold run; rw [wp_ret]; imodintro; iexact H

/-- Start an all-gather copy, addressed to the partner `n`. -/
theorem send_ag (n : Dev nD) (hn : n = pr s k c) {k' : PUnit → P F} {Q : PUnit → sProp 𝕄} {O : CellTallies nD τ sig Unit} :
    iprop(recs A B K ∗ agReady c s k ∗ piece c s k ∗ own c s (keepLo s k c) (hgt k) (res A B) ∗ ow c (O + owe1 c (.ag s k)))
      ⊢ iprop(((agMid c s k ∗ ow c O) -∗ run c (k' ⟨⟩) Q)
          -∗ run c (.op (.enqueueDma (agBlk s k c) (.remote (Dev.tc n) (agBlk s k c) (.dma (dq 2 s k)) rfl) (.dma (dq 3 s k))
              (agBlk_exact s k c) (agBlk_exact s k c) ⟨⟨rfl, Or.inl rfl⟩, trivial⟩) k') Q) := by
  subst hn
  unfold agReady ow piece
  iintro ⟨#Hr, ⟨Ht2, Ht3, Hat2, Hat3, Hc3⟩, ⟨%fn, Hb⟩, Ho, ⟨%W, HO⟩⟩ Hk
  ihave #HI0 := (recs_inv A B K (c, some (2, s, k))) $$ Hr
  ihave #HI1 := (recs_inv A B K (pr s k c, some (3, s, k))) $$ Hr
  ihave #HR0 := (recs_reached A B K (c, some (2, s, k))) $$ Hr
  ihave #HR1 := (recs_reached A B K (pr s k c, some (3, s, k))) $$ Hr
  iapply (Rounds.wp_send_pointsTo 𝒱₀ ER (sched A B) (c : Thread nD τ) none (κ₁ := K (c, some (2, s, k))) (κ₂ := K (pr s k c, some (3, s, k)))
    (c' := (pr s k c : Thread nD τ)) (src := agBlk s k c) (dst := agBlk s k c) (sS := .dma (dq 2 s k)) (sem := .dma (dq 3 s k))
    (q := fullShare) (fs := res A B)
    (r₁ := 0) (r₂ := 0) (d₁ := 0) (d₂ := 0) (fd := fn)
    (by rw [duties_dma]; exact Finset.mem_singleton_self _) (by rw [duties_dma]; exact Finset.mem_singleton_self _)
    () () (amt s k) (amt_oSl s k (agOff_inb s k c)) (amount_dma A B 2 s k c 0) (amount_dma A B 3 s k (pr s k c) 0) O rfl (W := W)
    (by
      rw [payload_dma]; show _ ⊢ agSrc A B c s k
      unfold agSrc own
      rw [oSl_set s k (agOff_eq s k c) (agOff_inb s k c)])
    (by
      rw [payload_dma]; show _ ⊢ agDst A B (pr s k c) s k
      unfold agDst own
      rw [← keepLo_eq, oSl_set s k (agOff_eq s k c) (agOff_inb s k c)]
      refine Entails.of_eq (pointsTo_congr fun i hi => ?_)
      refine (oSl_write s k (agOff_eq s k c) (agOff_inb s k c) fn _ hi).trans ?_
      rw [oSl_read s k (agOff_eq s k c) (agOff_inb s k c)]
      exact congrArg (res A B) (ix_lIx s k hi))) $$ [Hb Ht2 Ht3 Ho HO]
  · isplitr; · iexact HI0
    isplitr; · iexact HI1
    isplitl [Ho]
    · unfold own; rw [oSl_set s k (agOff_eq s k c) (agOff_inb s k c)]; iexact Ho
    isplitl [Hb]; · unfold own; rw [oSl_set s k (agOff_eq s k c) (agOff_inb s k c)]; iexact Hb
    isplitl [HO]; · iexact HO
    isplitl [Ht2]; · iexact Ht2
    isplitr; · iexact HR0
    isplitl [Ht3]; · iexact Ht3
    iexact HR1
  iintro ⟨Hc2, HO⟩
  iapply Hk
  unfold agMid
  isplitl [Hc2 Hat2 Hat3 Hc3]
  · isplitl [Hc2]; · iexact Hc2
    isplitl [Hat2]; · iexact Hat2
    isplitl [Hat3] <;> iassumption
  iexists _; iexact HO

/-- Starting an all-gather copy: the kept rows and the partner's are given up and what it owed is paid. -/
theorem step_ag {O : CellTallies nD τ sig Unit} :
    iprop(recs A B K ∗ agReady c s k ∗ piece c s k ∗ own c s (keepLo s k c) (hgt k) (res A B) ∗ ow c (O + owe1 c (.ag s k)))
      ⊢ run c (agProg s k c) fun _ => iprop(agMid c s k ∗ ow c O) := by
  unfold agProg
  iintro H
  iapply (send_ag A B K c s k _ (Fin.ext (agDevN_eq s k c))) $$ H
  iintro H
  unfold run; rw [wp_ret]; imodintro; iexact H

/-! ## Rounds completed -/

omit [FloatOps F] in
/-- A load of a landing buffer reads inside it, -/
theorem set_rbuf : (rbuf s k).view.setOn (Rect.unit (s := shp s k) ![0, 0] (shp s k).size (zero_inb s k)).toLoadRect.set ⊆ (rbuf s k).view.set := by
  unfold View.set View.setOn; exact Finset.map_subset_map.mpr (Finset.subset_univ _)
omit [FloatOps F] in
/-- and reads all of it. -/
theorem read_rbuf (f : Buf (Elt F) ((rbuf s k).view.loc (c : Thread nD τ))) :
    (rbuf s k).view.readAt (Elt F) (Rect.unit (s := shp s k) ![0, 0] (shp s k).size (zero_inb s k)).toLoadRect f = (rbuf s k).view.read (Elt F) f := by
  funext x
  show (rbuf s k).view.read (Elt F) f ((Rect.unit (s := shp s k) ![0, 0] (shp s k).size (zero_inb s k)).emb x) = _
  congr 1
  funext a; apply Fin.ext
  rw [Rect.emb_apply]
  show (![0, 0] : Fin 2 → ℕ) a + 1 * (x a).val = (x a).val
  fin_cases a <;> exact (Nat.zero_add _).trans (Nat.one_mul _)

/-- A reduce-scatter round completed: the kept rows hold the sum of both partners' partial sums. -/
theorem step_fin {O : CellTallies nD τ sig Unit} (h0 : mayWait (F := F) c (.dma (dq 0 s k)) O) (h1 : mayWait (F := F) c (.dma (dq 1 s k)) O) :
    iprop(recs A B K ∗ rsMid c s k ∗ own c s (keepLo s k c) (hgt k) (acc A B s k.val c) ∗ ow c O)
      ⊢ run c (finProg s k c) fun _ =>
          iprop(rsFin c s k ∗ piece c s k ∗ own c s (keepLo s k c) (hgt k) (acc A B s (k.val + 1) c) ∗ ow c O) := by
  unfold finProg rsMid
  iintro ⟨#Hr, ⟨Hc0, Hat0, Hat1, Hc1⟩, Ho, HO⟩
  iapply (wait_cell A B K c s k 0 (wpE_waitDma2_eq 𝒱₀ (c : Thread nD τ) none Set.univ) (amt_oSl s k (rsOff_inb s k c)) h0) $$ [Hc0 HO Hat0]
  · isplitr; · iexact Hr
    isplitl [Hc0]; · iexact Hc0
    isplitl [HO] <;> iassumption
  iintro ⟨HO, Hz0, -⟩
  iapply (wait_cell A B K c s k 1 (wpE_waitDma2_eq 𝒱₀ (c : Thread nD τ) none Set.univ) rfl h1) $$ [Hc1 HO Hat1]
  · isplitr; · iexact Hr
    isplitl [Hc1]; · iexact Hc1
    isplitl [HO] <;> iassumption
  iintro ⟨HO, Hz1, Hp⟩
  unfold cellPay rsPay
  icases Hp with ⟨⟨%g, %hg, Hb⟩, Hpc⟩
  unfold own rb
  iapply (wp_load 𝒱₀ (c : Thread nD τ) none Set.univ (m := oM) (set_load s k (finOff_eq s k c) (finOff_inb s k c))) $$ Ho; iintro Ho
  iapply (wp_load 𝒱₀ (c : Thread nD τ) none Set.univ (m := rbuf s k) (set_rbuf s k)) $$ Hb; iintro Hb
  iapply (wp_load 𝒱₀ (c : Thread nD τ) none Set.univ (m := oM) (set_load s k (finOff_eq s k c) (finOff_inb s k c))) $$ Ho; iintro Ho
  iapply (wp_store 𝒱₀ (c : Thread nD τ) none Set.univ (m := oM) (Mk := Finset.univ) (set_store s k (finOff_eq s k c) (finOff_inb s k c))) $$ Ho; iintro Ho
  rw [wp_ret]; imodintro
  isplitl [Hz0 Hz1 Hb]
  · unfold rsFin rb
    isplitl [Hz0]; · iexact Hz0
    isplitl [Hz1]; · iexact Hz1
    iexists _; iexact Hb
  isplitl [Hpc]; · unfold piece own; iexact Hpc
  isplitl [Ho]
  rotate_left
  · iexact HO
  have e := own_write c s k (finOff_eq s k c) (finOff_inb s k c) (acc A B s k.val c) (acc A B s (k.val + 1) c)
    (addPay s k (oM.view.readAt (Elt F) (Rect.unit (s := S2048x2048) (finOff s k c) (shp s k).size (finOff_inb s k c)).toLoadRect (acc A B s k.val c))
      ((rbuf s k).view.readAt (Elt F) (Rect.unit (s := shp s k) ![0, 0] (shp s k).size (zero_inb s k)).toLoadRect g)) fun i hi => ?_
  · unfold own at e
    rw [← e]; iexact Ho
  rw [acc_succ]
  refine addPay_apply s k _ _ _ _ _ i ?_ ?_
  · refine (congrFun (oSl_read s k (finOff_eq s k c) (finOff_inb s k c) (acc A B s k.val c)) _).trans ?_
    rw [ix_lIx s k hi]
  · rw [read_rbuf c, hg]
    show acc A B s k.val (pr s k c) (ix s k (keepLo s k c) (lIx s k (keepLo s k c) i)) = _
    rw [ix_lIx s k hi]

/-- An all-gather round completed: both halves hold results. -/
theorem step_col {O : CellTallies nD τ sig Unit} (h0 : mayWait (F := F) c (.dma (dq 2 s k)) O) (h1 : mayWait (F := F) c (.dma (dq 3 s k)) O) :
    iprop(recs A B K ∗ agMid c s k ∗ ow c O)
      ⊢ run c (colProg s k c) fun _ =>
          iprop(agDone (F := F) c s k ∗ own c s (keepLo s k c) (hgt k) (res A B) ∗ own c s (sendLo s k c) (hgt k) (res A B) ∗ ow c O) := by
  unfold colProg agMid
  iintro ⟨#Hr, ⟨Hc0, Hat0, Hat1, Hc1⟩, HO⟩
  iapply (wait_cell A B K c s k 2 (wpE_waitDma2_eq 𝒱₀ (c : Thread nD τ) none Set.univ) (amt_oSl s k (agOff_inb s k c)) h0) $$ [Hc0 HO Hat0]
  · isplitr; · iexact Hr
    isplitl [Hc0]; · iexact Hc0
    isplitl [HO] <;> iassumption
  iintro ⟨HO, Hz0, Hs⟩
  iapply (wait_cell A B K c s k 3 (wpE_waitDma2_eq 𝒱₀ (c : Thread nD τ) none Set.univ) (amt_oSl s k (agOff_inb s k c)) h1) $$ [Hc1 HO Hat1]
  · isplitr; · iexact Hr
    isplitl [Hc1]; · iexact Hc1
    isplitl [HO] <;> iassumption
  iintro ⟨HO, Hz1, Hd⟩
  unfold run; rw [wp_ret]; imodintro
  unfold agDone cellPay agSrc agDst
  isplitl [Hz0 Hz1]; · isplitl [Hz0] <;> iassumption
  isplitl [Hs]; · iexact Hs
  isplitl [Hd]; · iexact Hd
  iexact HO

end Cert.Gemm

end
-- ==== Proof.Body.lean ====
/-
# The body of one device

A small state machine says what a device holds between two steps: per stream which rows of the output and with which
contents, per exchange how far it is. The list of steps is checked against the machine once, by evaluation; the run of the
body follows by induction along the list.
-/
module

public import proofs.«01_k».proof.Proof.Steps

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → AIn F) (B : Dev nD → BIn F) (K : Dev nD × Option J → ℕ)

/-! ## The states -/

/-- How far an exchange is: not started; its reduce-scatter copy in flight; added; its all-gather copy in flight; done. -/
inductive Rd | s0 | s1 | s2 | s3 | s4 deriving DecidableEq
/-- Which rows of a stream the device holds: nothing computed; the half to send computed; that half sent; round `k` in
    flight; `n` rounds added; the all-gather copy of round `k` in flight; results down to round `n`. -/
inductive Ho | p0 | p1 | p2 | r (k : Fin 5) | f (n : ℕ) | g (k : Fin 5) | d (n : ℕ) deriving DecidableEq

/-- What a device holds of an exchange in each state. -/
def rd (c : Dev nD) (sk : Fin 6 × Fin 5) : Rd → sProp 𝕄
  | .s0 => iprop(rsReady (F := F) c sk.1 sk.2 ∗ agReady c sk.1 sk.2)
  | .s1 => iprop(rsMid (F := F) c sk.1 sk.2 ∗ agReady c sk.1 sk.2)
  | .s2 => iprop(rsFin (F := F) c sk.1 sk.2 ∗ piece c sk.1 sk.2 ∗ agReady c sk.1 sk.2)
  | .s3 => iprop(rsFin (F := F) c sk.1 sk.2 ∗ agMid c sk.1 sk.2)
  | .s4 => iprop(rsFin (F := F) c sk.1 sk.2 ∗ agDone c sk.1 sk.2)

/-- Rows left after `n` rounds. -/
def left (n : ℕ) : ℕ := 2048 / 2 ^ n
/-- A round halves the rows: -/
theorem left_succ (k : Fin 5) : left (k.val + 1) = hgt k := by revert k; decide
/-- before it there are twice as many. -/
theorem left_two (k : Fin 5) : left k.val = 2 * hgt k := by revert k; decide

/-- What a device holds of a stream's rows in each state. -/
def hold (c : Dev nD) (s : Fin 6) : Ho → sProp 𝕄
  | .p0 => iprop((∃ f, own (F := F) c s (sendLo s 0 c) (hgt 0) f) ∗ ∃ f, own (F := F) c s (keepLo s 0 c) (hgt 0) f)
  | .p1 => iprop(own c s (sendLo s 0 c) (hgt 0) (acc A B s 0 c) ∗ ∃ f, own (F := F) c s (keepLo s 0 c) (hgt 0) f)
  | .p2 => iprop(∃ f, own (F := F) c s (keepLo s 0 c) (hgt 0) f)
  | .r k => own c s (keepLo s k c) (hgt k) (acc A B s k.val c)
  | .f n => own c s (lo s c n) (left n) (acc A B s n c)
  | .g k => iprop(emp)
  | .d n => own c s (lo s c n) (left n) (res A B)

omit [FloatOps F] in
/-- The rows before a round are those kept and those sent. -/
theorem own_split (c : Dev nD) (s : Fin 6) (k : Fin 5) (f : Out F) :
    (own c s (lo s c k.val) (left k.val) f : sProp 𝕄) ⊣⊢ iprop(own c s (keepLo s k c) (hgt k) f ∗ own c s (sendLo s k c) (hgt k) f) := by
  rw [left_two]; unfold own; rw [← halves_union]
  exact pointsTo_union (halves_disjoint s k c)

/-! ## The machine -/

/-- The stream and the round of a step. -/
def Op.s : Op → Fin 6 | .mm _ s => s | .rs s _ => s | .fin s _ => s | .ag s _ => s | .col s _ => s
def Op.k : Op → Fin 5 | .mm _ _ => 0 | .rs _ k => k | .fin _ k => k | .ag _ k => k | .col _ k => k

/-- One step of the machine. -/
def Op.next : Op → Ho → Rd → Option (Ho × Rd)
  | .mm 0 _, h, r => if h = .p0 then some (.p1, r) else none
  | .mm 1 _, h, r => if h = .p2 then some (.r 0, r) else none
  | .rs _ k, h, r => if h = .p1 ∧ k = 0 ∧ r = .s0 then some (.p2, .s1) else if h = .f k.val ∧ r = .s0 then some (.r k, .s1) else none
  | .fin _ k, h, r => if h = .r k ∧ r = .s1 then some (.f (k.val + 1), .s2) else none
  | .ag _ k, h, r => if h = .d (k.val + 1) ∧ r = .s2 then some (.g k, .s3) else if h = .f 5 ∧ k = 4 ∧ r = .s2 then some (.g k, .s3) else none
  | .col _ k, h, r => if h = .g k ∧ r = .s3 then some (.d k.val, .s4) else none

/-- The waits of a step are below every copy still to be started. -/
def Op.waits : Op → List Op → Bool
  | .fin s k, l => l.all (Op.above (rank 0 s k))
  | .col s k, l => l.all (Op.above (rank 1 s k))
  | _, _ => true

/-- The list of steps runs to the end. -/
def runOK : (Fin 6 → Ho) → (Fin 6 × Fin 5 → Rd) → List Op → Bool
  | ho, st, [] => decide (∀ s, ho s = .d 0) && decide (∀ sk, st sk = .s4)
  | ho, st, o :: l => match o.next (ho o.s) (st (o.s, o.k)) with
    | none => false
    | some (h, r) => o.waits l && runOK (Function.update ho o.s h) (Function.update st (o.s, o.k) r) l

/-- The kernel's steps run to the end. -/
theorem run_ops : runOK (fun _ => .p0) (fun _ => .s0) ops = true := by decide +kernel

/-- Above a level is above every lower one. -/
theorem above_le {n m : ℕ} (h : n ≤ m) {l : List Op} (hl : l.all (Op.above m) = true) : l.all (Op.above n) = true := by
  rw [List.all_eq_true] at hl ⊢
  intro o ho
  have := hl o ho
  cases o <;> simp only [Op.above, decide_eq_true_eq] at this ⊢ <;> omega

/-! What a step of the machine says of the states before and after it. -/

/-- The first multiplication, -/
theorem next_mm0 {s : Fin 6} {h h' : Ho} {r r' : Rd} (e : (Op.mm 0 s).next h r = some (h', r')) : h = .p0 ∧ h' = .p1 ∧ r' = r := by
  dsimp only [Op.next] at e
  split_ifs at e with h1
  cases e; exact ⟨h1, rfl, rfl⟩
/-- the second, -/
theorem next_mm1 {s : Fin 6} {h h' : Ho} {r r' : Rd} (e : (Op.mm 1 s).next h r = some (h', r')) : h = .p2 ∧ h' = .r 0 ∧ r' = r := by
  dsimp only [Op.next] at e
  split_ifs at e with h1
  cases e; exact ⟨h1, rfl, rfl⟩
/-- a reduce-scatter copy's start, -/
theorem next_rs {s : Fin 6} {k : Fin 5} {h h' : Ho} {r r' : Rd} (e : (Op.rs s k).next h r = some (h', r')) :
    r = .s0 ∧ r' = .s1 ∧ ((h = .p1 ∧ k = 0 ∧ h' = .p2) ∨ (h = .f k.val ∧ h' = .r k)) := by
  dsimp only [Op.next] at e
  split_ifs at e with h1 h2
  · cases e; exact ⟨h1.2.2, rfl, .inl ⟨h1.1, h1.2.1, rfl⟩⟩
  · cases e; exact ⟨h2.2, rfl, .inr ⟨h2.1, rfl⟩⟩
/-- the sum with what arrived, -/
theorem next_fin {s : Fin 6} {k : Fin 5} {h h' : Ho} {r r' : Rd} (e : (Op.fin s k).next h r = some (h', r')) :
    h = .r k ∧ h' = .f (k.val + 1) ∧ r = .s1 ∧ r' = .s2 := by
  dsimp only [Op.next] at e
  split_ifs at e with h1
  cases e; exact ⟨h1.1, rfl, h1.2, rfl⟩
/-- an all-gather copy's start, -/
theorem next_ag {s : Fin 6} {k : Fin 5} {h h' : Ho} {r r' : Rd} (e : (Op.ag s k).next h r = some (h', r')) :
    r = .s2 ∧ r' = .s3 ∧ h' = .g k ∧ (h = .d (k.val + 1) ∨ (h = .f 5 ∧ k = 4)) := by
  dsimp only [Op.next] at e
  split_ifs at e with h1 h2
  · cases e; exact ⟨h1.2, rfl, rfl, .inl h1.1⟩
  · cases e; exact ⟨h2.2.2, rfl, rfl, .inr ⟨h2.1, h2.2.1⟩⟩
/-- and its end. -/
theorem next_col {s : Fin 6} {k : Fin 5} {h h' : Ho} {r r' : Rd} (e : (Op.col s k).next h r = some (h', r')) :
    h = .g k ∧ h' = .d k.val ∧ r = .s3 ∧ r' = .s4 := by
  dsimp only [Op.next] at e
  split_ifs at e with h1
  cases e; exact ⟨h1.1, rfl, h1.2, rfl⟩

/-! ## One step -/

/-- What one step touches. -/
def loc1 (c : Dev nD) (s : Fin 6) (k : Fin 5) (h : Ho) (r : Rd) (O : CellTallies nD τ sig Unit) : sProp 𝕄 :=
  iprop(aPt c (A c) ∗ bPt c (B c) ∗ hold A B c s h ∗ rd c (s, k) r ∗ ow c O)

/-- A run with more kept beside it. -/
theorem run_frame {c : Dev nD} {p : P F} {X Y Z : sProp 𝕄} {Q : PUnit → sProp 𝕄} (h : X ⊢ run c p fun _ => Y) (hQ : iprop(Y ∗ Z) ⊢ Q ⟨⟩) :
    iprop(X ∗ Z) ⊢ run c p Q := by
  iintro ⟨HX, HZ⟩
  ihave H := h $$ HX
  iapply (wp_wand frame (wpE (defs₀ (F := F)) 𝒱₀ (c : Thread nD τ) none) Set.univ (p := p) (Q := fun _ => Y) (Q' := Q)) $$ H
  iintro %u HY
  iapply hQ
  isplitl [HY] <;> iassumption

variable (c : Dev nD)

/-- The first multiplication on a device: the half to be sent is computed. -/
theorem one_mm0 (s : Fin 6) (r : Rd) (O : CellTallies nD τ sig Unit) :
    loc1 A B c s 0 .p0 r O ⊢ run c (mmProg 0 s c) fun _ => loc1 A B c s 0 .p1 r O := by
  unfold loc1 hold
  have h := run_frame (step_mm A B c s 0) (Z := iprop((∃ f, own (F := F) c s (keepLo s 0 c) (hgt 0) f) ∗ rd c (s, 0) r ∗ ow c O))
    (Q := fun _ => iprop(aPt c (A c) ∗ bPt c (B c) ∗ (own c s (sendLo s 0 c) (hgt 0) (acc A B s 0 c) ∗ ∃ f, own (F := F) c s (keepLo s 0 c) (hgt 0) f) ∗ rd c (s, 0) r ∗ ow c O))
    (by
      iintro ⟨⟨Ha, Hb, Ho⟩, Hk, Hr, HO⟩
      isplitl [Ha]; · iexact Ha
      isplitl [Hb]; · iexact Hb
      isplitl [Ho Hk]; · isplitl [Ho] <;> iassumption
      isplitl [Hr] <;> iassumption)
  iintro ⟨Ha, Hb, ⟨Hs, Hk⟩, Hr, HO⟩
  iapply h
  isplitl [Ha Hb Hs]
  · isplitl [Ha]; · iexact Ha
    isplitl [Hb] <;> iassumption
  isplitl [Hk]; · iexact Hk
  isplitl [Hr] <;> iassumption

/-- The second: the kept half is computed. -/
theorem one_mm1 (s : Fin 6) (r : Rd) (O : CellTallies nD τ sig Unit) :
    loc1 A B c s 0 .p2 r O ⊢ run c (mmProg 1 s c) fun _ => loc1 A B c s 0 (.r 0) r O := by
  unfold loc1 hold
  have h := run_frame (step_mm A B c s 1) (Z := iprop(rd c (s, 0) r ∗ ow c O))
    (Q := fun _ => iprop(aPt c (A c) ∗ bPt c (B c) ∗ own c s (keepLo s 0 c) (hgt 0) (acc A B s 0 c) ∗ rd c (s, 0) r ∗ ow c O))
    (by
      iintro ⟨⟨Ha, Hb, Ho⟩, Hr, HO⟩
      isplitl [Ha]; · iexact Ha
      isplitl [Hb]; · iexact Hb
      isplitl [Ho]; · iexact Ho
      isplitl [Hr] <;> iassumption)
  iintro ⟨Ha, Hb, Hs, Hr, HO⟩
  iapply h
  isplitl [Ha Hb Hs]
  · isplitl [Ha]; · iexact Ha
    isplitl [Hb] <;> iassumption
  isplitl [Hr] <;> iassumption

/-- A reduce-scatter copy started, whatever else of the stream is kept beside it. -/
theorem one_rs (s : Fin 6) (k : Fin 5) {h h' : Ho} {Z : sProp 𝕄} (O : CellTallies nD τ sig Unit)
    (hh : hold A B c s h ⊢ iprop(own c s (sendLo s k c) (hgt k) (acc A B s k.val c) ∗ Z)) (hh' : Z ⊢ hold A B c s h') :
    iprop(recs A B K ∗ loc1 A B c s k h .s0 (O + owe1 c (.rs s k))) ⊢ run c (rsProg s k c) fun _ => loc1 A B c s k h' .s1 O := by
  unfold loc1 rd
  have h := run_frame (step_rs A B K c s k (O := O)) (Z := iprop(aPt c (A c) ∗ bPt c (B c) ∗ Z ∗ agReady (F := F) c s k))
    (Q := fun _ => iprop(aPt c (A c) ∗ bPt c (B c) ∗ hold A B c s h' ∗ (rsMid c s k ∗ agReady c s k) ∗ ow c O))
    (by
      iintro ⟨⟨Hm, HO⟩, Ha, Hb, Hz, Hg⟩
      isplitl [Ha]; · iexact Ha
      isplitl [Hb]; · iexact Hb
      isplitl [Hz]; · iapply hh'; iexact Hz
      isplitl [Hm Hg]; · isplitl [Hm] <;> iassumption
      iexact HO)
  iintro ⟨#Hc, Ha, Hb, Hh, ⟨Hr, Hg⟩, HO⟩
  ihave Hh2 := hh $$ Hh
  icases Hh2 with ⟨Ho, Hz⟩
  iapply h
  isplitl [Hr Ho HO]
  · isplitr; · iexact Hc
    isplitl [Hr]; · iexact Hr
    isplitl [Ho] <;> iassumption
  isplitl [Ha]; · iexact Ha
  isplitl [Hb]; · iexact Hb
  isplitl [Hz] <;> iassumption

/-- The sum: the kept rows hold one round more. -/
theorem one_fin (s : Fin 6) (k : Fin 5) {O : CellTallies nD τ sig Unit} (h0 : mayWait (F := F) c (.dma (dq 0 s k)) O) (h1 : mayWait (F := F) c (.dma (dq 1 s k)) O) :
    iprop(recs A B K ∗ loc1 A B c s k (.r k) .s1 O) ⊢ run c (finProg s k c) fun _ => loc1 A B c s k (.f (k.val + 1)) .s2 O := by
  unfold loc1 rd hold
  have h := run_frame (step_fin A B K c s k h0 h1) (Z := iprop(aPt c (A c) ∗ bPt c (B c) ∗ agReady (F := F) c s k))
    (Q := fun _ => iprop(aPt c (A c) ∗ bPt c (B c) ∗ own c s (lo s c (k.val + 1)) (left (k.val + 1)) (acc A B s (k.val + 1) c)
      ∗ (rsFin c s k ∗ piece c s k ∗ agReady c s k) ∗ ow c O))
    (by
      rw [left_succ]
      iintro ⟨⟨Hm, Hp, Ho, HO⟩, Ha, Hb, Hg⟩
      isplitl [Ha]; · iexact Ha
      isplitl [Hb]; · iexact Hb
      isplitl [Ho]; · iexact Ho
      isplitl [Hm Hp Hg]
      · isplitl [Hm]; · iexact Hm
        isplitl [Hp] <;> iassumption
      iexact HO)
  iintro ⟨#Hc, Ha, Hb, Ho, ⟨Hr, Hg⟩, HO⟩
  iapply h
  isplitl [Hr Ho HO]
  · isplitr; · iexact Hc
    isplitl [Hr]; · iexact Hr
    isplitl [Ho] <;> iassumption
  isplitl [Ha]; · iexact Ha
  isplitl [Hb] <;> iassumption

/-- An all-gather copy's start: the device's rows are lent to the copy. -/
theorem one_ag (s : Fin 6) (k : Fin 5) {h : Ho} (O : CellTallies nD τ sig Unit)
    (hh : hold A B c s h ⊢ own c s (keepLo s k c) (hgt k) (res A B)) :
    iprop(recs A B K ∗ loc1 A B c s k h .s2 (O + owe1 c (.ag s k))) ⊢ run c (agProg s k c) fun _ => loc1 A B c s k (.g k) .s3 O := by
  unfold loc1 rd
  have h := run_frame (step_ag A B K c s k (O := O)) (Z := iprop(aPt c (A c) ∗ bPt c (B c) ∗ rsFin (F := F) c s k))
    (Q := fun _ => iprop(aPt c (A c) ∗ bPt c (B c) ∗ hold A B c s (.g k) ∗ (rsFin c s k ∗ agMid c s k) ∗ ow c O))
    (by
      unfold hold
      iintro ⟨⟨Hm, HO⟩, Ha, Hb, Hf⟩
      isplitl [Ha]; · iexact Ha
      isplitl [Hb]; · iexact Hb
      isplitr; · iempintro
      isplitl [Hm Hf]; · isplitl [Hf] <;> iassumption
      iexact HO)
  iintro ⟨#Hc, Ha, Hb, Hh, ⟨Hf, Hp, Hg⟩, HO⟩
  ihave Ho := hh $$ Hh
  iapply h
  isplitl [Hg Hp Ho HO]
  · isplitr; · iexact Hc
    isplitl [Hg]; · iexact Hg
    isplitl [Hp]; · iexact Hp
    isplitl [Ho] <;> iassumption
  isplitl [Ha]; · iexact Ha
  isplitl [Hb] <;> iassumption

/-- Its end: the device has the result on twice as many rows. -/
theorem one_col (s : Fin 6) (k : Fin 5) {O : CellTallies nD τ sig Unit} (h0 : mayWait (F := F) c (.dma (dq 2 s k)) O) (h1 : mayWait (F := F) c (.dma (dq 3 s k)) O) :
    iprop(recs A B K ∗ loc1 A B c s k (.g k) .s3 O) ⊢ run c (colProg s k c) fun _ => loc1 A B c s k (.d k.val) .s4 O := by
  unfold loc1 rd hold
  have h := run_frame (step_col A B K c s k h0 h1) (Z := iprop(aPt c (A c) ∗ bPt c (B c) ∗ rsFin (F := F) c s k))
    (Q := fun _ => iprop(aPt c (A c) ∗ bPt c (B c) ∗ own c s (lo s c k.val) (left k.val) (res A B) ∗ (rsFin c s k ∗ agDone c s k) ∗ ow c O))
    (by
      iintro ⟨⟨Hm, Hk, Hs, HO⟩, Ha, Hb, Hf⟩
      isplitl [Ha]; · iexact Ha
      isplitl [Hb]; · iexact Hb
      isplitl [Hk Hs]
      · iapply (own_split c s k (res A B)).2
        isplitl [Hk] <;> iassumption
      isplitl [Hm Hf]; · isplitl [Hf] <;> iassumption
      iexact HO)
  iintro ⟨#Hc, Ha, Hb, -, ⟨Hf, Hg⟩, HO⟩
  iapply h
  isplitl [Hg HO]
  · isplitr; · iexact Hc
    isplitl [Hg] <;> iassumption
  isplitl [Ha]; · iexact Ha
  isplitl [Hb] <;> iassumption

/-- After five rounds the rows left hold results. -/
theorem own_five (s : Fin 6) : own c s (lo s c 5) (left 5) (acc A B s 5 c) = own c s (keepLo s 4 c) (hgt 4) (res A B) := by
  unfold own
  exact pointsTo_congr fun i hi => res_eq A B s c hi

/-- Every step of the list does what the machine says. -/
theorem step_one (o : Op) (l : List Op) {h h' : Ho} {r r' : Rd} (e : o.next h r = some (h', r')) (hw : o.waits l = true) :
    iprop(recs A B K ∗ loc1 A B c o.s o.k h r (owed c (o :: l))) ⊢ run c (o.prog c) fun _ => loc1 A B c o.s o.k h' r' (owed c l) := by
  rw [owed]
  cases o with
  | mm q s =>
    rw [show owed c l + owe1 c (.mm q s) = owed c l from add_zero _]
    dsimp only [Op.prog, Op.s, Op.k]
    match q, e with
    | 0, e =>
      obtain ⟨rfl, rfl, rfl⟩ := next_mm0 e
      iintro ⟨-, H⟩; iapply (one_mm0 A B c s r' (owed c l)); iexact H
    | 1, e =>
      obtain ⟨rfl, rfl, rfl⟩ := next_mm1 e
      iintro ⟨-, H⟩; iapply (one_mm1 A B c s r' (owed c l)); iexact H
  | rs s k =>
    obtain ⟨rfl, rfl, ⟨rfl, rfl, rfl⟩ | ⟨rfl, rfl⟩⟩ := next_rs e
    · exact one_rs A B K c s 0 (owed c l) (by unfold hold; exact Entails.refl _) (by unfold hold; exact Entails.refl _)
    · refine one_rs A B K c s k (Z := own c s (keepLo s k c) (hgt k) (acc A B s k.val c)) (owed c l) ?_ (by unfold hold; exact Entails.refl _)
      unfold hold
      iintro H
      ihave H2 := (own_split c s k (acc A B s k.val c)).1 $$ H
      icases H2 with ⟨Hk, Hs⟩
      isplitl [Hs] <;> iassumption
  | fin s k =>
    rw [show owed c l + owe1 c (.fin s k) = owed c l from add_zero _]
    obtain ⟨rfl, rfl, rfl, rfl⟩ := next_fin e
    exact one_fin A B K c s k (mayWait_owed 0 (lv_0 s k c).le (above_le (Nat.zero_le _) hw)) (mayWait_owed (rank 0 s k) (lv_1 s k c).le hw)
  | ag s k =>
    obtain ⟨rfl, rfl, rfl, rfl | ⟨rfl, rfl⟩⟩ := next_ag e
    · refine one_ag A B K c s k (owed c l) ?_
      show own c s (lo s c (k.val + 1)) (left (k.val + 1)) (res A B) ⊢ _
      rw [left_succ]
    · refine one_ag A B K c s 4 (owed c l) ?_
      show own c s (lo s c 5) (left 5) (acc A B s 5 c) ⊢ _
      rw [own_five]
  | col s k =>
    rw [show owed c l + owe1 c (.col s k) = owed c l from add_zero _]
    obtain ⟨rfl, rfl, rfl, rfl⟩ := next_col e
    exact one_col A B K c s k (mayWait_owed 0 (lv_2 s k c).le (above_le (Nat.zero_le _) hw)) (mayWait_owed (rank 1 s k) (lv_3 s k c).le hw)

/-! ## All steps -/

/-- What the device holds between steps. -/
def all1 (ho : Fin 6 → Ho) (st : Fin 6 × Fin 5 → Rd) (O : CellTallies nD τ sig Unit) : sProp 𝕄 :=
  iprop(aPt c (A c) ∗ bPt c (B c) ∗ (bigSep Finset.univ fun s => hold A B c s (ho s)) ∗ (bigSep Finset.univ fun sk => rd c sk (st sk)) ∗ ow c O)

/-- A list of steps that runs to the end does so on a device, and leaves the result in every stream. -/
theorem run_steps (l : List Op) : ∀ (ho : Fin 6 → Ho) (st : Fin 6 × Fin 5 → Rd), runOK ho st l = true →
    iprop(recs A B K ∗ all1 A B c ho st (owed c l)) ⊢ run c (Pipeline.chain (l.map (Op.prog c))) fun _ => all1 A B c (fun _ => .d 0) (fun _ => .s4) 0 := by
  induction l with
  | nil =>
    intro ho st h
    rw [runOK, Bool.and_eq_true, decide_eq_true_eq, decide_eq_true_eq] at h
    rw [show ho = fun _ => .d 0 from funext h.1, show st = fun _ => .s4 from funext h.2]
    rw [List.map_nil, Pipeline.chain_nil]
    unfold run; rw [Prog.pure_eq_ret, wp_ret]
    iintro ⟨-, H⟩; imodintro; iexact H
  | cons o l ih =>
    intro ho st h
    rw [runOK] at h
    split at h
    · cases h
    rename_i h' r' e
    rw [Bool.and_eq_true] at h
    rw [List.map_cons, Pipeline.chain_cons]
    unfold run; rw [wp_bind]
    have hh := bigSep_univ_turn (fun s => hold A B c s) ho o.s
    have hr := bigSep_univ_turn (fun sk => rd (F := F) c sk) st (o.s, o.k)
    have hs := run_frame (step_one A B K c o l e h.1)
      (Z := iprop(recs A B K ∗ (∀ h, hold A B c o.s h -∗ bigSep Finset.univ fun j => hold A B c j (Function.update ho o.s h j))
        ∗ ∀ r, rd (F := F) c (o.s, o.k) r -∗ bigSep Finset.univ fun j => rd c j (Function.update st (o.s, o.k) r j)))
      (Q := fun _ => run c (Pipeline.chain (l.map (Op.prog c))) fun _ => all1 A B c (fun _ => .d 0) (fun _ => .s4) 0)
      (by
        have h2 := ih _ _ h.2
        unfold loc1
        iintro ⟨⟨Ha, Hb, Hho, Hrd, HO⟩, #Hc, H1, H2⟩
        ihave Hho := H1 $$ Hho
        ihave Hrd := H2 $$ Hrd
        iapply h2
        isplitr; · iexact Hc
        unfold all1
        isplitl [Ha]; · iexact Ha
        isplitl [Hb]; · iexact Hb
        isplitl [Hho]; · iexact Hho
        isplitl [Hrd] <;> iassumption)
    iintro ⟨#Hc, H⟩
    unfold all1
    icases H with ⟨Ha, Hb, Hho, Hrd, HO⟩
    ihave Hho := hh $$ Hho
    ihave Hrd := hr $$ Hrd
    icases Hho with ⟨Hho, H1⟩
    icases Hrd with ⟨Hrd, H2⟩
    iapply hs
    isplitl [Ha Hb Hho Hrd HO]
    · isplitr; · iexact Hc
      unfold loc1
      isplitl [Ha]; · iexact Ha
      isplitl [Hb]; · iexact Hb
      isplitl [Hho]; · iexact Hho
      isplitl [Hrd] <;> iassumption
    isplitr; · iexact Hc
    isplitl [H1] <;> iassumption

/-! ## The whole output as the streams' rows -/

/-- A device's output in its memory. -/
def outPt (c : Dev nD) (f : Out F) : sProp 𝕄 := ((c : Thread nD τ).loc cc0_stg2_0) ↦{fullShare} f

/-- Every position is in its column's stream. -/
theorem mem_stream (i : Ix) : i ∈ blk (strOf (col i)) 0 2048 := by
  have h0 := row_lt i
  have h1 := col_lt i
  rw [mem_blk]
  refine ⟨⟨Nat.zero_le _, by omega⟩, ?_⟩
  unfold strOf
  (repeat' split) <;> simp only [cof, wid] <;> omega
/-- No position is in two streams. -/
theorem streams_disjoint {s s' : Fin 6} (h : s ≠ s') : Disjoint (blk s 0 2048) (blk s' 0 2048) := by
  rw [Finset.disjoint_left]; intro i hi hi'
  rw [mem_blk] at hi hi'
  exact h ((strOf_eq s hi.2).symm.trans (strOf_eq s' hi'.2))
/-- The streams are the whole output. -/
theorem streams_union : (Finset.univ : Finset (Fin 6)).biUnion (fun s => blk s 0 2048) = Finset.univ :=
  Finset.eq_univ_iff_forall.mpr fun i => Finset.mem_biUnion.mpr ⟨_, Finset.mem_univ _, mem_stream i⟩

omit [FloatOps F] in
/-- So the output is held stream by stream. -/
theorem outPt_eq (f : Out F) : outPt c f = bigSep Finset.univ fun s => own (F := F) c s 0 2048 f := by
  unfold outPt own
  have h := pointsTo_biUnion (Ix := Unit) (Name := ℕ) (U := UU) (Lvl := ℕ) (Val := Elt F) (ℓ := (c : Thread nD τ).loc cc0_stg2_0) (q := fullShare) (f := f)
    (Finset.univ : Finset (Fin 6)) (fun s => blk s 0 2048) fun s _ s' _ h => streams_disjoint h
  rw [← h, streams_union]

/-- At the start nothing is computed in any stream. -/
theorem hold_start (f : Out F) : outPt c f ⊢ bigSep Finset.univ fun s => hold A B c s .p0 := by
  rw [outPt_eq]
  refine bigSep_mono fun s _ => ?_
  show own c s 0 2048 f ⊢ _
  iintro H
  have h2 : (own c s 0 2048 f : sProp 𝕄) ⊢ iprop(own c s (keepLo s 0 c) (hgt 0) f ∗ own c s (sendLo s 0 c) (hgt 0) f) := (own_split c s 0 f).1
  ihave H2 := h2 $$ H
  unfold hold
  icases H2 with ⟨Hk, Hs⟩
  isplitl [Hs]
  · iexists f; iexact Hs
  iexists f; iexact Hk
/-- At the end the whole output holds the result. -/
theorem hold_end : (bigSep Finset.univ fun s => hold A B c s (.d 0)) ⊢ outPt c (res A B) := by
  rw [outPt_eq]; exact Entails.refl _

/-! ## The barrier -/

/-- One signal: the neighbour across `d` gets this device's landing buffers of the rounds that cross `d`. -/
theorem step_sig (d : Duty) (n : Dev nD) (hn : n = par d c) {O : CellTallies nD τ sig Unit} :
    iprop(recs A B K ∗ dutyTok ER (barCell (par d c)) 0 d ∗ barPay (F := F) (par d c) d ∗ ow c (O + barOwe c d))
      ⊢ run c (semSignalWord n barS 1#32) fun _ => ow c O := by
  subst hn
  unfold semSignalWord ow
  iintro ⟨#Hr, Ht, Hp, ⟨%W, HO⟩⟩
  ihave #HI := (recs_inv A B K (par d c, none)) $$ Hr
  ihave #HR := (recs_reached A B K (par d c, none)) $$ Hr
  iapply (Rounds.wp_signal 𝒱₀ ER (sched A B) (c : Thread nD τ) none (dst := (par d c : Thread nD τ)) (κ := K (par d c, none))
      (d := d) (by rw [duties_bar]; exact Finset.mem_univ _) ((amount_bar A B (par d c) d).trans (by decide)) () O rfl)
    $$ [HO Ht Hp]
  · isplitr; · iexact HI
    isplitl [HO]; · iexact HO
    isplitl [Ht]; · iexact Ht
    isplitl [Hp]; · rw [payload_bar]; iexact Hp
    iexact HR
  iintro HO
  rw [wp_ret]; imodintro
  iexists W; iexact HO

/-- The wait for all five neighbours: every landing buffer that this device fills. -/
theorem step_wait :
    iprop(recs A B K ∗ cred (tallyAt (barCell c) () 5) ∗ atPos ER (barCell c) 0 ∅ 0 ∗ ow c (owed c ops))
      ⊢ run c (semWaitWord barS 5#32) fun _ =>
          iprop(ow c (owed c ops) ∗ semVal (barCell c) 0 ∗ bigSep Finset.univ fun sk : Fin 6 × Fin 5 => iprop(∃ f, rb (F := F) (pr sk.1 sk.2 c) sk.1 sk.2 f)) := by
  unfold semWaitWord ow
  iintro ⟨#Hr, Hc, Hat, ⟨%W, HO⟩⟩
  ihave #HI := (recs_inv A B K (c, none)) $$ Hr
  iapply (Rounds.wp_wait_rest_token 𝒱₀ ER (sched A B) (c : Thread nD τ) none (κ := K (c, none)) (sm := .reg barS)
      (wpE_semWait_eq 𝒱₀ (c : Thread nD τ) none Set.univ) (Set.mem_univ _) () (O := owed c ops) (W := W) (R := 0) (m := 0) (T := ∅)
      (by rw [expect_bar]; decide)) $$ [Hc HO Hat]
  · isplitr; · iexact HI
    isplitl [Hc]; · iexact Hc
    isplitl [HO]; · iexact HO
    isplitr
    · iapply (recs_mayWait A B K (mayWait_owed 1 (lv_bar c).le above_ops)); iexact Hr
    iexact Hat
  iintro ⟨HO, Hat, -, Hpay⟩
  ihave Hp := (Entails.of_eq (rest_bar A B c)) $$ Hpay
  imod (Rounds.cell_close ER (sched A B) (Set.mem_univ (K (c, none))) (fun h => h) (R := 0 + 1) (duties_later A B (barCell c))) $$ [Hat] with Hz
  · isplitr; · iexact HI
    iexact Hat
  rw [wp_ret]; imodintro
  isplitl [HO]; · iexists _; iexact HO
  isplitl [Hz] <;> iassumption

omit [FloatOps F] in
/-- The landing buffers, dealt to the five neighbours. -/
theorem deal_bufs : (bigSep Finset.univ fun sk : Fin 6 × Fin 5 => iprop(∃ f, rb (F := F) c sk.1 sk.2 f)) = bigSep Finset.univ fun d : Duty => barPay (F := F) (par d c) d := by
  unfold barPay
  rw [bigSep_univ_comm]
  refine bigSep_congr fun sk _ => ?_
  refine (bigSep_ite_at (dim sk.1 sk.2) fun d => iprop(∃ f, rb (F := F) c sk.1 sk.2 f)).symm.trans (bigSep_congr fun d _ => ?_)
  rw [par_par]

omit [FloatOps F] in
/-- A family over the five directions. -/
theorem bigSep_five (Φ : Duty → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The addressees of the five signals are the five neighbours. -/
theorem dev1_eq : (⟨k0_dev1 c, k0_dev1_lt c⟩ : Dev nD) = par 0 c := by revert c; decide +kernel
theorem dev2_eq : (⟨k0_dev2 c, k0_dev2_lt c⟩ : Dev nD) = par 1 c := by revert c; decide +kernel
theorem dev3_eq : (⟨k0_dev3 c, k0_dev3_lt c⟩ : Dev nD) = par 2 c := by revert c; decide +kernel
theorem dev4_eq : (⟨k0_dev4 c, k0_dev4_lt c⟩ : Dev nD) = par 3 c := by revert c; decide +kernel
theorem dev5_eq : (⟨k0_dev5 c, k0_dev5_lt c⟩ : Dev nD) = par 4 c := by revert c; decide +kernel

/-! ## The whole body -/

/-- What a device starts from beside its three blocks: its landing buffers, tokens, positions, credits and debts. -/
def startC : sProp 𝕄 :=
  iprop((bigSep Finset.univ fun sk : Fin 6 × Fin 5 => iprop(∃ f, rb (F := F) c sk.1 sk.2 f))
    ∗ (bigSep Finset.univ fun d : Duty => dutyTok ER (barCell (par d c)) 0 d)
    ∗ cred (tallyAt (barCell c) () 5) ∗ atPos ER (barCell c) 0 ∅ 0
    ∗ bigSep Finset.univ fun sk : Fin 6 × Fin 5 => iprop(rsTok (F := F) c sk.1 sk.2 ∗ agReady c sk.1 sk.2))
/-- What it ends with: every cell at zero and the landing buffers. -/
def endC : sProp 𝕄 :=
  iprop(semVal (barCell c) 0 ∗ bigSep Finset.univ fun sk : Fin 6 × Fin 5 => iprop(rsFin (F := F) c sk.1 sk.2 ∗ agDone c sk.1 sk.2))

omit [FloatOps F] in
/-- With the neighbours' landing buffers and the tokens every exchange is ready to start. -/
theorem ready_intro : iprop((bigSep Finset.univ fun sk : Fin 6 × Fin 5 => iprop(∃ f, rb (F := F) (pr sk.1 sk.2 c) sk.1 sk.2 f))
      ∗ bigSep Finset.univ fun sk : Fin 6 × Fin 5 => iprop(rsTok (F := F) c sk.1 sk.2 ∗ agReady c sk.1 sk.2))
    ⊢ bigSep Finset.univ fun sk => rd (F := F) c sk .s0 := by
  rw [← bigSep_sep']
  refine bigSep_mono fun sk _ => ?_
  show _ ⊢ iprop(rsReady (F := F) c sk.1 sk.2 ∗ agReady c sk.1 sk.2)
  unfold rsReady
  iintro ⟨H1, H2, H3⟩
  isplitl [H1 H2]; · isplitl [H1] <;> iassumption
  iexact H3

/-- The body: the output holds the results. -/
theorem run_flat (f : Out F) :
    iprop(recs A B K ∗ aPt c (A c) ∗ bPt c (B c) ∗ outPt c f ∗ startC (F := F) c ∗ ow c (O₀ c))
      ⊢ run c (flat (F := F)) fun _ => iprop(aPt c (A c) ∗ bPt c (B c) ∗ outPt c (res A B) ∗ endC (F := F) c ∗ ow c 0) := by
  unfold startC flat sigProg
  rw [deal_bufs, bigSep_five fun d : Duty => barPay (F := F) (par d c) d, bigSep_five fun d : Duty => dutyTok ER (barCell (par d c)) 0 d]
  have w (d : Duty) (n : Dev nD) (hn : n = par d c) (O : CellTallies nD τ sig Unit) (p : P F) (Q : PUnit → sProp 𝕄) :
      iprop(recs A B K ∗ dutyTok ER (barCell (par d c)) 0 d ∗ barPay (F := F) (par d c) d ∗ ow c (O + barOwe c d) ∗ (ow c O -∗ run c p Q))
        ⊢ run c (semSignalWord n barS 1#32 >>= fun _ => p) Q := by
    unfold run; rw [wp_bind]
    iintro ⟨#Hr, Ht, Hp, HO, Hk⟩
    iapply (run_frame (Z := iprop(ow c O -∗ run c p Q)) (Q := fun _ => run c p Q) (step_sig A B K c d n hn (O := O))
      (by iintro ⟨HO, Hk⟩; iapply Hk; iexact HO))
    isplitr [Hk]
    · isplitr; · iexact Hr
      isplitl [Ht]; · iexact Ht
      isplitl [Hp] <;> iassumption
    iexact Hk
  unfold O₀
  iintro ⟨#Hr, Ha, Hb, Ho, ⟨⟨Hp0, Hp1, Hp2, Hp3, Hp4⟩, ⟨Ht0, Ht1, Ht2, Ht3, Ht4⟩, Hcr, Hat, Hsk⟩, HO⟩
  unfold run; rw [wp_deviceId]
  iapply (w 0 _ (dev1_eq c))
  isplitr; · iexact Hr
  isplitl [Ht0]; · iexact Ht0
  isplitl [Hp0]; · iexact Hp0
  isplitl [HO]; · iexact HO
  iintro HO
  iapply (w 1 _ (dev2_eq c))
  isplitr; · iexact Hr
  isplitl [Ht1]; · iexact Ht1
  isplitl [Hp1]; · iexact Hp1
  isplitl [HO]; · iexact HO
  iintro HO
  iapply (w 2 _ (dev3_eq c))
  isplitr; · iexact Hr
  isplitl [Ht2]; · iexact Ht2
  isplitl [Hp2]; · iexact Hp2
  isplitl [HO]; · iexact HO
  iintro HO
  iapply (w 3 _ (dev4_eq c))
  isplitr; · iexact Hr
  isplitl [Ht3]; · iexact Ht3
  isplitl [Hp3]; · iexact Hp3
  isplitl [HO]; · iexact HO
  iintro HO
  iapply (w 4 _ (dev5_eq c))
  isplitr; · iexact Hr
  isplitl [Ht4]; · iexact Ht4
  isplitl [Hp4]; · iexact Hp4
  isplitl [HO]; · iexact HO
  iintro HO
  unfold run; rw [wp_bind]
  iapply (wp_wand frame (wpE (defs₀ (F := F)) 𝒱₀ (c : Thread nD τ) none) Set.univ) $$ [Hcr Hat HO]
  · iapply (step_wait A B K c)
    isplitr; · iexact Hr
    isplitl [Hcr]; · iexact Hcr
    isplitl [Hat] <;> iassumption
  iintro %u ⟨HO, Hz, Hbufs⟩
  ihave Hh := (hold_start A B c f) $$ Ho
  iapply (run_frame (Z := semVal (barCell c) 0) (run_steps A B K c ops (fun _ => .p0) (fun _ => .s0) run_ops) (Q := fun _ => iprop(aPt c (A c) ∗ bPt c (B c) ∗ outPt c (res A B) ∗ endC (F := F) c ∗ ow c 0)) ?_)
  · unfold all1 endC
    iintro ⟨⟨Ha, Hb, Hh, Hsk, HO⟩, Hz⟩
    isplitl [Ha]; · iexact Ha
    isplitl [Hb]; · iexact Hb
    isplitl [Hh]; · iapply (hold_end A B c); iexact Hh
    isplitl [Hz Hsk]; · isplitl [Hz]; · iexact Hz
                        iexact Hsk
    iexact HO
  isplitr [Hz]
  · isplitr; · iexact Hr
    unfold all1
    isplitl [Ha]; · iexact Ha
    isplitl [Hb]; · iexact Hb
    isplitl [Hh]; · iexact Hh
    isplitr [HO]
    · iapply (ready_intro c)
      isplitl [Hbufs] <;> iassumption
    iexact HO
  iexact Hz

end Cert.Gemm

end
-- ==== Proof.BodyEq.lean ====
/-
# The printed body is the list of steps of `Flat`
-/
module

public import proofs.«01_k».proof.Proof.Flat

@[expose] public section

noncomputable section

namespace Cert.Gemm

open Cert.KernelIdeal Cert.KernelIdeal.Gen
open Idealize.ShloMosaic Idealize.ShloMosaic.TcCoe Idealize.SL.Sem

variable {F : FTy → Type} [FloatOps F]

/-- The printed body is that list of steps. -/
theorem body_eq_flat : cc0_body (F := F) (Memref.whole cc0_stg0_0) (Memref.isWhole_whole _) (Memref.whole cc0_stg1_0) (Memref.isWhole_whole _)
    (Memref.whole cc0_stg2_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
    (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _)
    (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _)
    (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _)
    (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _)
    cc0_scratch30 cc0_scratch31 cc0_scratch32 cc0_scratch33 = flat := by
  chain_rfl

end Cert.Gemm

end
-- ==== Proof.Launch.lean ====
/-
# The launch

The cells, tokens and credits that the launch hands out, the body on every device, and the run of the whole program:
it ends, every device's result array holds the computed contents, the operands are unchanged and every counter is zero.
-/
module

public import proofs.«01_k».proof.Proof.Body
public import proofs.«01_k».proof.Proof.BodyEq
public import proofs.«01_k».proof.Proof.Gen.KernelIdeal.Launch
public import proofs.«01_k».proof.Proof.Gen.KernelIdeal.Points

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands -/

/-- Device `c`'s operands. -/
def opA (c : Dev nD) : AIn F := (win0_0.blk (0 : Fin 1)).view.read (Elt F) (m ((c : Thread nD τ).loc main_arg0))
/-- Its block of `B`. -/
def opB (c : Dev nD) : BIn F := (win0_1.blk (0 : Fin 1)).view.read (Elt F) (m ((c : Thread nD τ).loc main_arg1))

/-! ## Families over the cells -/

omit [FloatOps F] in
/-- A family over a device's cells: the barrier's member and the copy cells'. -/
theorem bigSep_option (Φ : Option J → sProp 𝕄) : bigSep Finset.univ Φ = iprop(Φ none ∗ bigSep Finset.univ fun j : J => Φ (some j)) := by
  rw [bigSep_univ_at Φ none]
  refine congrArg _ ?_
  have h : (Finset.univ.erase none : Finset (Option J)) = Finset.univ.map ⟨some, Option.some_injective J⟩ := by
    ext o; cases o <;> simp
  rw [h, bigSep_map]; rfl
omit [FloatOps F] in
/-- A family over the copy cells, array by array. -/
theorem bigSep_J (Φ : J → sProp 𝕄) : bigSep Finset.univ Φ
    = iprop((bigSep Finset.univ fun sk : Fin 6 × Fin 5 => Φ (0, sk)) ∗ (bigSep Finset.univ fun sk : Fin 6 × Fin 5 => Φ (1, sk))
      ∗ (bigSep Finset.univ fun sk : Fin 6 × Fin 5 => Φ (2, sk)) ∗ bigSep Finset.univ fun sk : Fin 6 × Fin 5 => Φ (3, sk)) := by
  rw [bigSep_univ_prod]
  exact bigSep_univ_eq_bigSepL [0, 1, 2, 3] (by decide) (by decide) fun a : Fin 4 => bigSep Finset.univ fun sk : Fin 6 × Fin 5 => Φ (a, sk)

/-! ## The landing buffers -/

omit [FloatOps F] in
/-- Holding a landing buffer is holding its memory. -/
theorem rb_any (c : Dev nD) (s : Fin 6) (k : Fin 5) :
    (iprop(∃ f, rb (F := F) c s k f) : sProp 𝕄) = iprop(∃ f : Buf (Elt F) ((rbuf s k).view.loc (c : Thread nD τ)), ((rbuf s k).view.loc (c : Thread nD τ)) ↦{fullShare} f) := by
  unfold rb; rw [(rbuf_whole s k).set_eq_univ]
omit [FloatOps F] in
/-- The scratch buffers are the landing buffers. -/
theorem scratch_eq (c : Dev nD) : (Pipeline.scopedRest (Ix := Unit) (Name := ℕ) (U := UU) (Lvl := ℕ) (Val := Elt F) spec0 c : sProp 𝕄)
    = bigSep Finset.univ fun sk : Fin 6 × Fin 5 => iprop(∃ f, rb (F := F) c sk.1 sk.2 f) := by
  rw [scopedRest0_eq, bigSep_univ_eq_bigSepL [(0, 0), (0, 1), (0, 2), (0, 3), (0, 4), (1, 0), (1, 1), (1, 2), (1, 3), (1, 4),
    (2, 0), (2, 1), (2, 2), (2, 3), (2, 4), (3, 0), (3, 1), (3, 2), (3, 3), (3, 4),
    (4, 0), (4, 1), (4, 2), (4, 3), (4, 4), (5, 0), (5, 1), (5, 2), (5, 3), (5, 4)] (by decide) (by decide)]
  simp only [bigSepL_cons_cons, bigSepL_singleton, rb_any]
  rfl

/-! ## What the launch deals -/

/-- A cell determines its device and its name. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
/-- All the cells of the exchange. -/
def ringCells : Finset (GSem nD τ sig) := Finset.univ.map ⟨kcell, kcell_injective⟩

/-- A device's own duties: the five of its barrier cell, and one per copy cell. -/
abbrev tokOf (cj : Dev nD × (Duty ⊕ J)) : GSem nD τ sig × ℕ × Duty := match cj.2 with
  | .inl d => (barCell cj.1, 0, d) | .inr j => (kcell (cj.1, some j), 0, 0)
/-- Different duties have different tokens. -/
theorem tokOf_injective : Function.Injective tokOf := by
  rintro ⟨c, j⟩ ⟨c', j'⟩ h
  have h1 : c = c' := by
    have := congrArg (fun x : GSem nD τ sig × ℕ × Duty => x.1.1.1) h
    cases j <;> cases j' <;> exact this
  subst h1
  have h3 : (tokOf (c, j)).1 = (tokOf (c, j')).1 := congrArg Prod.fst h
  have h4 : (tokOf (c, j)).2.2 = (tokOf (c, j')).2.2 := congrArg (fun x : GSem nD τ sig × ℕ × Duty => x.2.2) h
  cases j with
  | inl d => cases j' with
    | inl d' => exact congrArg (fun d => (c, Sum.inl d)) h4
    | inr j' => exact absurd (csem_injective (show csem none = csem (some j') from congrArg Prod.snd h3)) (by simp)
  | inr j => cases j' with
    | inl d' => exact absurd (csem_injective (show csem (some j) = csem none from congrArg Prod.snd h3)) (by simp)
    | inr j' => rw [Option.some.inj (csem_injective (show csem (some j) = csem (some j') from congrArg Prod.snd h3))]
/-- All the tokens of the exchange. -/
def ringToks : Finset (GSem nD τ sig × ℕ × Duty) := Finset.univ.map ⟨tokOf, tokOf_injective⟩

/-- The ghost state at launch. -/
def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Duty => dutyTok ER (barCell c) 0 d) ∗ bigSep Finset.univ fun j : J => dutyTok ER (kcell (c, some j)) 0 0)

/-- The device whose copy cell `j` device `c` pays into. -/
def tgt (j : J) (c : Dev nD) : Dev nD := match j.1 with | 0 => c | 1 => pr j.2.1 j.2.2 c | 2 => c | 3 => pr j.2.1 j.2.2 c
/-- Paying is mutual: the device paid pays the payer. -/
theorem tgt_tgt (j : J) (c : Dev nD) : tgt j (tgt j c) = c := by
  obtain ⟨a, s, k⟩ := j
  fin_cases a <;> first | rfl | exact pr_pr c s k
/-- The duty tokens that device `c` pays with. -/
def payToks (c : Dev nD) : sProp 𝕄 :=
  iprop((bigSep Finset.univ fun d : Duty => dutyTok ER (barCell (par d c)) 0 d) ∗ bigSep Finset.univ fun j : J => dutyTok ER (kcell (tgt j c, some j)) 0 0)
/-- What a device alone holds: its positions and the tokens that it pays with. -/
def linear (c : Dev nD) : sProp 𝕄 := iprop((bigSep Finset.univ fun o : Option J => atPos ER (kcell (c, o)) 0 ∅ 0) ∗ payToks (F := F) c)

omit [FloatOps F] in
/-- A family over devices and indices, each index's row turned by an involution of the devices. -/
theorem turn {I : Type} [Fintype I] [DecidableEq I] (e : I → Dev nD → Dev nD) (he : ∀ i c, e i (e i c) = c) (Φ : Dev nD → I → sProp 𝕄) :
    (bigSep Finset.univ fun c : Dev nD => bigSep Finset.univ fun i : I => Φ c i) = bigSep Finset.univ fun c : Dev nD => bigSep Finset.univ fun i : I => Φ (e i c) i := by
  rw [bigSep_univ_comm, bigSep_univ_comm (fun (c : Dev nD) (i : I) => Φ (e i c) i)]
  exact bigSep_congr fun i _ => bigSep_univ_equiv ⟨e i, e i, he i, he i⟩ fun c => Φ c i
omit [FloatOps F] in
/-- The tokens of all cells are the tokens that all devices pay with. -/
theorem toks_around : (bigSep Finset.univ fun c : Dev nD => toks (F := F) c) ⊢ bigSep Finset.univ fun c : Dev nD => payToks (F := F) c := by
  unfold toks payToks
  rw [bigSep_sep', bigSep_sep', turn par par_par, turn tgt tgt_tgt (fun (c : Dev nD) (j : J) => dutyTok ER (kcell (c, some j)) 0 0)]

section Deal

variable (A : Dev nD → AIn F) (B : Dev nD → BIn F)

/-- What the launch gives a device. -/
def G (c : Dev nD) : sProp 𝕄 :=
  iprop((bigSep Finset.univ fun o : Option J => roundState ER (sched A B) (kcell (c, o)) 0)
    ∗ (bigSep Finset.univ fun o : Option J => iprop(atPos ER (kcell (c, o)) 0 ∅ 0 ∗ reached ER (kcell (c, o)) 0)) ∗ toks c)

/-- Every cell's invariant and every cell at round 0. -/
def records (K : Dev nD × Option J → ℕ) : sProp 𝕄 :=
  iprop((bigSep Finset.univ fun ck : Dev nD × Option J => cellInv ER (sched A B) (K ck) (kcell ck))
    ∗ bigSep Finset.univ fun ck : Dev nD × Option J => reached ER (kcell ck) 0)
instance records_persistent (K : Dev nD × Option J → ℕ) : BI.Persistent (records A B K) := by unfold records; infer_instance

/-- What a device starts with, the cells' invariants once allocated. -/
def G' (c : Dev nD) : sProp 𝕄 := iprop(∃ K, records A B K ∗ linear c)

/-- The ghost state at launch gives every device its part. -/
theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun o : Option J => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched A B) ringCells ringToks) $$ HX with ⟨Hst, Hr, Hat, Htok⟩
  imodintro
  ihave Hst' := (Entails.of_eq (hX fun g => roundState ER (sched A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The call's own semaphores at zero. -/
abbrev ownZ (c : Dev nD) : sProp 𝕄 := Pipeline.ownSems0 (Ix := Unit) (Name := ℕ) (U := UU) (Lvl := ℕ) (Val := Elt F) (τ := τ) dsem c

/-- A device's semaphores at zero become its cells' invariants. -/
theorem core_alloc (c : Dev nD) :
    iprop(ownZ c ∗ unscopedSems0 c ∗ G A B c)
      ⊢ |={Set.univ}=> iprop((bigSep Finset.univ fun o => iprop(∃ κ : ℕ, cellInv ER (sched A B) κ (kcell (c, o))))
          ∗ (bigSep Finset.univ fun o => iprop(atPos ER (kcell (c, o)) 0 ∅ 0 ∗ reached ER (kcell (c, o)) 0)) ∗ toks c) := by
  have hv : iprop(ownZ c ∗ unscopedSems0 c) ⊢ (bigSep Finset.univ fun o : Option J => semVal (kcell (c, o)) 0 : sProp 𝕄) := by
    rw [unscopedSems0_eq, bigSep_option]; unfold ownZ Pipeline.ownSems0
    iintro ⟨H1, H2⟩
    isplitl [H2] <;> iassumption
  unfold G
  iintro ⟨Hos, Hus, Hst, Hat, Htok⟩
  ihave Hv := hv $$ [Hos Hus]
  · isplitl [Hos] <;> iassumption
  imod (show iprop((bigSep Finset.univ fun o : Option J => semVal (kcell (c, o)) 0) ∗ bigSep Finset.univ fun o : Option J => roundState ER (sched A B) (kcell (c, o)) 0)
      ⊢ (|={Set.univ}=> bigSep Finset.univ fun o => iprop(∃ κ : ℕ, cellInv ER (sched A B) κ (kcell (c, o))) : sProp 𝕄) from by
        rw [← bigSep_sep']
        exact (bigSep_mono fun o _ => (Rounds.body_intro ER (sched A B) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all devices are given to every device, and every token to its payer. -/
theorem regroup :
    (bigSep Finset.univ fun c : Dev nD => iprop((bigSep Finset.univ fun o => iprop(∃ κ : ℕ, cellInv ER (sched A B) κ (kcell (c, o))))
          ∗ (bigSep Finset.univ fun o => iprop(atPos ER (kcell (c, o)) 0 ∅ 0 ∗ reached ER (kcell (c, o)) 0)) ∗ toks c) : sProp 𝕄)
      ⊢ bigSep Finset.univ (G' A B) := by
  rw [bigSep_sep', bigSep_sep', ← bigSep_univ_prod (fun ck : Dev nD × Option J => iprop(∃ κ : ℕ, cellInv ER (sched A B) κ (kcell ck))),
    bigSep_congr (s := Finset.univ) (fun (c : Dev nD) _ => bigSep_sep' Finset.univ (fun o : Option J => (atPos ER (kcell (c, o)) 0 ∅ 0 : sProp 𝕄)) (fun o => reached ER (kcell (c, o)) 0)),
    bigSep_sep', ← bigSep_univ_prod (fun ck : Dev nD × Option J => (reached ER (kcell ck) 0 : sProp 𝕄))]
  iintro ⟨HI, ⟨Hat, #HR⟩, Htok⟩
  ihave HK := (BI.bigSep_exists_pi Finset.univ (fun (ck : Dev nD × Option J) (κ : ℕ) => (cellInv ER (sched A B) κ (kcell ck) : sProp 𝕄))) $$ HI
  icases HK with ⟨%K, #HI⟩
  ihave Htk := (toks_around (F := F)) $$ Htok
  iapply (bigSep_with_persistent (R := records A B K) (Φ := fun c => linear c) (Ψ := G' A B) fun c _ => by
    unfold G'
    iintro ⟨#HR, HL⟩
    iexists K
    isplitr; · iexact HR
    iexact HL)
  isplitr
  · unfold records; isplitl; · iexact HI
    iexact HR
  · unfold linear
    rw [bigSep_sep']
    isplitl [Hat]; · iexact Hat
    iexact Htk

/-- The two together: from zero counters to what the devices start with. -/
theorem glob : (bigSep Finset.univ fun c => iprop(ownZ c ∗ unscopedSems0 c ∗ G A B c) : sProp 𝕄) ⊢ |={Set.univ}=> bigSep Finset.univ (G' A B) :=
  ((bigSep_mono fun c _ => core_alloc A B c).trans (bigSep_fupd _ _)).trans (BI.fupd_mono (regroup A B))

end Deal

/-! ## Launch credits -/

/-- A copy cell determines its name and its device. -/
theorem dCell_inj {a a' : Fin 4} {s s' : Fin 6} {k k' : Fin 5} {c c' : Dev nD} (h : dCell a s k c = dCell a' s' k' c') : a = a' ∧ s = s' ∧ k = k' ∧ c = c' := by
  have h1 : ((c, some (a, s, k)) : Dev nD × Option J) = (c', some (a', s', k')) := kcell_injective h
  simp only [Prod.mk.injEq, Option.some.injEq] at h1
  exact ⟨h1.2.1, h1.2.2.1, h1.2.2.2, h1.1⟩
/-- A copy cell is no barrier cell. -/
theorem dCell_ne_bar {a : Fin 4} {s : Fin 6} {k : Fin 5} {c c' : Dev nD} : dCell a s k c ≠ barCell c' := fun h => by
  have h1 : ((c, some (a, s, k)) : Dev nD × Option J) = (c', none) := kcell_injective h
  simp at h1
/-- A barrier cell determines its device. -/
theorem bar_inj {c c' : Dev nD} (h : barCell c = barCell c') : c = c' := congrArg Prod.fst (kcell_injective h : ((c, none) : Dev nD × Option J) = (c', none))

/-- Who owes a barrier cell a signal. -/
theorem barOwe_bar (d : Duty) (x c : Dev nD) : barOwe x d (barCell c) () = if x = par d c then 1 else 0 := by
  rw [tallyAt_apply]
  refine if_congr ⟨fun h => ?_, fun h => ?_⟩ rfl rfl
  · rw [bar_inj h.1, par_par]
  · rw [h, par_par]; exact ⟨rfl, rfl⟩
/-- A signal owes no copy cell anything. -/
theorem barOwe_dma (d : Duty) (x c : Dev nD) (a : Fin 4) (s : Fin 6) (k : Fin 5) : barOwe x d (dCell a s k c) () = 0 := by
  rw [tallyAt_apply, if_neg fun h => dCell_ne_bar h.1]
/-- The steps owe no barrier cell anything. -/
theorem owed_bar (x c : Dev nD) (l : List Op) : owed x l (barCell c) () = 0 := by
  induction l with
  | nil => rfl
  | cons o l ih =>
    rw [owed, Pi.add_apply, Finsupp.add_apply, ih]
    cases o with
    | rs s k => rw [owe1, tallyAt_apply, if_neg fun h => dCell_ne_bar h.1.symm]
    | ag s k => rw [owe1, tallyAt_apply, if_neg fun h => dCell_ne_bar h.1.symm]
    | mm _ _ => rfl
    | fin _ _ => rfl
    | col _ _ => rfl
/-- What the steps owe a copy cell: one amount for each of the partner's copies into it. -/
theorem owed_dma (q : Fin 2) (x c : Dev nD) (s : Fin 6) (k : Fin 5) (l : List Op) :
    owed x l (dCell (![1, 3] q) s k c) () = if x = pr s k c then (l.countP fun o => match q, o with | 0, .rs s' k' => s' = s ∧ k' = k | 1, .ag s' k' => s' = s ∧ k' = k | _, _ => false) * amt s k else 0 := by
  induction l with
  | nil => rw [List.countP_nil, Nat.zero_mul, ite_self]; rfl
  | cons o l ih =>
    rw [owed, Pi.add_apply, Finsupp.add_apply, ih, List.countP_cons]
    have key (a : Fin 4) (s' : Fin 6) (k' : Fin 5) :
        (tallyAt (dCell a s' k' (pr s' k' x)) () (amt s' k') : CellTallies nD τ sig Unit) (dCell (![1, 3] q) s k c) ()
          = if a = ![1, 3] q ∧ s' = s ∧ k' = k then (if x = pr s k c then amt s k else 0) else 0 := by
      rw [tallyAt_apply]
      by_cases h : a = ![1, 3] q ∧ s' = s ∧ k' = k
      · obtain ⟨rfl, rfl, rfl⟩ := h
        rw [if_pos (show (![1, 3] q : Fin 4) = ![1, 3] q ∧ s' = s' ∧ k' = k' from ⟨rfl, rfl, rfl⟩)]
        refine if_congr ⟨fun h => ?_, fun h => ?_⟩ rfl rfl
        · rw [(dCell_inj h.1).2.2.2, pr_pr]
        · subst h; exact ⟨by rw [pr_pr], rfl⟩
      · rw [if_neg h, if_neg fun h' => h ⟨(dCell_inj h'.1).1.symm, (dCell_inj h'.1).2.1.symm, (dCell_inj h'.1).2.2.1.symm⟩]
    cases o with
    | rs s' k' =>
      rw [owe1, key]
      by_cases hx : x = pr s k c <;> fin_cases q <;> by_cases h : s' = s ∧ k' = k <;> simp [hx, h, Nat.add_mul]
    | ag s' k' =>
      rw [owe1, key]
      by_cases hx : x = pr s k c <;> fin_cases q <;> by_cases h : s' = s ∧ k' = k <;> simp [hx, h, Nat.add_mul]
    | mm _ _ => fin_cases q <;> simp [owe1]
    | fin _ _ => fin_cases q <;> simp [owe1]
    | col _ _ => fin_cases q <;> simp [owe1]
/-- The kernel has one copy of every stream, round and half. -/
theorem count_ops (q : Fin 2) (s : Fin 6) (k : Fin 5) :
    (ops.countP fun o => match q, o with | 0, .rs s' k' => s' = s ∧ k' = k | 1, .ag s' k' => s' = s ∧ k' = k | _, _ => false) = 1 := by
  revert q s k; decide +kernel

/-- At launch every barrier cell is owed five units, -/
theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  simp only [O₀, Pi.add_apply, Finsupp.add_apply, owed_bar, barOwe_bar, Finset.sum_add_distrib, Finset.sum_ite_eq', Finset.mem_univ, if_true, Finset.sum_const_zero]
/-- and every arrival cell what its one copy credits. -/
theorem launch_dma (q : Fin 2) (c : Dev nD) (s : Fin 6) (k : Fin 5) :
    tallyOn (dCell (![1, 3] q) s k c) (launchCredit (Pipeline.owing O₀) 0 (dCell (![1, 3] q) s k c)) = (tallyAt (dCell (![1, 3] q) s k c) () (amt s k) : CellTallies nD τ sig Unit) := by
  unfold tallyAt; refine congrArg _ (Finsupp.ext fun u => ?_); cases u
  rw [Pipeline.launchCredit_owing, Finsupp.single_eq_same]
  simp only [O₀, Pi.add_apply, Finsupp.add_apply, owed_dma, count_ops, barOwe_dma, Nat.add_zero, Nat.one_mul, Finset.sum_ite_eq', Finset.mem_univ, if_true]

/-- The credits of device `c`'s cells. -/
def credits (c : Dev nD) : sProp 𝕄 :=
  iprop(cred (tallyAt (barCell c) () 5) ∗ (bigSep Finset.univ fun sk : Fin 6 × Fin 5 => cred (tallyAt (dCell 1 sk.1 sk.2 c) () (amt sk.1 sk.2)))
    ∗ bigSep Finset.univ fun sk : Fin 6 × Fin 5 => cred (tallyAt (dCell 3 sk.1 sk.2 c) () (amt sk.1 sk.2)))
omit [FloatOps F] in
/-- So a device gets the credits of its cells. -/
theorem creds (c : Dev nD) : (Pipeline.launchCred O₀ c : sProp 𝕄) ⊢ credits (F := F) c := by
  unfold Pipeline.launchCred credits
  rw [bigSep_univ_at _ (SemLoc.reg barS), launch_bar]
  refine sep_mono_right ?_
  have hsub : (Finset.univ.map ⟨dsem, fun j j' h => Option.some.inj (csem_injective (h : csem (some j) = csem (some j')))⟩ : Finset (SemLoc sig)) ⊆ Finset.univ.erase (SemLoc.reg barS) := fun x hx => by
    obtain ⟨j, -, rfl⟩ := Finset.mem_map.mp hx
    exact Finset.mem_erase.mpr ⟨fun h => Option.some_ne_none j (csem_injective (a₁ := some j) (a₂ := none) h), Finset.mem_univ _⟩
  have hs : (bigSep (Finset.univ.erase (SemLoc.reg barS)) fun sm => cred (tallyOn ((c : Thread nD τ), sm) (launchCredit (Pipeline.owing O₀) 0 ((c : Thread nD τ), sm))) : sProp 𝕄) ⊢ _ := bigSep_subset hsub
  refine hs.trans ?_
  rw [bigSep_map, bigSep_J]
  show iprop((bigSep Finset.univ fun sk : Fin 6 × Fin 5 => _) ∗ (bigSep Finset.univ fun sk : Fin 6 × Fin 5 => cred (tallyOn (dCell (![1, 3] 0) sk.1 sk.2 c) (launchCredit (Pipeline.owing O₀) 0 (dCell (![1, 3] 0) sk.1 sk.2 c))))
    ∗ (bigSep Finset.univ fun sk : Fin 6 × Fin 5 => _) ∗ bigSep Finset.univ fun sk : Fin 6 × Fin 5 => cred (tallyOn (dCell (![1, 3] 1) sk.1 sk.2 c) (launchCredit (Pipeline.owing O₀) 0 (dCell (![1, 3] 1) sk.1 sk.2 c)))) ⊢ _
  simp only [launch_dma]
  iintro ⟨-, H1, -, H3⟩
  isplitl [H1]; · iexact H1
  iexact H3

end Cert.Gemm

end
-- ==== Proof.Run.lean ====
/-
# The run

The body on every device between the launch's beginning and end, and the run of the whole program: it ends, every
device's result array holds the computed contents, the operands are unchanged and every counter is zero.
-/
module

public import proofs.«01_k».proof.Proof.Launch
public import Idealize.ShloMosaic.Lib.Pipeline.CollectiveSegs

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds from the launch on: the cells' records, its tokens and positions, its credits, the levels. -/
def start (c : Dev nD) : sProp 𝕄 := iprop(G' (opA m) (opB m) c ∗ credits c ∗ levAts L lv)

/-- What a device starts with, sorted by exchange. -/
theorem start_body (c : Dev nD) :
    iprop(linear (F := F) c ∗ credits c ∗ bigSep Finset.univ fun sk : Fin 6 × Fin 5 => iprop(∃ f, rb (F := F) c sk.1 sk.2 f)) ⊢ startC (F := F) c := by
  unfold linear payToks credits startC rsTok agReady
  rw [bigSep_option, bigSep_J, bigSep_J]
  simp only [bigSep_sep']
  iintro ⟨⟨⟨Hab, Ha0, Ha1, Ha2, Ha3⟩, Htb, Ht0, Ht1, Ht2, Ht3⟩, ⟨Hcb, Hc1, Hc3⟩, Hr⟩
  isplitl [Hr]; · iexact Hr
  isplitl [Htb]; · iexact Htb
  isplitl [Hcb]; · iexact Hcb
  isplitl [Hab]; · iexact Hab
  isplitl [Ht0 Ht1 Ha0 Ha1 Hc1]
  · isplitl [Ht0]; · iexact Ht0
    isplitl [Ht1]; · iexact Ht1
    isplitl [Ha0]; · iexact Ha0
    isplitl [Ha1]; · iexact Ha1
    iexact Hc1
  · isplitl [Ht2]; · iexact Ht2
    isplitl [Ht3]; · iexact Ht3
    isplitl [Ha2]; · iexact Ha2
    isplitl [Ha3]; · iexact Ha3
    iexact Hc3

/-! ## The body on a device -/

/-- The result, on every device. -/
def result : Out F := res (opA m) (opB m)

/-- What the staging buffers hold around the body, and what a device holds beside them. -/
def dats (_ : Fin 1) (c : Dev nD) : Dat τ (Elt F) Unit ℕ UU ℕ cfg0 c where
  A w := m ((cfg0.win w).arr.view.loc (c : Thread nD τ))
  after w _ := match w with
    | ⟨0, _⟩ => opA m c
    | ⟨1, _⟩ => opB m c
    | ⟨2, _⟩ => result m
  Φ t := match t with
    | ⟨0, _⟩ => iprop(start m c ∗ bigSep Finset.univ fun sk : Fin 6 × Fin 5 => iprop(∃ f, rb (F := F) c sk.1 sk.2 f))
    | ⟨_ + 1, _⟩ => endC c
  q _ := fullShare
  owed t := match t with
    | ⟨0, _⟩ => O₀ c
    | ⟨_ + 1, _⟩ => 0

/-- The call has one grid point, -/
theorem fin_N (t : Fin cfg0.N) : t = t0_0 := fin_N0 t
omit [FloatOps F] in
/-- and three windows. -/
theorem bigSep_W (Φ : Fin cfg0.W → sProp 𝕄) : bigSep Finset.univ Φ = iprop(Φ (0 : Fin 3) ∗ Φ (1 : Fin 3) ∗ Φ (2 : Fin 3)) := bigSep_W0 Φ
omit [FloatOps F] in
/-- Holding a whole array is holding its memory. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What a device has before the body, -/
def bodyPre (c : Dev nD) : sProp 𝕄 :=
  iprop((dats m 0 c).Φ t0_0.castSucc ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- and after it. -/
def bodyPost (c : Dev nD) : sProp 𝕄 :=
  iprop((dats m 0 c).Φ t0_0.succ ∗ (dats m 0 c).owesAt () t0_0.succ ∗ stg c cc0_stg0_0 (opA m c) ∗ stg c cc0_stg1_0 (opB m c) ∗ stg c cc0_stg2_0 (result m))

/-- The list of steps takes the one to the other. -/
theorem sound_body (c : Dev nD) : bodyPre m c ⊢ run c (flat (F := F)) fun _ => bodyPost m c := by
  unfold bodyPre
  rw [show (dats m 0 c).Φ t0_0.castSucc = iprop(start m c ∗ bigSep Finset.univ fun sk : Fin 6 × Fin 5 => iprop(∃ f, rb (F := F) c sk.1 sk.2 f)) from rfl]
  unfold start G' records
  iintro ⟨⟨⟨⟨%K, ⟨#HI, #HR⟩, Hl⟩, Hc, #Hlev⟩, Hb⟩, Ho, ⟨%d0, %g0, %hg0, Ha⟩, ⟨%d1, %g1, %hg1, Hbb⟩, ⟨%d2, %g2, %hg2, Hout⟩⟩
  have h0 : g0 = opA m c := by rw [hg0]; unfold Dat.before; rw [if_pos (fetch0_0 t0_0)]; rfl
  have h1 : g1 = opB m c := by rw [hg1]; unfold Dat.before; rw [if_pos (fetch0_1 t0_0)]; rfl
  subst h0 h1
  ihave Hs := (start_body (F := F) c) $$ [Hl Hc Hb]
  · isplitl [Hl]; · iexact Hl
    isplitl [Hc]; · iexact Hc
    iexact Hb
  unfold Dat.owesAt Pipeline.owesWithin
  icases Ho with ⟨%W, %hW, HO⟩
  rw [show (dats m 0 c).owed t0_0.castSucc = O₀ c from rfl]
  iapply (wp_wand frame (wpE (defs₀ (F := F)) 𝒱₀ (c : Thread nD τ) none) Set.univ) $$ [Ha Hbb Hout Hs HO]
  · iapply (run_flat (opA m) (opB m) K c g2)
    isplitr
    · unfold recs
      isplitr; · iexact HI
      isplitr; · iexact HR
      iexact Hlev
    isplitl [Ha]; · unfold aPt; iexact Ha
    isplitl [Hbb]; · unfold bPt; iexact Hbb
    isplitl [Hout]; · unfold outPt; iexact Hout
    isplitl [Hs]; · iexact Hs
    unfold ow; iexists W; iexact HO
  iintro %u ⟨Ha, Hb, Ho, He, HO⟩
  unfold bodyPost Dat.owesAt Pipeline.owesWithin ow
  icases HO with ⟨%W', HO⟩
  rw [show (dats m 0 c).owed t0_0.succ = 0 from rfl, show (dats m 0 c).Φ t0_0.succ = endC c from rfl]
  isplitl [He]; · iexact He
  isplitl [HO]
  · iexists W'
    isplitr; · ipureintro; exact fun _ _ => Or.inl trivial
    iexact HO
  isplitl [Ha]
  · iexists (opA m c); isplitr; · (ipureintro; rfl)
    unfold aPt; iexact Ha
  isplitl [Hb]
  · iexists (opB m c); isplitr; · (ipureintro; rfl)
    unfold bPt; iexact Hb
  iexists (result m); isplitr; · (ipureintro; rfl)
  unfold outPt; iexact Ho

omit [FloatOps F] in
/-- The call's body is the list of steps. -/
theorem body_row [FloatOps F] : defs₀ (F := F) Proc.tc cfg0.body (cfg0.bodyArgs t0_0 (cfg0.slots t0_0)) = flat := body_eq_flat

set_option maxRecDepth 30000 in
/-- So does the body. -/
theorem body_obligation (c : Dev nD) : BodyObligation (dats (F := F) m 0 c) (defs₀ (F := F)) 𝒱₀ () Set.univ := fun t => by
  rw [fin_N t]
  rw [bigSep_W, bigSep_W]
  simp only [owns_whole_eq]
  rw [body_row]
  show bodyPre m c ⊢ run c (flat (F := F)) fun _ => bodyPost m c
  exact sound_body m c

/-! ## The launch theorem's conditions -/

/-- The call's own semaphores are the copy cells'. -/
theorem ownSemFacts : Pipeline.OwnSemFacts cfg0.spec dsem where
  isScoped := by decide +kernel
  inj := fun j j' h => Option.some.inj (csem_injective (a₁ := some j) (a₂ := some j') h)
  disj := by decide +kernel

/-- Every array is held whole. -/
theorem share_eq (c : Dev nD) (w : Fin cfg0.W) : (dats m 0 c).share w = fullShare := by unfold Dat.share; split <;> rfl

/-- The launch gives a device what it starts with, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m) (opB m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- with the landing buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bigSep Finset.univ fun sk : Fin 6 × Fin 5 => iprop(∃ f, rb (F := F) c sk.1 sk.2 f)) from rfl, scratch_eq]
  iintro ⟨Hs, -, Hr⟩
  isplitl [Hs] <;> iassumption

/-- At the end it has its semaphores at zero and the landing buffers. -/
theorem phi1_exit (c : Dev nD) :
    (dats m 0 c).Φ (Fin.last cfg0.N) ⊢ iprop(unscopedSems0 c ∗ ownZ c ∗ Pipeline.scopedRest cfg0.spec c) := by
  rw [show (dats m 0 c).Φ (Fin.last cfg0.N) = endC c from rfl, scratch_eq, unscopedSems0_eq]
  unfold endC ownZ Pipeline.ownSems0 rsFin agDone
  rw [bigSep_J]
  simp only [bigSep_sep']
  iintro ⟨Hb, ⟨H0, H1, Hr⟩, H2, H3⟩
  isplitl [Hb]; · iexact Hb
  isplitr [Hr]
  · isplitl [H0]; · iexact H0
    isplitl [H1]; · iexact H1
    isplitl [H2] <;> iassumption
  iexact Hr

/-- The staging copies use no cell of the exchange. -/
theorem stage_kind : ∀ (w : Fin 3) (s : Fin (spec0 w).nbuf), kind (.dma ((spec0 w).sem s)) = none := by decide +kernel
/-- The staging copies may be waited for: before the body they are below everything owed, and after it nothing is owed. -/
theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () ≤ 0 := by
      unfold lv; rw [stage_kind w s]
    rcases t with ⟨_ | _, ht⟩
    · exact mayWait_of 0 hl fun g u h => O₀_pos h
    · exact mayWait_of 0 hl fun g u h => absurd h (Nat.lt_irrefl 0)

/-! ## The run -/

/-- The state before the run: any memory, and zero counters. -/
def s₀ : MemSt nD τ sig (Elt F) := ⟨m, fun _ => 0, ρ⟩

/-- The contents of array `w` of device `c` at the end. -/
def finalA (c : Dev nD) (w : Fin cfg0.W) : Buf (Elt F) ((cfg0.win w).arr.view.loc (c : Thread nD τ)) := (dats m 0 c).arrAt w cfg0.N

/-- Every array holds its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 30000 in
/-- At any float values, from any memory with zero counters: every weakly fair execution of the 32 kernels ends, with
every array at its computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (opA m) (opB m)) (G' := G' (opA m) (opB m)) (u₀ := u₀)
    (hu₀ := by
      unfold u₀
      iintro Hu
      ihave H := (ownU_pair _ _) $$ Hu
      icases H with ⟨HP, HX⟩
      imod (fund_ring (opA m) (opB m)) $$ HX with HG
      imodintro
      isplitl [HP] <;> iassumption)
    (hglob := glob (opA m) (opB m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem final_a (c : Dev nD) : finalA m c (0 : Fin 3) = m (win0_0.arr.view.loc (c : Thread nD τ)) := (dats (F := F) m 0 c).arrAt_in (0 : Fin 3) rfl _
/-- The same of the right operand. -/
theorem final_b (c : Dev nD) : finalA m c (1 : Fin 3) = m (win0_1.arr.view.loc (c : Thread nD τ)) := (dats (F := F) m 0 c).arrAt_in (1 : Fin 3) rfl _

end Cert.Gemm

end
-- ==== Proof.Value.lean ====
/-
# The value of the result

At the ideal values every device's result is the product of the whole operands: each of the 32 devices holds a block of
1024 columns of the left operand and of 1024 rows of the right one, and the sum over the devices of the products of
their blocks is one sum over all 32768 contracted positions.
-/
module

public import proofs.«01_k».proof.Proof.Run
public import Idealize.ShloMosaic.Lib.MatmulPlain
public import Idealize.ShloMosaic.Lib.StackMember
public import Idealize.ShloMosaic.Lib.ValueIdx
public import Idealize.ShloMosaic.Lib.Layout
public import Idealize.ShloMosaic.PureOps.Ideal.Laws

@[expose] public section

noncomputable section

namespace Cert.Gemm

open Cert.KernelIdeal Cert.KernelIdeal.Gen
open Idealize.ShloMosaic Idealize.ShloMosaic.TcCoe Idealize.ShloMosaic.ValueIdx
open scoped BigOperators

/-! ## One device's product -/

/-- A product of two matrices from a zero accumulator, rounded to a narrower format: the sum over the contracted
position. -/
theorem dot_apply {n : ℕ} (h : FTy.bits .bf16 < FTy.bits .f32) (x : FVec Ideal ⟨2, ![1024, 1024]⟩ .bf16) (y : FVec Ideal ⟨2, ![1024, n]⟩ .bf16)
    (r : Fin 1024) (q : Fin n) :
    truncf (F := Ideal) .bf16 (matmul (DotDims.plain 1024 1024 n) none x y (constant ⟨2, ![1024, n]⟩ .f32 0x00000000#32)) h (ix2 r q)
      = ∑ k : Fin 1024, x (ix2 r k) * y (ix2 k q) := by
  show matmul (DotDims.plain 1024 1024 n) none x y (constant ⟨2, ![1024, n]⟩ .f32 0x00000000#32) (ix2 r q) = _
  refine (Ideal.matmul_plain_apply none x y _ r q).trans ?_
  rw [show (constant (F := Ideal) ⟨2, ![1024, n]⟩ .f32 0x00000000#32) (ix2 r q) = (0 : EReal) from Ideal.ofBits_zero_f32, zero_add]

/-- One half of a stream's local product, at an index. -/
theorem mmPay_apply (s : Fin 6) (x : Vec Ideal S1024x1024 .bf16) (y : Vec Ideal ⟨2, ![1024, wid s]⟩ .bf16) (r : Fin 1024) (q : Fin (wid s)) :
    mmPay (F := Ideal) s x y (ix2 r q) = ∑ k : Fin 1024, x (ix2 r k) * y (ix2 k q) := by
  fin_cases s <;>
    (refine Eq.trans ?_ (dot_apply bitsLt_bf16_f32 x y r q)
     first
     | (show k0_pay12 x y _ = _; unfold k0_pay12) | (show k0_pay13 x y _ = _; unfold k0_pay13) | (show k0_pay8 x y _ = _; unfold k0_pay8)
     | (show k0_pay9 x y _ = _; unfold k0_pay9) | (show k0_pay3 x y _ = _; unfold k0_pay3) | (show k0_pay11 x y _ = _; unfold k0_pay11)
     dsimp only
     simp only [shapeCast_self]
     rfl)

/-- Row times column of a device's operands. -/
def rowCol (x : FVec Ideal ⟨2, ![2048, 1024]⟩ .bf16) (y : FVec Ideal ⟨2, ![1024, 2048]⟩ .bf16) (i : Ix) : EReal :=
  ∑ k : Fin 1024, x (ix2 (i (0 : Fin 2)) k) * y (ix2 k (i (1 : Fin 2)))

/-- The local product of stream `s` at an element of the stream: row times column. -/
theorem mulAt_apply (A : AIn Ideal) (B : BIn Ideal) (s : Fin 6) {i : Ix} (hi : i ∈ blk s 0 2048) :
    @Eq EReal (mulAt A B s i) (rowCol A B i) := by
  rw [mem_blk] at hi
  have hr := row_lt i
  unfold mulAt mulHalf
  rw [eq_ix2 (lIx s 0 (1024 * (row i / 1024)) i)]
  refine (mmPay_apply s _ _ _ _).trans (Finset.sum_congr rfl fun k _ => ?_)
  refine congrArg₂ (· * ·) (congrArg A ?_) (congrArg B ?_)
  · funext a; apply Fin.ext
    fin_cases a
    · show 1024 * (row i / 1024) + 1 * ((row i - 1024 * (row i / 1024)) % 1024) = row i
      omega
    · show 0 + 1 * k.val = k.val
      omega
  · funext a; apply Fin.ext
    fin_cases a
    · show 0 + 1 * k.val = k.val
      omega
    · show cof s + 1 * ((col i - cof s) % wid s) = col i
      rw [Nat.mod_eq_of_lt (by omega)]; omega

/-! ## The sum over the devices -/

/-- The devices whose products are in the partial sum of device `c` after `n` rounds. -/
def leaves (s : Fin 6) : ℕ → Dev nD → List (Fin 32)
  | 0, c => [c]
  | n + 1, c => leaves s n c ++ leaves s n (if h : n < 5 then pr s ⟨n, h⟩ c else c)

/-- After five rounds every device is there, once. -/
theorem leaves_perm (s : Fin 6) (c : Dev nD) : (leaves s 5 c).Perm (List.finRange 32) := by revert s c; decide +kernel

/-- A partial sum is the sum of its devices' products. -/
theorem acc_apply (A : Dev nD → AIn Ideal) (B : Dev nD → BIn Ideal) (s : Fin 6) (i : Ix) (n : ℕ) (c : Dev nD) :
    @Eq EReal (acc A B s n c i) ((leaves s n c).map (β := EReal) fun d => mulAt (A d) (B d) s i).sum := by
  induction n generalizing c with
  | zero => exact (add_zero _).symm
  | succ n ih =>
    rw [acc, leaves, List.map_append, List.sum_append, ← ih, ← ih]
    rfl

/-- The result: the sum over the devices of row times column. -/
theorem res_apply (A : Dev nD → AIn Ideal) (B : Dev nD → BIn Ideal) (i : Ix) :
    @Eq EReal (res A B i) (∑ d : Fin 32, rowCol (A d) (B d) i) := by
  unfold res
  rw [acc_apply, ((leaves_perm _ _).map _).sum_eq, ← Fin.sum_univ_def]
  exact Finset.sum_congr rfl fun d _ => mulAt_apply (A d) (B d) _ (mem_stream i)

/-! ## The arrays -/

/-- The result array at the end. -/
theorem final_o {F : FTy → Type} [FloatOps F] (m : (ℓ : Loc nD τ sig) → Buf (Elt F) ℓ) (c : Dev nD) :
    (win0_2.blk (0 : Fin 1)).view.read (Elt F) (finalA m c (2 : Fin 3)) = result m := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- Every window's one block is its whole array. -/
theorem read_o {F : FTy → Type} [FloatOps F] (f : main_v1.ty.Contents (Elt F)) : (win0_2.blk (0 : Fin 1)).view.read (Elt F) f = f :=
  Memref.read_access_unit_zero (Elt F) main_v1 (funext fun a => by fin_cases a <;> decide) (fun a => by fin_cases a <;> decide) f
theorem read_a {F : FTy → Type} [FloatOps F] (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_b {F : FTy → Type} [FloatOps F] (f : main_arg1.ty.Contents (Elt F)) : (win0_1.blk (0 : Fin 1)).view.read (Elt F) f = f :=
  Memref.read_access_unit_zero (Elt F) main_arg1 (funext fun a => by fin_cases a <;> decide) (fun a => by fin_cases a <;> decide) f

/-- The result array of every device, from the operands in memory. -/
theorem final_res {F : FTy → Type} [FloatOps F] (m : (ℓ : Loc nD τ sig) → Buf (Elt F) ℓ) (c : Dev nD) :
    finalA m c (2 : Fin 3) = res (fun c => m (c.tc.loc main_arg0)) (fun c => m (c.tc.loc main_arg1)) := by
  refine (read_o _).symm.trans ((final_o m c).trans ?_)
  unfold result
  exact congrArg₂ res (funext fun c => read_a _) (funext fun c => read_b _)

/-! ## The product of the whole operands -/

/-- A sum over the whole contracted axis, taken block by block. -/
theorem sum_blocks (f : Fin 32768 → EReal) : ∑ K, f K = ∑ d : Fin 32, ∑ k : Fin 1024, f (finProdFinEquiv (d, k)) := by
  rw [← Fintype.sum_prod_type' (f := fun (d : Fin 32) (k : Fin 1024) => f (finProdFinEquiv (d, k)))]
  exact (Equiv.sum_comp (finProdFinEquiv (m := 32) (n := 1024)) f).symm

/-- The product of the whole matrices, rounded, is the sum over the devices of the products of their blocks. -/
theorem whole_apply (h : FTy.bits .bf16 < FTy.bits .f32) (X : FVec Ideal ⟨2, ![2048, 32768]⟩ .bf16) (Y : FVec Ideal ⟨2, ![32768, 2048]⟩ .bf16) :
    truncf (F := Ideal) .bf16 (Host.dotGeneral (DotDims.plain 2048 32768 2048) none X Y) h
      = res (F := Ideal) (fun c => Layout.block ⟨2, ![2048, 1024]⟩ ⟨2, ![2048, 32768]⟩ 1 32 c X)
          (fun c => Layout.block ⟨2, ![1024, 2048]⟩ ⟨2, ![32768, 2048]⟩ 0 32 c Y) := by
  funext i
  refine Eq.trans ?_ (res_apply _ _ i).symm
  show Host.dotGeneral (DotDims.plain 2048 32768 2048) none X Y i = _
  rw [eq_ix2 i]
  refine (StackMember.dotGeneral_plain_apply none X Y _ _).trans ((sum_blocks _).trans ?_)
  refine Finset.sum_congr rfl fun d _ => Finset.sum_congr rfl fun k _ => ?_
  rw [Layout.block_apply, Layout.block_apply]
  refine congrArg₂ (· * ·) (congrArg X ?_) (congrArg Y ?_)
  · funext a; apply Fin.ext
    fin_cases a
    · rfl
    · show k.val + 1024 * d.val = d.val * 1024 + k.val
      omega
  · funext a; apply Fin.ext
    fin_cases a
    · show k.val + 1024 * d.val = d.val * 1024 + k.val
      omega
    · rfl

end Cert.Gemm

end
-- ==== Proof.lean ====
/-
# The claims

Every device of the kernel ends with its operands unchanged and its counters at zero, at the bit-exact and at the ideal
values; so does the reference; and at the ideal values every device's result is the reference's, when device `c` holds
columns `1024 c` to `1024 c + 1024` of the left operand and the same rows of the right one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The body table of the kernel and that of its reading at the ideal values are one table. -/
theorem defs_eq : Cert.Kernel.defs (F := Bits) = Cert.KernelIdeal.defs (F := Bits) := by chain_rfl

/-- The kernel, bit-exact: every execution ends, with the operands as they were and every counter at zero. -/
theorem frame_kernel : Cert.quiescent_Kernel := fun m ρ _ => by
  rw [defs_eq]
  exact (θ_run Cert.KernelIdeal.defs _ _).mono
    (fun _ h => ⟨fun c => ⟨(h.1 c (0 : Fin 3)).trans (Cert.Gemm.final_a m c), (h.1 c (1 : Fin 3)).trans (Cert.Gemm.final_b m c)⟩, h.2⟩)
    (Cert.Gemm.run_main (F := Bits) m ρ)

/-- The same at the ideal values. -/
theorem frame_ideal : Cert.quiescent_KernelIdeal := fun m ρ _ =>
  (θ_run Cert.KernelIdeal.defs _ _).mono
    (fun _ h => ⟨fun c => ⟨(h.1 c (0 : Fin 3)).trans (Cert.Gemm.final_a m c), (h.1 c (1 : Fin 3)).trans (Cert.Gemm.final_b m c)⟩, h.2⟩)
    (Cert.Gemm.run_main (F := Ideal) m ρ)

/-- The reference: it ends, with the operands as they were; it has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- At the ideal values every device's result is the reference's product of the whole operands. -/
theorem value : Cert.algebraic_KernelIdeal_ReferenceIdeal := by
  intro m ρ m' ρ' _ hm
  refine ⟨_, ?_, (θ_run Cert.ReferenceIdeal.defs _ _).mono (fun _ h => h 0) (Cert.ReferenceIdeal.Value.run m' ρ')⟩
  refine (θ_run Cert.KernelIdeal.defs _ _).mono
    (fun _ h c => ⟨(h.1 c (2 : Fin 3)).trans ?_, (h.1 c (0 : Fin 3)).trans (Cert.Gemm.final_a m c), (h.1 c (1 : Fin 3)).trans (Cert.Gemm.final_b m c)⟩)
    (Cert.Gemm.run_main (F := Ideal) m ρ)
  refine (Cert.Gemm.final_res m c).trans (Eq.trans ?_ (Cert.Gemm.whole_apply _ _ _).symm)
  exact congrArg₂ Cert.Gemm.res (funext fun d => (hm d).1) (funext fun d => (hm d).2)

/-- The kernel read at the ideal values is the kernel itself: nothing was rewritten. -/
theorem preserved : Cert.preserves_Kernel_KernelIdeal := trivial

/-- All the claims. -/
theorem claim : Cert.Claim :=
  ⟨Cert.Kernel.Gen.facts, Cert.KernelIdeal.Gen.facts, Cert.ReferenceIdeal.Gen.facts,
    frame_kernel, frame_ideal, frame_reference, preserved, value⟩

end Cert.Proof

end
